-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v69) = v0 c
          ∧ r.2.mem ((c.tc : Thread Cert.Reference4Ideal.nD Cert.Reference4Ideal.τ).loc Cert.Reference4Ideal.main_v83) = v1 c
          ∧ r.2.mem ((c.tc : Thread Cert.Reference4Ideal.nD Cert.Reference4Ideal.τ).loc Cert.Reference4Ideal.main_v86) = v2 c
          ∧ r.2.mem ((c.tc : Thread Cert.Reference4Ideal.nD Cert.Reference4Ideal.τ).loc Cert.Reference4Ideal.main_v87) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x16384x512 : Shape := ⟨3, ![2, 16384, 512]⟩
abbrev S2x16384x256 : Shape := ⟨3, ![2, 16384, 256]⟩
abbrev S2x256x256 : Shape := ⟨3, ![2, 256, 256]⟩
abbrev S8 : Shape := ⟨1, ![8]⟩
abbrev S1x512 : Shape := ⟨2, ![1, 512]⟩
abbrev S_ : Shape := ⟨0, ![]⟩
abbrev S2x16384x128 : Shape := ⟨3, ![2, 16384, 128]⟩
abbrev S2x256x128 : Shape := ⟨3, ![2, 256, 128]⟩

class Facts : Prop where
  bitsLt_bf16_f32 : FTy.bits .bf16 < FTy.bits .f32
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel
  slices_S2x16384x256_S2x16384x128_0_0_0 : S2x16384x256.Slices ![0, 0, 0] S2x16384x128
  bcast_S_S2x16384x128 : S_.BroadcastsInDim S2x16384x128 (![] : Fin 0 → Fin S2x16384x128.rank)
  reducesTo_S2x16384x128_S_d0_1_2 : S2x16384x128.ReducesTo [0, 1, 2] S_
  slices_S2x256x256_S2x256x128_0_0_0 : S2x256x256.Slices ![0, 0, 0] S2x256x128
  bcast_S_S2x256x128 : S_.BroadcastsInDim S2x256x128 (![] : Fin 0 → Fin S2x256x128.rank)
  reducesTo_S2x256x128_S_d0_1_2 : S2x256x128.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_arg3 : FVec F S8 .f32) (main_v11 : IVec S_ 1) (main_v17 : IVec S_ 1) : IVec S_ 1 :=
  let main_v18 : IVec S_ 1 := andi main_v11 main_v17
  let main_v19 : FVec F S8 .f32 := Host.absf main_arg3
  let main_cst_4 : FVec F S_ .f32 := constant S_ .f32 0x7F800000#32
  let main_v20 : FVec F S8 .f32 := broadcastInDim S8 ![] bcast_S_S8 main_cst_4
  let main_v21 : IVec S8 1 := cmpf .olt main_v19 main_v20
  let main_c_5 : IVec S_ 1 := constantI S_ 1 1#1
  let main_v22 : IVec S_ 1 := (fun x v => Host.reduce IntOp.andi x v reducesTo_S8_S_d0 h_S_) main_v21 main_c_5
  let main_v23 : IVec S_ 1 := andi main_v18 main_v22
  main_v23

def fn {F : FTy → Type} [FloatOps F] (main_arg0 : FVec F S2x16384x512 .bf16) (main_arg1 : FVec F S2x16384x256 .bf16) (main_arg2 : FVec F S2x256x256 .bf16) (main_arg3 : FVec F S8 .f32) (main_arg4 : FVec F S1x512 .f32) : IVec S_ 1 :=
  let main_v0 : FVec F S2x16384x512 .f32 := (extf .f32 · bitsLt_bf16_f32) main_arg0
  let main_v1 : FVec F S2x16384x512 .f32 := Host.absf main_v0
  let main_cst : FVec F S_ .f32 := constant S_ .f32 0x7F800000#32
  let main_v2 : FVec F S2x16384x512 .f32 := broadcastInDim S2x16384x512 ![] bcast_S_S2x16384x512 main_cst
  let main_v3 : IVec S2x16384x512 1 := cmpf .olt main_v1 main_v2
  let main_c : IVec S_ 1 := constantI S_ 1 1#1
  let main_v4 : IVec S_ 1 := (fun x v => Host.reduce IntOp.andi x v reducesTo_S2x16384x512_S_d0_1_2 h_S_) main_v3 main_c
  let main_v5 : FVec F S2x16384x128 .bf16 := (extractStridedSlice S2x16384x128 ![0, 0, 0] · slices_S2x16384x256_S2x16384x128_0_0_0) main_arg1
  let main_v6 : FVec F S2x16384x128 .f32 := (extf .f32 · bitsLt_bf16_f32) main_v5
  let main_v7 : FVec F S2x16384x128 .f32 := Host.absf main_v6
  let main_cst_0 : FVec F S_ .f32 := constant S_ .f32 0x7F800000#32
  let main_v8 : FVec F S2x16384x128 .f32 := broadcastInDim S2x16384x128 ![] bcast_S_S2x16384x128 main_cst_0
  let main_v9 : IVec S2x16384x128 1 := cmpf .olt main_v7 main_v8
  let main_c_1 : IVec S_ 1 := constantI S_ 1 1#1
  let main_v10 : IVec S_ 1 := (fun x v => Host.reduce IntOp.andi x v reducesTo_S2x16384x128_S_d0_1_2 h_S_) main_v9 main_c_1
  let main_v11 : IVec S_ 1 := andi main_v4 main_v10
  let main_v12 : FVec F S2x256x128 .bf16 := (extractStridedSlice S2x256x128 ![0, 0, 0] · slices_S2x256x256_S2x256x128_0_0_0) main_arg2
  let main_v13 : FVec F S2x256x128 .f32 := (extf .f32 · bitsLt_bf16_f32) main_v12
  let main_v14 : FVec F S2x256x128 .f32 := Host.absf main_v13
  let main_cst_2 : FVec F S_ .f32 := constant S_ .f32 0x7F800000#32
  let main_v15 : FVec F S2x256x128 .f32 := broadcastInDim S2x256x128 ![] bcast_S_S2x256x128 main_cst_2
  let main_v16 : IVec S2x256x128 1 := cmpf .olt main_v14 main_v15
  let main_c_3 : IVec S_ 1 := constantI S_ 1 1#1
  let main_v17 : IVec S_ 1 := (fun x v => Host.reduce IntOp.andi x v reducesTo_S2x256x128_S_d0_1_2 h_S_) main_v16 main_c_3
  fn_part1 (F := F) main_arg3 main_v11 main_v17
-- ==== Pre_finite2.lean ====
abbrev S2x16384x512 : Shape := ⟨3, ![2, 16384, 512]⟩
abbrev S2x16384x1024 : Shape := ⟨3, ![2, 16384, 1024]⟩
abbrev S1024x1024 : Shape := ⟨2, ![1024, 1024]⟩
abbrev S8x1x6144 : Shape := ⟨3, ![8, 1, 6144]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S2x1x3072 : Shape := ⟨3, ![2, 1, 3072]⟩
abbrev S1024x2816 : Shape := ⟨2, ![1024, 2816]⟩
abbrev S3x2816 : Shape := ⟨2, ![3, 2816]⟩
abbrev S1x2816 : Shape := ⟨2, ![1, 2816]⟩

class Facts : Prop where
  bitsLt_bf16_f32 : FTy.bits .bf16 < FTy.bits .f32
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel
  bcast_S_S2x16384x1024 : S_.BroadcastsInDim S2x16384x1024 (![] : Fin 0 → Fin S2x16384x1024.rank)
  reducesTo_S2x16384x1024_S_d0_1_2 : S2x16384x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  slices_S8x1x6144_S2x1x3072_0_0_2048 : S8x1x6144.Slices ![0, 0, 2048] S2x1x3072
  bcast_S_S2x1x3072 : S_.BroadcastsInDim S2x1x3072 (![] : Fin 0 → Fin S2x1x3072.rank)
  reducesTo_S2x1x3072_S_d0_1_2 : S2x1x3072.ReducesTo [0, 1, 2] S_
  bcast_S_S1x1024 : S_.BroadcastsInDim S1x1024 (![] : Fin 0 → Fin S1x1024.rank)
  reducesTo_S1x1024_S_d0_1 : S1x1024.ReducesTo [0, 1] S_
  slices_S1024x5632_S1024x2816_0_0 : S1024x5632.Slices ![0, 0] S1024x2816
  bcast_S_S1024x2816 : S_.BroadcastsInDim S1024x2816 (![] : Fin 0 → Fin S1024x2816.rank)
  reducesTo_S1024x2816_S_d0_1 : S1024x2816.ReducesTo [0, 1] S_
  slices_S3x5632_S3x2816_0_0 : S3x5632.Slices ![0, 0] S3x2816
  bcast_S_S3x2816 : S_.BroadcastsInDim S3x2816 (![] : Fin 0 → Fin S3x2816.rank)
  reducesTo_S3x2816_S_d0_1 : S3x2816.ReducesTo [0, 1] S_
  slices_S1x5632_S1x2816_0_0 : S1x5632.Slices ![0, 0] S1x2816
  bcast_S_S1x2816 : S_.BroadcastsInDim S1x2816 (![] : Fin 0 → Fin S1x2816.rank)
  reducesTo_S1x2816_S_d0_1 : S1x2816.ReducesTo [0, 1] S_

variable [Facts]

def fn_part2 {F : FTy → Type} [FloatOps F] (main_arg7 : FVec F S3x5632 .f32) (main_arg8 : FVec F S1x5632 .f32) (main_v32 : IVec S_ 1) (main_v35 : FVec F S1024x2816 .f32) : IVec S_ 1 :=
  let main_cst_10 : FVec F S_ .f32 := constant S_ .f32 0x7F800000#32
  let main_v36 : FVec F S1024x2816 .f32 := broadcastInDim S1024x2816 ![] bcast_S_S1024x2816 main_cst_10
  let main_v37 : IVec S1024x2816 1 := cmpf .olt main_v35 main_v36
  let main_c_11 : IVec S_ 1 := constantI S_ 1 1#1
  let main_v38 : IVec S_ 1 := (fun x v => Host.reduce IntOp.andi x v reducesTo_S1024x2816_S_d0_1 h_S_) main_v37 main_c_11
  let main_v39 : IVec S_ 1 := andi main_v32 main_v38
  let main_v40 : FVec F S3x2816 .f32 := (extractStridedSlice S3x2816 ![0, 0] · slices_S3x5632_S3x2816_0_0) main_arg7
  let main_v41 : FVec F S3x2816 .f32 := Host.absf main_v40
  let main_cst_12 : FVec F S_ .f32 := constant S_ .f32 0x7F800000#32
  let main_v42 : FVec F S3x2816 .f32 := broadcastInDim S3x2816 ![] bcast_S_S3x2816 main_cst_12
  let main_v43 : IVec S3x2816 1 := cmpf .olt main_v41 main_v42
  let main_c_13 : IVec S_ 1 := constantI S_ 1 1#1
  let main_v44 : IVec S_ 1 := (fun x v => Host.reduce IntOp.andi x v reducesTo_S3x2816_S_d0_1 h_S_) main_v43 main_c_13
  let main_v45 : IVec S_ 1 := andi main_v39 main_v44
  let main_v46 : FVec F S1x2816 .f32 := (extractStridedSlice S1x2816 ![0, 0] · slices_S1x5632_S1x2816_0_0) main_arg8
  let main_v47 : FVec F S1x2816 .f32 := Host.absf main_v46
  let main_cst_14 : FVec F S_ .f32 := constant S_ .f32 0x7F800000#32
  let main_v48 : FVec F S1x2816 .f32 := broadcastInDim S1x2816 ![] bcast_S_S1x2816 main_cst_14
  let main_v49 : IVec S1x2816 1 := cmpf .olt main_v47 main_v48
  let main_c_15 : IVec S_ 1 := constantI S_ 1 1#1
  let main_v50 : IVec S_ 1 := (fun x v => Host.reduce IntOp.andi x v reducesTo_S1x2816_S_d0_1 h_S_) main_v49 main_c_15
  let main_v51 : IVec S_ 1 := andi main_v45 main_v50
  main_v51

def fn_part1 {F : FTy → Type} [FloatOps F] (main_arg4 : FVec F S8x1x6144 .f32) (main_arg5 : FVec F S1x1024 .f32) (main_arg6 : FVec F S1024x5632 .bf16) (main_arg7 : FVec F S3x5632 .f32) (main_arg8 : FVec F S1x5632 .f32) (main_v15 : IVec S_ 1) (main_v17 : FVec F S1024x1024 .f32) : IVec S_ 1 :=
  let main_cst_4 : FVec F S_ .f32 := constant S_ .f32 0x7F800000#32
  let main_v18 : FVec F S1024x1024 .f32 := broadcastInDim S1024x1024 ![] bcast_S_S1024x1024 main_cst_4
  let main_v19 : IVec S1024x1024 1 := cmpf .olt main_v17 main_v18
  let main_c_5 : IVec S_ 1 := constantI S_ 1 1#1
  let main_v20 : IVec S_ 1 := (fun x v => Host.reduce IntOp.andi x v reducesTo_S1024x1024_S_d0_1 h_S_) main_v19 main_c_5
  let main_v21 : IVec S_ 1 := andi main_v15 main_v20
  let main_v22 : FVec F S2x1x3072 .f32 := (extractStridedSlice S2x1x3072 ![0, 0, 2048] · slices_S8x1x6144_S2x1x3072_0_0_2048) main_arg4
  let main_v23 : FVec F S2x1x3072 .f32 := Host.absf main_v22
  let main_cst_6 : FVec F S_ .f32 := constant S_ .f32 0x7F800000#32
  let main_v24 : FVec F S2x1x3072 .f32 := broadcastInDim S2x1x3072 ![] bcast_S_S2x1x3072 main_cst_6
  let main_v25 : IVec S2x1x3072 1 := cmpf .olt main_v23 main_v24
  let main_c_7 : IVec S_ 1 := constantI S_ 1 1#1
  let main_v26 : IVec S_ 1 := (fun x v => Host.reduce IntOp.andi x v reducesTo_S2x1x3072_S_d0_1_2 h_S_) main_v25 main_c_7
  let main_v27 : IVec S_ 1 := andi main_v21 main_v26
  let main_v28 : FVec F S1x1024 .f32 := Host.absf main_arg5
  let main_cst_8 : FVec F S_ .f32 := constant S_ .f32 0x7F800000#32
  let main_v29 : FVec F S1x1024 .f32 := broadcastInDim S1x1024 ![] bcast_S_S1x1024 main_cst_8
  let main_v30 : IVec S1x1024 1 := cmpf .olt main_v28 main_v29
  let main_c_9 : IVec S_ 1 := constantI S_ 1 1#1
  let main_v31 : IVec S_ 1 := (fun x v => Host.reduce IntOp.andi x v reducesTo_S1x1024_S_d0_1 h_S_) main_v30 main_c_9
  let main_v32 : IVec S_ 1 := andi main_v27 main_v31
  let main_v33 : FVec F S1024x2816 .bf16 := (extractStridedSlice S1024x2816 ![0, 0] · slices_S1024x5632_S1024x2816_0_0) main_arg6
  let main_v34 : FVec F S1024x2816 .f32 := (extf .f32 · bitsLt_bf16_f32) main_v33
  let main_v35 : FVec F S1024x2816 .f32 := Host.absf main_v34
  fn_part2 (F := F) main_arg7 main_arg8 main_v32 main_v35

def fn {F : FTy → Type} [FloatOps F] (main_arg0 : FVec F S2x16384x512 .bf16) (main_arg1 : FVec F S2x16384x512 .bf16) (main_arg2 : FVec F S2x16384x1024 .f32) (main_arg3 : FVec F S1024x1024 .bf16) (main_arg4 : FVec F S8x1x6144 .f32) (main_arg5 : FVec F S1x1024 .f32) (main_arg6 : FVec F S1024x5632 .bf16) (main_arg7 : FVec F S3x5632 .f32) (main_arg8 : FVec F S1x5632 .f32) (main_arg9 : FVec F S2816x1024 .bf16) (main_arg10 : FVec F S1x1024 .f32) : IVec S_ 1 :=
  let main_v0 : FVec F S2x16384x512 .f32 := (extf .f32 · bitsLt_bf16_f32) main_arg0
  let main_v1 : FVec F S2x16384x512 .f32 := Host.absf main_v0
  let main_cst : FVec F S_ .f32 := constant S_ .f32 0x7F800000#32
  let main_v2 : FVec F S2x16384x512 .f32 := broadcastInDim S2x16384x512 ![] bcast_S_S2x16384x512 main_cst
  let main_v3 : IVec S2x16384x512 1 := cmpf .olt main_v1 main_v2
  let main_c : IVec S_ 1 := constantI S_ 1 1#1
  let main_v4 : IVec S_ 1 := (fun x v => Host.reduce IntOp.andi x v reducesTo_S2x16384x512_S_d0_1_2 h_S_) main_v3 main_c
  let main_v5 : FVec F S2x16384x512 .f32 := (extf .f32 · bitsLt_bf16_f32) main_arg1
  let main_v6 : FVec F S2x16384x512 .f32 := Host.absf main_v5
  let main_cst_0 : FVec F S_ .f32 := constant S_ .f32 0x7F800000#32
  let main_v7 : FVec F S2x16384x512 .f32 := broadcastInDim S2x16384x512 ![] bcast_S_S2x16384x512 main_cst_0
  let main_v8 : IVec S2x16384x512 1 := cmpf .olt main_v6 main_v7
  let main_c_1 : IVec S_ 1 := constantI S_ 1 1#1
  let main_v9 : IVec S_ 1 := (fun x v => Host.reduce IntOp.andi x v reducesTo_S2x16384x512_S_d0_1_2 h_S_) main_v8 main_c_1
  let main_v10 : IVec S_ 1 := andi main_v4 main_v9
  let main_v11 : FVec F S2x16384x1024 .f32 := Host.absf main_arg2
  let main_cst_2 : FVec F S_ .f32 := constant S_ .f32 0x7F800000#32
  let main_v12 : FVec F S2x16384x1024 .f32 := broadcastInDim S2x16384x1024 ![] bcast_S_S2x16384x1024 main_cst_2
  let main_v13 : IVec S2x16384x1024 1 := cmpf .olt main_v11 main_v12
  let main_c_3 : IVec S_ 1 := constantI S_ 1 1#1
  let main_v14 : IVec S_ 1 := (fun x v => Host.reduce IntOp.andi x v reducesTo_S2x16384x1024_S_d0_1_2 h_S_) main_v13 main_c_3
  let main_v15 : IVec S_ 1 := andi main_v10 main_v14
  let main_v16 : FVec F S1024x1024 .f32 := (extf .f32 · bitsLt_bf16_f32) main_arg3
  let main_v17 : FVec F S1024x1024 .f32 := Host.absf main_v16
  fn_part1 (F := F) main_arg4 main_arg5 main_arg6 main_arg7 main_arg8 main_v15 main_v17
-- ==== Kernel.lean ====
abbrev S2x16384x512 : Shape := ⟨3, ![2, 16384, 512]⟩
abbrev S2x16384x256 : Shape := ⟨3, ![2, 16384, 256]⟩
abbrev S2x256x256 : Shape := ⟨3, ![2, 256, 256]⟩
abbrev S8 : Shape := ⟨1, ![8]⟩
abbrev S1x512 : Shape := ⟨2, ![1, 512]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S1x128x384 : Shape := ⟨3, ![1, 128, 384]⟩
abbrev S3x128x384 : Shape := ⟨3, ![3, 128, 384]⟩
abbrev S1x1024x512 : Shape := ⟨3, ![1, 1024, 512]⟩
abbrev S1x128x256 : Shape := ⟨3, ![1, 128, 256]⟩
abbrev S1x1024x256 : Shape := ⟨3, ![1, 1024, 256]⟩
abbrev S1x256x256 : Shape := ⟨3, ![1, 256, 256]⟩
abbrev S1280x128 : Shape := ⟨2, ![1280, 128]⟩
abbrev S1280x256 : Shape := ⟨2, ![1280, 256]⟩
abbrev S256x128 : Shape := ⟨2, ![256, 128]⟩
abbrev S256x256 : Shape := ⟨2, ![256, 256]⟩
abbrev S1x128x128 : Shape := ⟨3, ![1, 128, 128]⟩
abbrev S128x128 : Shape := ⟨2, ![128, 128]⟩
abbrev S1x1024x128 : Shape := ⟨3, ![1, 1024, 128]⟩
abbrev S1024x128 : Shape := ⟨2, ![1024, 128]⟩
abbrev S1x256x128 : Shape := ⟨3, ![1, 256, 128]⟩
abbrev S256x1 : Shape := ⟨2, ![256, 1]⟩
abbrev S384x128 : Shape := ⟨2, ![384, 128]⟩
abbrev S256x384 : Shape := ⟨2, ![256, 384]⟩
abbrev S2x128x128 : Shape := ⟨3, ![2, 128, 128]⟩
abbrev S1 : Shape := ⟨1, ![1]⟩
abbrev S256 : Shape := ⟨1, ![256]⟩
abbrev S384x256 : Shape := ⟨2, ![384, 256]⟩
abbrev S1x128 : Shape := ⟨2, ![1, 128]⟩

abbrev nBuf : Space → Nat
  | .hbm => 49
  | .vmem => 18
  | .smem => 1
  | _ => 0

abbrev bufTy : (tb : Table) → Fin (tcTables nBuf tb) → BufTy
  | .hbm, ⟨0, _⟩ => ⟨S2x16384x512, .bf16⟩
  | .hbm, ⟨1, _⟩ => ⟨S2x16384x256, .bf16⟩
  | .hbm, ⟨2, _⟩ => ⟨S2x256x256, .bf16⟩
  | .hbm, ⟨3, _⟩ => ⟨S8, .f32⟩
  | .hbm, ⟨4, _⟩ => ⟨S1x512, .f32⟩
  | .hbm, ⟨5, _⟩ => ⟨S128, .i32⟩
  | .hbm, ⟨6, _⟩ => ⟨S128x1, .i32⟩
  | .hbm, ⟨7, _⟩ => ⟨S384, .i32⟩
  | .hbm, ⟨8, _⟩ => ⟨S1x384, .i32⟩
  | .hbm, ⟨9, _⟩ => ⟨S_, .i32⟩
  | .hbm, ⟨10, _⟩ => ⟨S128x1, .i32⟩
  | .hbm, ⟨11, _⟩ => ⟨S128x1, .i32⟩
  | .hbm, ⟨12, _⟩ => ⟨S128x384, .i32⟩
  | .hbm, ⟨13, _⟩ => ⟨S128x384, .i32⟩
  | .hbm, ⟨14, _⟩ => ⟨S128x384, .i32⟩
  | .hbm, ⟨15, _⟩ => ⟨S128x384, .i32⟩
  | .hbm, ⟨16, _⟩ => ⟨S_, .i32⟩
  | .hbm, ⟨17, _⟩ => ⟨S128x384, .i32⟩
  | .hbm, ⟨18, _⟩ => ⟨S128x384, .i1⟩
  | .hbm, ⟨19, _⟩ => ⟨S_, .i32⟩
  | .hbm, ⟨20, _⟩ => ⟨S1x384, .i32⟩
  | .hbm, ⟨21, _⟩ => ⟨S1x384, .i1⟩
  | .hbm, ⟨22, _⟩ => ⟨S128x384, .i1⟩
  | .hbm, ⟨23, _⟩ => ⟨S128x384, .i1⟩
  | .hbm, ⟨24, _⟩ => ⟨S_, .i32⟩
  | .hbm, ⟨25, _⟩ => ⟨S1x384, .i32⟩
  | .hbm, ⟨26, _⟩ => ⟨S1x384, .i1⟩
  | .hbm, ⟨27, _⟩ => ⟨S128x384, .i1⟩
  | .hbm, ⟨28, _⟩ => ⟨S128x384, .i1⟩
  | .hbm, ⟨29, _⟩ => ⟨S_, .f32⟩
  | .hbm, ⟨30, _⟩ => ⟨S_, .f32⟩
  | .hbm, ⟨31, _⟩ => ⟨S128x384, .f32⟩
  | .hbm, ⟨32, _⟩ => ⟨S128x384, .f32⟩
  | .hbm, ⟨33, _⟩ => ⟨S128x384, .f32⟩
  | .hbm, ⟨34, _⟩ => ⟨S_, .f32⟩
  | .hbm, ⟨35, _⟩ => ⟨S_, .f32⟩
  | .hbm, ⟨36, _⟩ => ⟨S128x384, .f32⟩
  | .hbm, ⟨37, _⟩ => ⟨S128x384, .f32⟩
  | .hbm, ⟨38, _⟩ => ⟨S128x384, .f32⟩
  | .hbm, ⟨39, _⟩ => ⟨S_, .f32⟩
  | .hbm, ⟨40, _⟩ => ⟨S_, .f32⟩
  | .hbm, ⟨41, _⟩ => ⟨S128x384, .f32⟩
  | .hbm, ⟨42, _⟩ => ⟨S128x384, .f32⟩
  | .hbm, ⟨43, _⟩ => ⟨S128x384, .f32⟩
  | .hbm, ⟨44, _⟩ => ⟨S1x128x384, .f32⟩
  | .hbm, ⟨45, _⟩ => ⟨S1x128x384, .f32⟩
  | .hbm, ⟨46, _⟩ => ⟨S1x128x384, .f32⟩
  | .hbm, ⟨47, _⟩ => ⟨S3x128x384, .f32⟩
  | .hbm, ⟨48, _⟩ => ⟨S2x16384x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x128x256, .bf16⟩
  | .local _ .vmem, ⟨3, _⟩ => ⟨S1x128x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x256x256, .bf16⟩
  | .local _ .vmem, ⟨9, _⟩ => ⟨S1x256x256, .bf16⟩
  | .local _ .vmem, ⟨10, _⟩ => ⟨S3x128x384, .f32⟩
  | .local _ .vmem, ⟨11, _⟩ => ⟨S1x512, .f32⟩
  | .local _ .vmem, ⟨12, _⟩ => ⟨S1x1024x512, .bf16⟩
  | .local _ .vmem, ⟨13, _⟩ => ⟨S1x1024x512, .bf16⟩
  | .local _ .vmem, ⟨14, _⟩ => ⟨S1280x128, .bf16⟩
  | .local _ .vmem, ⟨15, _⟩ => ⟨S1280x256, .bf16⟩
  | .local _ .vmem, ⟨16, _⟩ => ⟨S256x128, .bf16⟩
  | .local _ .vmem, ⟨17, _⟩ => ⟨S256x256, .bf16⟩
  | .local _ .smem, ⟨0, _⟩ => ⟨S8, .f32⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_cst_4 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v21 : Ref sig .tc := ⟨.hbm, 38, rfl⟩
abbrev main_cst_6 : Ref sig .tc := ⟨.hbm, 39, rfl⟩
abbrev main_cst_7 : Ref sig .tc := ⟨.hbm, 40, rfl⟩
abbrev main_call2_v0 : Ref sig .tc := ⟨.hbm, 41, rfl⟩
abbrev main_call2_v1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 16], ![false, false]⟩

def k0_off1 (i : grid0.Coords) (c0_i32_39 : BitVec 32) (c0_i32_40 : BitVec 32) : Fin 3 → Nat :=
  let arg1 : BitVec 32 := BitVec.ofNat 32 (i 1).val
  let v52 : BitVec 1 := Scalar.cmpi .eq arg1 c0_i32_39
  let c1_i32 : BitVec 32 := 1#32
  let v53 : BitVec 32 := Scalar.select v52 c0_i32_40 c1_i32
  let v54 : Index := Scalar.indexCast v53
  let c0_41 : Index := 0#32
  let c0_42 : Index := 0#32
  ![v54.toNat, 0, 0]
def k0_off1_at (r : Fin 2) : BitVec 32 × BitVec 32 :=
  if r.val < 1 then
    (0#32, 0#32)
  else
    (15#32, 2#32)
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S3x128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S2x16384x512 : Shape := ⟨3, ![2, 16384, 512]⟩
abbrev S2x16384x256 : Shape := ⟨3, ![2, 16384, 256]⟩
abbrev S2x256x256 : Shape := ⟨3, ![2, 256, 256]⟩
abbrev S8 : Shape := ⟨1, ![8]⟩
abbrev S1x512 : Shape := ⟨2, ![1, 512]⟩
abbrev S_ : Shape := ⟨0, ![]⟩
abbrev S2x16384x128 : Shape := ⟨3, ![2, 16384, 128]⟩
abbrev S2x16384x2x64 : Shape := ⟨4, ![2, 16384, 2, 64]⟩
abbrev S2x256x128 : Shape := ⟨3, ![2, 256, 128]⟩
abbrev S2x256x2x64 : Shape := ⟨4, ![2, 256, 2, 64]⟩
abbrev S2x128x128x4x2x64 : Shape := ⟨6, ![2, 128, 128, 4, 2, 64]⟩
abbrev S2x16640x2x64 : Shape := ⟨4, ![2, 16640, 2, 64]⟩
abbrev S2x130x128x2x64 : Shape := ⟨5, ![2, 130, 128, 2, 64]⟩
abbrev S2x128x128x2x64 : Shape := ⟨5, ![2, 128, 128, 2, 64]⟩
abbrev S2x128x384x2x64 : Shape := ⟨5, ![2, 128, 384, 2, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S384 : Shape := ⟨1, ![384]⟩
abbrev S1x384 : Shape := ⟨2, ![1, 384]⟩
abbrev S128x384 : Shape := ⟨2, ![128, 384]⟩
abbrev S128x128x1 : Shape := ⟨3, ![128, 128, 1]⟩
abbrev S128x1x384 : Shape := ⟨3, ![128, 1, 384]⟩
abbrev S128x128x384 : Shape := ⟨3, ![128, 128, 384]⟩
abbrev S2x128x2x384x128x4 : Shape := ⟨6, ![2, 128, 2, 384, 128, 4]⟩
abbrev S2x128x2x4x128x384 : Shape := ⟨6, ![2, 128, 2, 4, 128, 384]⟩
abbrev S1x128x1x1x128x384 : Shape := ⟨6, ![1, 128, 1, 1, 128, 384]⟩
abbrev S2x2x256x128x128x4 : Shape := ⟨6, ![2, 2, 256, 128, 128, 4]⟩
abbrev S2x128x2x4x128x256 : Shape := ⟨6, ![2, 128, 2, 4, 128, 256]⟩
abbrev S2x4 : Shape := ⟨2, ![2, 4]⟩
abbrev S1x1x2x4x1x1 : Shape := ⟨6, ![1, 1, 2, 4, 1, 1]⟩
abbrev S2x128x2x4x128x1 : Shape := ⟨6, ![2, 128, 2, 4, 128, 1]⟩
abbrev S2x128x2x4x128x641 : Shape := ⟨6, ![2, 128, 2, 4, 128, 641]⟩
abbrev S2x128x2x4x128 : Shape := ⟨5, ![2, 128, 2, 4, 128]⟩
abbrev S2x128x2x64x4x128 : Shape := ⟨6, ![2, 128, 2, 64, 4, 128]⟩
abbrev S2x2x64x128x4x128 : Shape := ⟨6, ![2, 2, 64, 128, 4, 128]⟩
abbrev S2x16384 : Shape := ⟨2, ![2, 16384]⟩
abbrev S2x16384x1 : Shape := ⟨3, ![2, 16384, 1]⟩
abbrev S1x1x512 : Shape := ⟨3, ![1, 1, 512]⟩

abbrev nBuf : Space → Nat
  | .hbm => 147
  | .vmem => 0
  | .smem => 0
  | _ => 0

abbrev hbmTy0_0 (i : Nat) : BufTy := match i % 128 with
  | 0 => ⟨S2x16384x512, .bf16⟩
  | 1 => ⟨S2x16384x256, .bf16⟩
  | 2 => ⟨S2x256x256, .bf16⟩
  | 3 => ⟨S8, .f32⟩
  | 4 => ⟨S1x512, .f32⟩
  | 5 => ⟨S2x16384x512, .f32⟩
  | 6 => ⟨S_, .f32⟩
  | 7 => ⟨S_, .f32⟩
  | 8 => ⟨S2x16384x512, .f32⟩
  | 9 => ⟨S2x16384x512, .f32⟩
  | 10 => ⟨S_, .f32⟩
  | 11 => ⟨S2x16384x512, .f32⟩
  | 12 => ⟨S2x16384x512, .f32⟩
  | 13 => ⟨S_, .f32⟩
  | 14 => ⟨S_, .f32⟩
  | 15 => ⟨S8, .f32⟩
  | 16 => ⟨S8, .f32⟩
  | 17 => ⟨S2x16384x256, .f32⟩
  | 18 => ⟨S2x256x256, .f32⟩
  | 19 => ⟨S2x16384x128, .f32⟩
  | 20 => ⟨S2x16384x2x64, .f32⟩
  | 21 => ⟨S2x16384x128, .f32⟩
  | 22 => ⟨S2x16384x2x64, .f32⟩
  | 23 => ⟨S2x256x128, .f32⟩
  | 24 => ⟨S2x256x2x64, .f32⟩
  | 25 => ⟨S2x256x128, .f32⟩
  | 26 => ⟨S2x256x2x64, .f32⟩
  | 27 => ⟨S2x128x128x4x2x64, .f32⟩
  | 28 => ⟨S_, .i32⟩
  | 29 => ⟨S_, .f32⟩
  | 30 => ⟨S2x16640x2x64, .f32⟩
  | 31 => ⟨S2x130x128x2x64, .f32⟩
  | 32 => ⟨S2x128x128x2x64, .f32⟩
  | 33 => ⟨S2x128x128x2x64, .f32⟩
  | 34 => ⟨S2x128x128x2x64, .f32⟩
  | 35 => ⟨S2x128x384x2x64, .f32⟩
  | 36 => ⟨S_, .i32⟩
  | 37 => ⟨S_, .f32⟩
  | 38 => ⟨S2x16640x2x64, .f32⟩
  | 39 => ⟨S2x130x128x2x64, .f32⟩
  | 40 => ⟨S2x128x128x2x64, .f32⟩
  | 41 => ⟨S2x128x128x2x64, .f32⟩
  | 42 => ⟨S2x128x128x2x64, .f32⟩
  | 43 => ⟨S2x128x384x2x64, .f32⟩
  | 44 => ⟨S128, .i32⟩
  | 45 => ⟨S128x1, .i32⟩
  | 46 => ⟨S_, .i32⟩
  | 47 => ⟨S128x1, .i32⟩
  | 48 => ⟨S128x1, .i32⟩
  | 49 => ⟨S128, .i32⟩
  | 50 => ⟨S1x128, .i32⟩
  | 51 => ⟨S128x128, .i32⟩
  | 52 => ⟨S128x128, .i32⟩
  | 53 => ⟨S128x128, .i32⟩
  | 54 => ⟨S128, .i32⟩
  | 55 => ⟨S128x1, .i32⟩
  | 56 => ⟨S_, .i32⟩
  | 57 => ⟨S128x1, .i32⟩
  | 58 => ⟨S128x1, .i32⟩
  | 59 => ⟨S_, .i32⟩
  | 60 => ⟨S128x1, .i32⟩
  | 61 => ⟨S128x1, .i32⟩
  | 62 => ⟨S384, .i32⟩
  | 63 => ⟨S1x384, .i32⟩
  | 64 => ⟨S128x384, .i32⟩
  | 65 => ⟨S128x384, .i32⟩
  | 66 => ⟨S128x384, .i32⟩
  | 67 => ⟨S128x128x1, .i32⟩
  | 68 => ⟨S128x1x384, .i32⟩
  | 69 => ⟨S128x128x384, .i32⟩
  | 70 => ⟨S128x128x384, .i32⟩
  | 71 => ⟨S128x128x384, .i32⟩
  | 72 => ⟨S128x128x384, .i32⟩
  | 73 => ⟨S_, .i32⟩
  | 74 => ⟨S128x128x384, .i32⟩
  | 75 => ⟨S128x128x384, .i1⟩
  | 76 => ⟨S128x1x384, .i32⟩
  | 77 => ⟨S_, .i32⟩
  | 78 => ⟨S128x1x384, .i32⟩
  | 79 => ⟨S128x1x384, .i1⟩
  | 80 => ⟨S128x128x384, .i1⟩
  | 81 => ⟨S128x128x384, .i1⟩
  | 82 => ⟨S128x1x384, .i32⟩
  | 83 => ⟨S_, .i32⟩
  | 84 => ⟨S128x1x384, .i32⟩
  | 85 => ⟨S128x1x384, .i1⟩
  | 86 => ⟨S128x128x384, .i1⟩
  | 87 => ⟨S128x128x384, .i1⟩
  | 88 => ⟨S2x128x2x384x128x4, .f32⟩
  | 89 => ⟨S2x128x2x4x128x384, .f32⟩
  | 90 => ⟨S_, .f32⟩
  | 91 => ⟨S2x128x2x4x128x384, .f32⟩
  | 92 => ⟨S2x128x2x4x128x384, .f32⟩
  | 93 => ⟨S1x128x1x1x128x384, .i1⟩
  | 94 => ⟨S_, .f32⟩
  | 95 => ⟨S_, .f32⟩
  | 96 => ⟨S2x128x2x4x128x384, .i1⟩
  | 97 => ⟨S2x128x2x4x128x384, .f32⟩
  | 98 => ⟨S2x128x2x4x128x384, .f32⟩
  | 99 => ⟨S2x2x256x128x128x4, .f32⟩
  | 100 => ⟨S2x128x2x4x128x256, .f32⟩
  | 101 => ⟨S_, .f32⟩
  | 102 => ⟨S2x128x2x4x128x256, .f32⟩
  | 103 => ⟨S2x128x2x4x128x256, .f32⟩
  | 104 => ⟨S2x4, .f32⟩
  | 105 => ⟨S1x1x2x4x1x1, .f32⟩
  | 106 => ⟨S2x128x2x4x128x1, .f32⟩
  | 107 => ⟨S2x128x2x4x128x641, .f32⟩
  | 108 => ⟨S_, .f32⟩
  | 109 => ⟨S2x128x2x4x128, .f32⟩
  | 110 => ⟨S_, .f32⟩
  | 111 => ⟨S2x128x2x4x128, .f32⟩
  | 112 => ⟨S2x128x2x4x128, .f32⟩
  | 113 => ⟨S2x128x2x4x128x1, .f32⟩
  | 114 => ⟨S2x128x2x4x128x641, .f32⟩
  | 115 => ⟨S2x128x2x4x128x641, .f32⟩
  | 116 => ⟨S2x128x2x4x128x641, .f32⟩
  | 117 => ⟨S_, .f32⟩
  | 118 => ⟨S2x128x2x4x128, .f32⟩
  | 119 => ⟨S2x128x2x4x128x1, .f32⟩
  | 120 => ⟨S2x128x2x4x128x641, .f32⟩
  | 121 => ⟨S2x128x2x4x128x641, .f32⟩
  | 122 => ⟨S2x128x2x4x128x384, .f32⟩
  | 123 => ⟨S2x128x2x4x128x256, .f32⟩
  | 124 => ⟨S2x128x2x64x4x128, .f32⟩
  | 125 => ⟨S2x128x128x4x2x64, .f32⟩
  | 126 => ⟨S2x2x64x128x4x128, .f32⟩
  | 127 => ⟨S2x128x128x4x2x64, .f32⟩
  | _ => ⟨S2x16384x512, .bf16⟩

abbrev hbmTy0_1 (i : Nat) : BufTy := match i % 128 with
  | 0 => ⟨S2x128x128x4x2x64, .f32⟩
  | 1 => ⟨S2x16384x512, .f32⟩
  | 2 => ⟨S2x16384x512, .f32⟩
  | 3 => ⟨S_, .f32⟩
  | 4 => ⟨S2x16384, .f32⟩
  | 5 => ⟨S2x16384x1, .f32⟩
  | 6 => ⟨S_, .f32⟩
  | 7 => ⟨S2x16384x1, .f32⟩
  | 8 => ⟨S2x16384x1, .f32⟩
  | 9 => ⟨S_, .f32⟩
  | 10 => ⟨S2x16384x1, .f32⟩
  | 11 => ⟨S2x16384x1, .f32⟩
  | 12 => ⟨S2x16384x1, .f32⟩
  | 13 => ⟨S2x16384x512, .f32⟩
  | 14 => ⟨S2x16384x512, .f32⟩
  | 15 => ⟨S1x1x512, .f32⟩
  | 16 => ⟨S2x16384x512, .f32⟩
  | 17 => ⟨S2x16384x512, .f32⟩
  | 18 => ⟨S2x16384x512, .bf16⟩
  | _ => ⟨S2x16384x512, .bf16⟩

abbrev hbmTy (i : Nat) : BufTy := match i / 128 with
  | 0 => hbmTy0_0 i
  | 1 => hbmTy0_1 i
  | _ => ⟨S2x16384x512, .bf16⟩

abbrev bufTy : (tb : Table) → Fin (tcTables nBuf tb) → BufTy
  | .hbm, ⟨i, _⟩ => hbmTy i
  | _, _ => ⟨S2x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_call1_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_4 : Ref sig .tc := ⟨.hbm, 56, rfl⟩
abbrev main_v43 : Ref sig .tc := ⟨.hbm, 57, rfl⟩
abbrev main_v44 : Ref sig .tc := ⟨.hbm, 58, rfl⟩
abbrev main_c_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_6 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_7 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_c_8 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_10 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_11 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_12 : Ref sig .tc := ⟨.hbm, 108, rfl⟩
abbrev main_v84 : Ref sig .tc := ⟨.hbm, 109, rfl⟩
abbrev main_cst_13 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_14 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_15 : Ref sig .tc := ⟨.hbm, 131, rfl⟩
abbrev main_v104 : Ref sig .tc := ⟨.hbm, 132, rfl⟩
abbrev main_v105 : Ref sig .tc := ⟨.hbm, 133, rfl⟩
abbrev main_cst_16 : Ref sig .tc := ⟨.hbm, 134, rfl⟩
abbrev main_v106 : Ref sig .tc := ⟨.hbm, 135, rfl⟩
abbrev main_v107 : Ref sig .tc := ⟨.hbm, 136, rfl⟩
abbrev main_cst_17 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩

abbrev nD : Nat := 1
abbrev τ : Topo := Topo.v7x

variable {F : FTy → Type} [FloatOps F]
-- ==== Kernel2.lean ====
abbrev S2x16384x512 : Shape := ⟨3, ![2, 16384, 512]⟩
abbrev S2x16384x1024 : Shape := ⟨3, ![2, 16384, 1024]⟩
abbrev S1024x1024 : Shape := ⟨2, ![1024, 1024]⟩
abbrev S8x1x6144 : Shape := ⟨3, ![8, 1, 6144]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x512x512 : Shape := ⟨3, ![1, 512, 512]⟩
abbrev S1x16x512 : Shape := ⟨3, ![1, 16, 512]⟩
abbrev S1x512x1024 : Shape := ⟨3, ![1, 512, 1024]⟩
abbrev S1x16x1024 : Shape := ⟨3, ![1, 16, 1024]⟩
abbrev S1x1x1024 : Shape := ⟨3, ![1, 1, 1024]⟩
abbrev S544x1024 : Shape := ⟨2, ![544, 1024]⟩
abbrev S512x1024 : Shape := ⟨2, ![512, 1024]⟩
abbrev S2x2x544x128 : Shape := ⟨4, ![2, 2, 544, 128]⟩
abbrev S2x512x256 : Shape := ⟨3, ![2, 512, 256]⟩
abbrev S8x512x128 : Shape := ⟨3, ![8, 512, 128]⟩
abbrev S16x512 : Shape := ⟨2, ![16, 512]⟩
abbrev S512x512 : Shape := ⟨2, ![512, 512]⟩
abbrev S512 : Shape := ⟨1, ![512]⟩
abbrev S512x1 : Shape := ⟨2, ![512, 1]⟩
abbrev S16x1024 : Shape := ⟨2, ![16, 1024]⟩
abbrev S16 : Shape := ⟨1, ![16]⟩
abbrev S16x1 : Shape := ⟨2, ![16, 1]⟩
abbrev S1024x256 : Shape := ⟨2, ![1024, 256]⟩
abbrev S544x256 : Shape := ⟨2, ![544, 256]⟩
abbrev S544x128 : Shape := ⟨2, ![544, 128]⟩
abbrev S1x1x544x128 : Shape := ⟨4, ![1, 1, 544, 128]⟩
abbrev S3x256 : Shape := ⟨2, ![3, 256]⟩
abbrev S1x256 : Shape := ⟨2, ![1, 256]⟩
abbrev S1x1x256x128 : Shape := ⟨4, ![1, 1, 256, 128]⟩
abbrev S256x128 : Shape := ⟨2, ![256, 128]⟩
abbrev S1x128 : Shape := ⟨2, ![1, 128]⟩
abbrev S512x128 : Shape := ⟨2, ![512, 128]⟩
abbrev S512x256 : Shape := ⟨2, ![512, 256]⟩
abbrev S1x512x256 : Shape := ⟨3, ![1, 512, 256]⟩
abbrev S256x1024 : Shape := ⟨2, ![256, 1024]⟩
abbrev S1x256x128 : Shape := ⟨3, ![1, 256, 128]⟩
abbrev S1x512x128 : Shape := ⟨3, ![1, 512, 128]⟩

abbrev nBuf : Space → Nat
  | .hbm => 12
  | .vmem => 43
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S2x16384x1024, .f32⟩
  | .hbm, ⟨3, _⟩ => ⟨S1024x1024, .bf16⟩
  | .hbm, ⟨4, _⟩ => ⟨S8x1x6144, .f32⟩
  | .hbm, ⟨5, _⟩ => ⟨S1x1024, .f32⟩
  | .hbm, ⟨6, _⟩ => ⟨S1024x5632, .bf16⟩
  | .hbm, ⟨7, _⟩ => ⟨S3x5632, .f32⟩
  | .hbm, ⟨8, _⟩ => ⟨S1x5632, .f32⟩
  | .hbm, ⟨9, _⟩ => ⟨S2816x1024, .bf16⟩
  | .hbm, ⟨10, _⟩ => ⟨S1x1024, .f32⟩
  | .hbm, ⟨11, _⟩ => ⟨S2x16384x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x16x512, .bf16⟩
  | .local _ .vmem, ⟨3, _⟩ => ⟨S1x16x512, .bf16⟩
  | .local _ .vmem, ⟨4, _⟩ => ⟨S1x16x512, .bf16⟩
  | .local _ .vmem, ⟨5, _⟩ => ⟨S1x16x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x512x1024, .f32⟩
  | .local _ .vmem, ⟨13, _⟩ => ⟨S1x512x1024, .f32⟩
  | .local _ .vmem, ⟨14, _⟩ => ⟨S1x16x1024, .f32⟩
  | .local _ .vmem, ⟨15, _⟩ => ⟨S1x16x1024, .f32⟩
  | .local _ .vmem, ⟨16, _⟩ => ⟨S1x16x1024, .f32⟩
  | .local _ .vmem, ⟨17, _⟩ => ⟨S1x16x1024, .f32⟩
  | .local _ .vmem, ⟨18, _⟩ => ⟨S1024x1024, .bf16⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1024, .f32⟩
  | .local _ .vmem, ⟨26, _⟩ => ⟨S1024x5632, .bf16⟩
  | .local _ .vmem, ⟨27, _⟩ => ⟨S3x5632, .f32⟩
  | .local _ .vmem, ⟨28, _⟩ => ⟨S1x5632, .f32⟩
  | .local _ .vmem, ⟨29, _⟩ => ⟨S2816x1024, .bf16⟩
  | .local _ .vmem, ⟨30, _⟩ => ⟨S1x1x1024, .f32⟩
  | .local _ .vmem, ⟨31, _⟩ => ⟨S1x1x1024, .f32⟩
  | .local _ .vmem, ⟨32, _⟩ => ⟨S1x1024, .f32⟩
  | .local _ .vmem, ⟨33, _⟩ => ⟨S1x512x1024, .f32⟩
  | .local _ .vmem, ⟨34, _⟩ => ⟨S1x512x1024, .f32⟩
  | .local _ .vmem, ⟨35, _⟩ => ⟨S544x1024, .bf16⟩
  | .local _ .vmem, ⟨36, _⟩ => ⟨S512x1024, .f32⟩
  | .local _ .vmem, ⟨37, _⟩ => ⟨S544x1024, .bf16⟩
  | .local _ .vmem, ⟨38, _⟩ => ⟨S2x2x544x128, .f32⟩
  | .local _ .vmem, ⟨39, _⟩ => ⟨S2x2x544x128, .f32⟩
  | .local _ .vmem, ⟨40, _⟩ => ⟨S2x512x256, .bf16⟩
  | .local _ .vmem, ⟨41, _⟩ => ⟨S512x1024, .f32⟩
  | .local _ .vmem, ⟨42, _⟩ => ⟨S8x512x128, .f32⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg20_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_scratch4 : Ref sig .tc := ⟨.vmem, 39, rfl⟩
abbrev cc0_scratch5 : Ref sig .tc := ⟨.vmem, 40, rfl⟩
abbrev cc0_scratch6 : Ref sig .tc := ⟨.vmem, 41, rfl⟩
abbrev cc0_scratch7 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem18_1 : DmaSem sig := 31
abbrev cc0_sem19_0 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x5632 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S3x5632 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x5632 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference2Ideal.lean ====
abbrev S2x16384x512 : Shape := ⟨3, ![2, 16384, 512]⟩
abbrev S2x16384x1024 : Shape := ⟨3, ![2, 16384, 1024]⟩
abbrev S1024x1024 : Shape := ⟨2, ![1024, 1024]⟩
abbrev S8x1x6144 : Shape := ⟨3, ![8, 1, 6144]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S2x1x6144 : Shape := ⟨3, ![2, 1, 6144]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S5632 : Shape := ⟨1, ![5632]⟩
abbrev S2x16386x5632 : Shape := ⟨3, ![2, 16386, 5632]⟩
abbrev S1x1x5632 : Shape := ⟨3, ![1, 1, 5632]⟩
abbrev S2x16384x2816 : Shape := ⟨3, ![2, 16384, 2816]⟩

abbrev nBuf : Space → Nat
  | .hbm => 110
  | .vmem => 0
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S2x16384x1024, .f32⟩
  | .hbm, ⟨3, _⟩ => ⟨S1024x1024, .bf16⟩
  | .hbm, ⟨4, _⟩ => ⟨S8x1x6144, .f32⟩
  | .hbm, ⟨5, _⟩ => ⟨S1x1024, .f32⟩
  | .hbm, ⟨6, _⟩ => ⟨S1024x5632, .bf16⟩
  | .hbm, ⟨7, _⟩ => ⟨S3x5632, .f32⟩
  | .hbm, ⟨8, _⟩ => ⟨S1x5632, .f32⟩
  | .hbm, ⟨9, _⟩ => ⟨S2816x1024, .bf16⟩
  | .hbm, ⟨10, _⟩ => ⟨S1x1024, .f32⟩
  | .hbm, ⟨11, _⟩ => ⟨S2x1x6144, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x16384x1024, .bf16⟩
  | .hbm, ⟨19, _⟩ => ⟨S2x16384x1024, .f32⟩
  | .hbm, ⟨20, _⟩ => ⟨S1024x1024, .f32⟩
  | .hbm, ⟨21, _⟩ => ⟨S2x16384x1024, .f32⟩
  | .hbm, ⟨22, _⟩ => ⟨S2x16384x1024, .f32⟩
  | .hbm, ⟨23, _⟩ => ⟨S2x16384x1024, .f32⟩
  | .hbm, ⟨24, _⟩ => ⟨S2x16384x1024, .f32⟩
  | .hbm, ⟨25, _⟩ => ⟨S2x16384x1024, .f32⟩
  | .hbm, ⟨26, _⟩ => ⟨S_, .f32⟩
  | .hbm, ⟨27, _⟩ => ⟨S2x16384, .f32⟩
  | .hbm, ⟨28, _⟩ => ⟨S2x16384x1, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S_, .f32⟩
  | .hbm, ⟨33, _⟩ => ⟨S2x16384x1, .f32⟩
  | .hbm, ⟨34, _⟩ => ⟨S2x16384x1, .f32⟩
  | .hbm, ⟨35, _⟩ => ⟨S2x16384x1, .f32⟩
  | .hbm, ⟨36, _⟩ => ⟨S2x16384x1024, .f32⟩
  | .hbm, ⟨37, _⟩ => ⟨S2x16384x1024, .f32⟩
  | .hbm, ⟨38, _⟩ => ⟨S1x1x1024, .f32⟩
  | .hbm, ⟨39, _⟩ => ⟨S2x16384x1024, .f32⟩
  | .hbm, ⟨40, _⟩ => ⟨S2x16384x1024, .f32⟩
  | .hbm, ⟨41, _⟩ => ⟨S_, .f32⟩
  | .hbm, ⟨42, _⟩ => ⟨S2x1x1024, .f32⟩
  | .hbm, ⟨43, _⟩ => ⟨S2x1x1024, .f32⟩
  | .hbm, ⟨44, _⟩ => ⟨S2x16384x1024, .f32⟩
  | .hbm, ⟨45, _⟩ => ⟨S2x16384x1024, .f32⟩
  | .hbm, ⟨46, _⟩ => ⟨S2x16384x1024, .f32⟩
  | .hbm, ⟨47, _⟩ => ⟨S2x16384x1024, .f32⟩
  | .hbm, ⟨48, _⟩ => ⟨S1024x5632, .f32⟩
  | .hbm, ⟨49, _⟩ => ⟨S2x16384x5632, .f32⟩
  | .hbm, ⟨50, _⟩ => ⟨S5632, .f32⟩
  | .hbm, ⟨51, _⟩ => ⟨S_, .i32⟩
  | .hbm, ⟨52, _⟩ => ⟨S_, .f32⟩
  | .hbm, ⟨53, _⟩ => ⟨S2x16386x5632, .f32⟩
  | .hbm, ⟨54, _⟩ => ⟨S2x16384x5632, .f32⟩
  | .hbm, ⟨55, _⟩ => ⟨S1x5632, .f32⟩
  | .hbm, ⟨56, _⟩ => ⟨S5632, .f32⟩
  | .hbm, ⟨57, _⟩ => ⟨S1x1x5632, .f32⟩
  | .hbm, ⟨58, _⟩ => ⟨S2x16384x5632, .f32⟩
  | .hbm, ⟨59, _⟩ => ⟨S2x16384x5632, .f32⟩
  | .hbm, ⟨60, _⟩ => ⟨S1x1x5632, .f32⟩
  | .hbm, ⟨61, _⟩ => ⟨S2x16384x5632, .f32⟩
  | .hbm, ⟨62, _⟩ => ⟨S2x16384x5632, .f32⟩
  | .hbm, ⟨63, _⟩ => ⟨S2x16384x5632, .f32⟩
  | .hbm, ⟨64, _⟩ => ⟨S1x5632, .f32⟩
  | .hbm, ⟨65, _⟩ => ⟨S5632, .f32⟩
  | .hbm, ⟨66, _⟩ => ⟨S1x1x5632, .f32⟩
  | .hbm, ⟨67, _⟩ => ⟨S2x16384x5632, .f32⟩
  | .hbm, ⟨68, _⟩ => ⟨S2x16384x5632, .f32⟩
  | .hbm, ⟨69, _⟩ => ⟨S2x16384x5632, .f32⟩
  | .hbm, ⟨70, _⟩ => ⟨S2x16384x5632, .f32⟩
  | .hbm, ⟨71, _⟩ => ⟨S1x5632, .f32⟩
  | .hbm, ⟨72, _⟩ => ⟨S5632, .f32⟩
  | .hbm, ⟨73, _⟩ => ⟨S1x1x5632, .f32⟩
  | .hbm, ⟨74, _⟩ => ⟨S2x16384x5632, .f32⟩
  | .hbm, ⟨75, _⟩ => ⟨S2x16384x5632, .f32⟩
  | .hbm, ⟨76, _⟩ => ⟨S2x16384x5632, .f32⟩
  | .hbm, ⟨77, _⟩ => ⟨S2x16384x2816, .f32⟩
  | .hbm, ⟨78, _⟩ => ⟨S2x16384x2816, .f32⟩
  | .hbm, ⟨79, _⟩ => ⟨S2x16384x2816, .f32⟩
  | .hbm, ⟨80, _⟩ => ⟨S2x16384x2816, .f32⟩
  | .hbm, ⟨81, _⟩ => ⟨S_, .f32⟩
  | .hbm, ⟨82, _⟩ => ⟨S2x16384x2816, .f32⟩
  | .hbm, ⟨83, _⟩ => ⟨S2x16384x2816, .f32⟩
  | .hbm, ⟨84, _⟩ => ⟨S_, .f32⟩
  | .hbm, ⟨85, _⟩ => ⟨S2x16384x2816, .f32⟩
  | .hbm, ⟨86, _⟩ => ⟨S2x16384x2816, .f32⟩
  | .hbm, ⟨87, _⟩ => ⟨S2x16384x2816, .f32⟩
  | .hbm, ⟨88, _⟩ => ⟨S2x16384x2816, .f32⟩
  | .hbm, ⟨89, _⟩ => ⟨S2816x1024, .f32⟩
  | .hbm, ⟨90, _⟩ => ⟨S2x16384x1024, .f32⟩
  | .hbm, ⟨91, _⟩ => ⟨S2x16384x1024, .f32⟩
  | .hbm, ⟨92, _⟩ => ⟨S2x16384x1024, .f32⟩
  | .hbm, ⟨93, _⟩ => ⟨S2x16384x1024, .f32⟩
  | .hbm, ⟨94, _⟩ => ⟨S2x16384x1024, .f32⟩
  | .hbm, ⟨95, _⟩ => ⟨S_, .f32⟩
  | .hbm, ⟨96, _⟩ => ⟨S2x16384, .f32⟩
  | .hbm, ⟨97, _⟩ => ⟨S2x16384x1, .f32⟩
  | .hbm, ⟨98, _⟩ => ⟨S_, .f32⟩
  | .hbm, ⟨99, _⟩ => ⟨S2x16384x1, .f32⟩
  | .hbm, ⟨100, _⟩ => ⟨S2x16384x1, .f32⟩
  | .hbm, ⟨101, _⟩ => ⟨S_, .f32⟩
  | .hbm, ⟨102, _⟩ => ⟨S2x16384x1, .f32⟩
  | .hbm, ⟨103, _⟩ => ⟨S2x16384x1, .f32⟩
  | .hbm, ⟨104, _⟩ => ⟨S2x16384x1, .f32⟩
  | .hbm, ⟨105, _⟩ => ⟨S2x16384x1024, .f32⟩
  | .hbm, ⟨106, _⟩ => ⟨S2x16384x1024, .f32⟩
  | .hbm, ⟨107, _⟩ => ⟨S1x1x1024, .f32⟩
  | .hbm, ⟨108, _⟩ => ⟨S2x16384x1024, .f32⟩
  | .hbm, ⟨109, _⟩ => ⟨S2x16384x1024, .f32⟩
  | _, _ => ⟨S2x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c : Ref sig .tc := ⟨.hbm, 51, rfl⟩
abbrev main_call0_v0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_3 : Ref sig .tc := ⟨.hbm, 95, rfl⟩
abbrev main_v70 : Ref sig .tc := ⟨.hbm, 96, rfl⟩
abbrev main_v71 : Ref sig .tc := ⟨.hbm, 97, rfl⟩
abbrev main_cst_4 : Ref sig .tc := ⟨.hbm, 98, rfl⟩
abbrev main_v72 : Ref sig .tc := ⟨.hbm, 99, rfl⟩
abbrev main_v73 : Ref sig .tc := ⟨.hbm, 100, rfl⟩
abbrev main_cst_5 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]
-- ==== Kernel3.lean ====
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1024x8 : Shape := ⟨2, ![1024, 8]⟩
abbrev S1x6144 : Shape := ⟨2, ![1, 6144]⟩
abbrev S8x6144 : Shape := ⟨2, ![8, 6144]⟩
abbrev S1024x768 : Shape := ⟨2, ![1024, 768]⟩
abbrev S1x768 : Shape := ⟨2, ![1, 768]⟩
abbrev S8x768 : Shape := ⟨2, ![8, 768]⟩
abbrev S1024x1 : Shape := ⟨2, ![1024, 1]⟩
abbrev S768 : Shape := ⟨1, ![768]⟩
abbrev S5x768 : Shape := ⟨2, ![5, 768]⟩

abbrev nBuf : Space → Nat
  | .hbm => 11
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S1024x8, .f32⟩
  | .hbm, ⟨9, _⟩ => ⟨S1x6144, .f32⟩
  | .hbm, ⟨10, _⟩ => ⟨S8x6144, .f32⟩
  | .local _ .vmem, ⟨0, _⟩ => ⟨S1024x8, .f32⟩
  | .local _ .vmem, ⟨1, _⟩ => ⟨S1024x768, .f32⟩
  | .local _ .vmem, ⟨2, _⟩ => ⟨S1024x768, .f32⟩
  | .local _ .vmem, ⟨3, _⟩ => ⟨S1x768, .f32⟩
  | .local _ .vmem, ⟨4, _⟩ => ⟨S1x768, .f32⟩
  | .local _ .vmem, ⟨5, _⟩ => ⟨S8x768, .f32⟩
  | .local _ .vmem, ⟨6, _⟩ => ⟨S8x768, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S2x6144 : Shape := ⟨2, ![2, 6144]⟩
abbrev S1x6144 : Shape := ⟨2, ![1, 6144]⟩
abbrev S1x1024 : Shape := ⟨2, ![1, 1024]⟩
abbrev S5x1024 : Shape := ⟨2, ![5, 1024]⟩
abbrev S5x6144 : Shape := ⟨2, ![5, 6144]⟩
abbrev S8x6144 : Shape := ⟨2, ![8, 6144]⟩

abbrev nBuf : Space → Nat
  | .hbm => 46
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S2x1024, .f32⟩
  | .hbm, ⟨5, _⟩ => ⟨S2x1024, .f32⟩
  | .hbm, ⟨6, _⟩ => ⟨S_, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x6144, .f32⟩
  | .hbm, ⟨14, _⟩ => ⟨S1x6144, .f32⟩
  | .hbm, ⟨15, _⟩ => ⟨S2x6144, .f32⟩
  | .hbm, ⟨16, _⟩ => ⟨S2x6144, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x6144, .f32⟩
  | .hbm, ⟨28, _⟩ => ⟨S1x6144, .f32⟩
  | .hbm, ⟨29, _⟩ => ⟨S1x6144, .f32⟩
  | .hbm, ⟨30, _⟩ => ⟨S_, .f32⟩
  | .hbm, ⟨31, _⟩ => ⟨S5x1024, .f32⟩
  | .hbm, ⟨32, _⟩ => ⟨S5x1024, .f32⟩
  | .hbm, ⟨33, _⟩ => ⟨S5x1024, .f32⟩
  | .hbm, ⟨34, _⟩ => ⟨S_, .f32⟩
  | .hbm, ⟨35, _⟩ => ⟨S5x1024, .f32⟩
  | .hbm, ⟨36, _⟩ => ⟨S5x1024, .f32⟩
  | .hbm, ⟨37, _⟩ => ⟨S_, .f32⟩
  | .hbm, ⟨38, _⟩ => ⟨S5x1024, .f32⟩
  | .hbm, ⟨39, _⟩ => ⟨S5x1024, .f32⟩
  | .hbm, ⟨40, _⟩ => ⟨S5x1024, .f32⟩
  | .hbm, ⟨41, _⟩ => ⟨S5x6144, .f32⟩
  | .hbm, ⟨42, _⟩ => ⟨S1x6144, .f32⟩
  | .hbm, ⟨43, _⟩ => ⟨S5x6144, .f32⟩
  | .hbm, ⟨44, _⟩ => ⟨S5x6144, .f32⟩
  | .hbm, ⟨45, _⟩ => ⟨S8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_call2_v0 : Ref sig .tc := ⟨.hbm, 32, rfl⟩
abbrev main_call2_v1 : Ref sig .tc := ⟨.hbm, 33, rfl⟩
abbrev main_call2_cst : Ref sig .tc := ⟨.hbm, 34, rfl⟩
abbrev main_call2_v2 : Ref sig .tc := ⟨.hbm, 35, rfl⟩
abbrev main_call2_v3 : Ref sig .tc := ⟨.hbm, 36, rfl⟩
abbrev main_call2_cst_0 : Ref sig .tc := ⟨.hbm, 37, rfl⟩
abbrev main_call2_v4 : Ref sig .tc := ⟨.hbm, 38, rfl⟩
abbrev main_call2_v5 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩

abbrev nD : Nat := 1
abbrev τ : Topo := Topo.v7x

variable {F : FTy → Type} [FloatOps F]
-- ==== Kernel4.lean ====
abbrev S2x256x1024 : Shape := ⟨3, ![2, 256, 1024]⟩
abbrev S8x1x6144 : Shape := ⟨3, ![8, 1, 6144]⟩
abbrev S1x1024 : Shape := ⟨2, ![1, 1024]⟩
abbrev S1024x1792 : Shape := ⟨2, ![1024, 1792]⟩
abbrev S4x512 : Shape := ⟨2, ![4, 512]⟩
abbrev S1x512 : Shape := ⟨2, ![1, 512]⟩
abbrev S256x128 : Shape := ⟨2, ![256, 128]⟩
abbrev S64x128 : Shape := ⟨2, ![64, 128]⟩
abbrev S2x256x512 : Shape := ⟨3, ![2, 256, 512]⟩
abbrev S2x256x256 : Shape := ⟨3, ![2, 256, 256]⟩
abbrev S1x256x1024 : Shape := ⟨3, ![1, 256, 1024]⟩
abbrev S1x16x1024 : Shape := ⟨3, ![1, 16, 1024]⟩
abbrev S1x1x1024 : Shape := ⟨3, ![1, 1, 1024]⟩
abbrev S1x256x512 : Shape := ⟨3, ![1, 256, 512]⟩
abbrev S1x256x256 : Shape := ⟨3, ![1, 256, 256]⟩
abbrev S288x1024 : Shape := ⟨2, ![288, 1024]⟩
abbrev S4x288x128 : Shape := ⟨3, ![4, 288, 128]⟩
abbrev S16x1024 : Shape := ⟨2, ![16, 1024]⟩
abbrev S16 : Shape := ⟨1, ![16]⟩
abbrev S16x1 : Shape := ⟨2, ![16, 1]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S288x512 : Shape := ⟨2, ![288, 512]⟩
abbrev S1024x1280 : Shape := ⟨2, ![1024, 1280]⟩
abbrev S256x1280 : Shape := ⟨2, ![256, 1280]⟩
abbrev S288x128 : Shape := ⟨2, ![288, 128]⟩
abbrev S1x288x128 : Shape := ⟨3, ![1, 288, 128]⟩
abbrev S128x128 : Shape := ⟨2, ![128, 128]⟩
abbrev S1x128 : Shape := ⟨2, ![1, 128]⟩
abbrev S256x512 : Shape := ⟨2, ![256, 512]⟩
abbrev S1x256x128 : Shape := ⟨3, ![1, 256, 128]⟩

abbrev nBuf : Space → Nat
  | .hbm => 14
  | .vmem => 26
  | .smem => 0
  | _ => 0

abbrev bufTy : (tb : Table) → Fin (tcTables nBuf tb) → BufTy
  | .hbm, ⟨0, _⟩ => ⟨S2x256x1024, .f32⟩
  | .hbm, ⟨1, _⟩ => ⟨S8x1x6144, .f32⟩
  | .hbm, ⟨2, _⟩ => ⟨S1x1024, .f32⟩
  | .hbm, ⟨3, _⟩ => ⟨S1024x1792, .bf16⟩
  | .hbm, ⟨4, _⟩ => ⟨S4x512, .f32⟩
  | .hbm, ⟨5, _⟩ => ⟨S1x512, .f32⟩
  | .hbm, ⟨6, _⟩ => ⟨S256x128, .f32⟩
  | .hbm, ⟨7, _⟩ => ⟨S256x128, .f32⟩
  | .hbm, ⟨8, _⟩ => ⟨S64x128, .f32⟩
  | .hbm, ⟨9, _⟩ => ⟨S64x128, .f32⟩
  | .hbm, ⟨10, _⟩ => ⟨S2x256x512, .f32⟩
  | .hbm, ⟨11, _⟩ => ⟨S2x256x512, .bf16⟩
  | .hbm, ⟨12, _⟩ => ⟨S2x256x512, .bf16⟩
  | .hbm, ⟨13, _⟩ => ⟨S2x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x1792, .bf16⟩
  | .local _ .vmem, ⟨10, _⟩ => ⟨S4x512, .f32⟩
  | .local _ .vmem, ⟨11, _⟩ => ⟨S1x512, .f32⟩
  | .local _ .vmem, ⟨12, _⟩ => ⟨S256x128, .f32⟩
  | .local _ .vmem, ⟨13, _⟩ => ⟨S256x128, .f32⟩
  | .local _ .vmem, ⟨14, _⟩ => ⟨S64x128, .f32⟩
  | .local _ .vmem, ⟨15, _⟩ => ⟨S64x128, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S1x256x256, .bf16⟩
  | .local _ .vmem, ⟨23, _⟩ => ⟨S1x256x256, .bf16⟩
  | .local _ .vmem, ⟨24, _⟩ => ⟨S288x1024, .bf16⟩
  | .local _ .vmem, ⟨25, _⟩ => ⟨S4x288x128, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c15_i32 : BitVec 32 := 15#32
  let v2 : BitVec 32 := Scalar.minsi v1 c15_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c1_i32 : BitVec 32 := 1#32
  let c0_i32_0 : BitVec 32 := 0#32
  ![c2_i32.toNat, c0_i32.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1792 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference4Ideal.lean ====
abbrev S2x256x1024 : Shape := ⟨3, ![2, 256, 1024]⟩
abbrev S8x1x6144 : Shape := ⟨3, ![8, 1, 6144]⟩
abbrev S1x1024 : Shape := ⟨2, ![1, 1024]⟩
abbrev S1024x1792 : Shape := ⟨2, ![1024, 1792]⟩
abbrev S4x512 : Shape := ⟨2, ![4, 512]⟩
abbrev S1x512 : Shape := ⟨2, ![1, 512]⟩
abbrev S256x128 : Shape := ⟨2, ![256, 128]⟩
abbrev S64x128 : Shape := ⟨2, ![64, 128]⟩
abbrev S1x1x6144 : Shape := ⟨3, ![1, 1, 6144]⟩
abbrev S6144 : Shape := ⟨1, ![6144]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x1792 : Shape := ⟨3, ![2, 256, 1792]⟩
abbrev S2x256x512 : Shape := ⟨3, ![2, 256, 512]⟩
abbrev S2x256x256 : Shape := ⟨3, ![2, 256, 256]⟩
abbrev S512 : Shape := ⟨1, ![512]⟩
abbrev S2x259x512 : Shape := ⟨3, ![2, 259, 512]⟩
abbrev S1x1x512 : Shape := ⟨3, ![1, 1, 512]⟩
abbrev S2x128x512 : Shape := ⟨3, ![2, 128, 512]⟩

abbrev nBuf : Space → Nat
  | .hbm => 109
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S8x1x6144, .f32⟩
  | .hbm, ⟨2, _⟩ => ⟨S1x1024, .f32⟩
  | .hbm, ⟨3, _⟩ => ⟨S1024x1792, .bf16⟩
  | .hbm, ⟨4, _⟩ => ⟨S4x512, .f32⟩
  | .hbm, ⟨5, _⟩ => ⟨S1x512, .f32⟩
  | .hbm, ⟨6, _⟩ => ⟨S256x128, .f32⟩
  | .hbm, ⟨7, _⟩ => ⟨S256x128, .f32⟩
  | .hbm, ⟨8, _⟩ => ⟨S64x128, .f32⟩
  | .hbm, ⟨9, _⟩ => ⟨S64x128, .f32⟩
  | .hbm, ⟨10, _⟩ => ⟨S1x1x6144, .f32⟩
  | .hbm, ⟨11, _⟩ => ⟨S6144, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S2x256x1024, .f32⟩
  | .hbm, ⟨19, _⟩ => ⟨S_, .f32⟩
  | .hbm, ⟨20, _⟩ => ⟨S2x256, .f32⟩
  | .hbm, ⟨21, _⟩ => ⟨S2x256x1, .f32⟩
  | .hbm, ⟨22, _⟩ => ⟨S_, .f32⟩
  | .hbm, ⟨23, _⟩ => ⟨S2x256x1, .f32⟩
  | .hbm, ⟨24, _⟩ => ⟨S2x256x1, .f32⟩
  | .hbm, ⟨25, _⟩ => ⟨S_, .f32⟩
  | .hbm, ⟨26, _⟩ => ⟨S2x256x1, .f32⟩
  | .hbm, ⟨27, _⟩ => ⟨S2x256x1, .f32⟩
  | .hbm, ⟨28, _⟩ => ⟨S2x256x1, .f32⟩
  | .hbm, ⟨29, _⟩ => ⟨S2x256x1024, .f32⟩
  | .hbm, ⟨30, _⟩ => ⟨S2x256x1024, .f32⟩
  | .hbm, ⟨31, _⟩ => ⟨S1x1x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1x1024, .f32⟩
  | .hbm, ⟨38, _⟩ => ⟨S2x256x1024, .f32⟩
  | .hbm, ⟨39, _⟩ => ⟨S2x256x1024, .f32⟩
  | .hbm, ⟨40, _⟩ => ⟨S1x1x1024, .f32⟩
  | .hbm, ⟨41, _⟩ => ⟨S2x256x1024, .f32⟩
  | .hbm, ⟨42, _⟩ => ⟨S2x256x1024, .f32⟩
  | .hbm, ⟨43, _⟩ => ⟨S1024x1792, .f32⟩
  | .hbm, ⟨44, _⟩ => ⟨S2x256x1792, .f32⟩
  | .hbm, ⟨45, _⟩ => ⟨S2x256x512, .f32⟩
  | .hbm, ⟨46, _⟩ => ⟨S2x256x512, .f32⟩
  | .hbm, ⟨47, _⟩ => ⟨S2x256x512, .f32⟩
  | .hbm, ⟨48, _⟩ => ⟨S2x256x256, .f32⟩
  | .hbm, ⟨49, _⟩ => ⟨S512, .f32⟩
  | .hbm, ⟨50, _⟩ => ⟨S_, .i32⟩
  | .hbm, ⟨51, _⟩ => ⟨S_, .f32⟩
  | .hbm, ⟨52, _⟩ => ⟨S2x259x512, .f32⟩
  | .hbm, ⟨53, _⟩ => ⟨S2x256x512, .f32⟩
  | .hbm, ⟨54, _⟩ => ⟨S1x512, .f32⟩
  | .hbm, ⟨55, _⟩ => ⟨S512, .f32⟩
  | .hbm, ⟨56, _⟩ => ⟨S1x1x512, .f32⟩
  | .hbm, ⟨57, _⟩ => ⟨S2x256x512, .f32⟩
  | .hbm, ⟨58, _⟩ => ⟨S2x256x512, .f32⟩
  | .hbm, ⟨59, _⟩ => ⟨S1x1x512, .f32⟩
  | .hbm, ⟨60, _⟩ => ⟨S2x256x512, .f32⟩
  | .hbm, ⟨61, _⟩ => ⟨S2x256x512, .f32⟩
  | .hbm, ⟨62, _⟩ => ⟨S2x256x512, .f32⟩
  | .hbm, ⟨63, _⟩ => ⟨S1x512, .f32⟩
  | .hbm, ⟨64, _⟩ => ⟨S512, .f32⟩
  | .hbm, ⟨65, _⟩ => ⟨S1x1x512, .f32⟩
  | .hbm, ⟨66, _⟩ => ⟨S2x256x512, .f32⟩
  | .hbm, ⟨67, _⟩ => ⟨S2x256x512, .f32⟩
  | .hbm, ⟨68, _⟩ => ⟨S2x256x512, .f32⟩
  | .hbm, ⟨69, _⟩ => ⟨S2x256x512, .f32⟩
  | .hbm, ⟨70, _⟩ => ⟨S1x512, .f32⟩
  | .hbm, ⟨71, _⟩ => ⟨S512, .f32⟩
  | .hbm, ⟨72, _⟩ => ⟨S1x1x512, .f32⟩
  | .hbm, ⟨73, _⟩ => ⟨S2x256x512, .f32⟩
  | .hbm, ⟨74, _⟩ => ⟨S2x256x512, .f32⟩
  | .hbm, ⟨75, _⟩ => ⟨S2x256x512, .f32⟩
  | .hbm, ⟨76, _⟩ => ⟨S2x256x512, .f32⟩
  | .hbm, ⟨77, _⟩ => ⟨S1x512, .f32⟩
  | .hbm, ⟨78, _⟩ => ⟨S512, .f32⟩
  | .hbm, ⟨79, _⟩ => ⟨S1x1x512, .f32⟩
  | .hbm, ⟨80, _⟩ => ⟨S2x256x512, .f32⟩
  | .hbm, ⟨81, _⟩ => ⟨S2x256x512, .f32⟩
  | .hbm, ⟨82, _⟩ => ⟨S2x256x512, .f32⟩
  | .hbm, ⟨83, _⟩ => ⟨S2x128x512, .f32⟩
  | .hbm, ⟨84, _⟩ => ⟨S2x128x512, .f32⟩
  | .hbm, ⟨85, _⟩ => ⟨S2x256x512, .f32⟩
  | .hbm, ⟨86, _⟩ => ⟨S2x256x512, .f32⟩
  | .hbm, ⟨87, _⟩ => ⟨S2x256x512, .f32⟩
  | .hbm, ⟨88, _⟩ => ⟨S_, .f32⟩
  | .hbm, ⟨89, _⟩ => ⟨S2x256x512, .f32⟩
  | .hbm, ⟨90, _⟩ => ⟨S2x256x512, .f32⟩
  | .hbm, ⟨91, _⟩ => ⟨S2x256x512, .f32⟩
  | .hbm, ⟨92, _⟩ => ⟨S_, .f32⟩
  | .hbm, ⟨93, _⟩ => ⟨S2x256x512, .f32⟩
  | .hbm, ⟨94, _⟩ => ⟨S2x256x512, .f32⟩
  | .hbm, ⟨95, _⟩ => ⟨S2x256x512, .f32⟩
  | .hbm, ⟨96, _⟩ => ⟨S_, .f32⟩
  | .hbm, ⟨97, _⟩ => ⟨S2x256x512, .f32⟩
  | .hbm, ⟨98, _⟩ => ⟨S2x256x512, .f32⟩
  | .hbm, ⟨99, _⟩ => ⟨S_, .f32⟩
  | .hbm, ⟨100, _⟩ => ⟨S2x256x512, .f32⟩
  | .hbm, ⟨101, _⟩ => ⟨S2x256x512, .f32⟩
  | .hbm, ⟨102, _⟩ => ⟨S2x256x512, .f32⟩
  | .hbm, ⟨103, _⟩ => ⟨S2x256x512, .bf16⟩
  | .hbm, ⟨104, _⟩ => ⟨S_, .f32⟩
  | .hbm, ⟨105, _⟩ => ⟨S2x256x512, .f32⟩
  | .hbm, ⟨106, _⟩ => ⟨S2x256x512, .f32⟩
  | .hbm, ⟨107, _⟩ => ⟨S2x256x512, .bf16⟩
  | .hbm, ⟨108, _⟩ => ⟨S2x256x256, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c : Ref sig .tc := ⟨.hbm, 50, rfl⟩
abbrev main_call0_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_3 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_4 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_5 : Ref sig .tc := ⟨.hbm, 96, rfl⟩
abbrev main_v78 : Ref sig .tc := ⟨.hbm, 97, rfl⟩
abbrev main_v79 : Ref sig .tc := ⟨.hbm, 98, rfl⟩
abbrev main_cst_6 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_7 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩

abbrev nD : Nat := 1
abbrev τ : Topo := Topo.v7x

variable {F : FTy → Type} [FloatOps F]
-- ==== Proof.Block.lean ====
/- One grid point of the attention kernel, in the vocabulary of the layer: the point's thirty-two output tiles (eight blocks
   of 128 query rows, four groups of two heads) are one function of what the point loads. -/
module

public import proofs.«01_k».proof.Proof.Gen.KernelIdeal.Value

@[expose] public section

set_option maxRecDepth 16384

noncomputable section

namespace Cert.Attn

open Cert.KernelIdeal Cert.KernelIdeal.Gen Cert.KernelIdeal.Facts
open Idealize.ShloMosaic Idealize.ShloMosaic.TcCoe Idealize.SL.Sem

variable {F : FTy → Type} [FloatOps F]

/-- Everything one grid point reads, by query block `x` and group of two heads `g`: queries, the bias table's variant,
    the three key blocks around a query block and the context's keys, the values of both with their columns of ones,
    the eight sinks, the norm's weights. -/
structure Loads (F : FTy → Type) where
  q : Fin 8 → Fin 4 → Vec F S1x128x128 .bf16
  bias : Fin 8 → Vec F S1x128x384 .f32
  keys : Fin 8 → Vec F S384x128 .bf16
  keyx : Vec F S256x128 .bf16
  vals : Fin 8 → Vec F S384x256 .bf16
  valx : Vec F S256x256 .bf16
  sink : Fin 8 → Elt F .f32
  gn : Fin 4 → Vec F S1x128 .f32

/-- The attention of two heads on one query block: scores against local and context keys, the row's largest score
    taken off, powers of two, both weighted sums and row sums at once, and one division. -/
def group (q : Vec F S1x128x128 .bf16) (bb : Vec F S1x128x384 .f32) (kl : Vec F S384x128 .bf16) (kx : Vec F S256x128 .bf16)
    (vl : Vec F S384x256 .bf16) (vx : Vec F S256x256 .bf16) (z0 z1 : Elt F .f32) : FVec F S128x128 .f32 :=
  k0_pay32 k0_pay12 (k0_pay21 k0_pay12 k0_pay13 k0_pay14 (k0_pay15 bb) q kl kx z0 z1)
    (k0_pay22 k0_pay12 k0_pay13 k0_pay14 (k0_pay15 bb) q kl kx z0 z1)
    (k0_pay23 k0_pay12 k0_pay13 k0_pay14 (k0_pay15 bb) q kl kx z0 z1) vl vx

/-- The sum of squares of one group's rows. -/
def sq (t : FVec F S128x128 .f32) : FVec F S128x1 .f32 :=
  shapeCast S128x1 (multiReduction .add [1] S128 (mulf t t) 0x00000000#32 reduces_S128x128_S128 (.inl rfl) rfl)
    shapeCasts_S128_S128x1

/-- The norm's factor of each row: the reciprocal root of the mean square over the four groups. -/
def rnorm (t0 t1 t2 t3 : FVec F S128x128 .f32) : FVec F S128x1 .f32 :=
  rsqrt (addf (mulf (addf (addf (addf (addf (broadcast S128x1 (Scalar.ofBits .f32 0x00000000#32)) (sq t0)) (sq t1)) (sq t2))
    (sq t3)) (broadcast S128x1 (Scalar.ofBits .f32 0x3B000000#32))) (broadcast S128x1 (Scalar.ofBits .f32 0x358637BD#32)))

/-- Group `g` of query block `x`. -/
def Loads.group (A : Loads F) (x : Fin 8) (g : Fin 4) : FVec F S128x128 .f32 :=
  Attn.group (A.q x g) (A.bias x) (A.keys x) A.keyx (A.vals x) A.valx (A.sink ⟨g.val, by omega⟩) (A.sink ⟨4 + g.val, by omega⟩)

/-- What the point stores for query block `x` and group `g`. -/
def Loads.tile (A : Loads F) (x : Fin 8) (g : Fin 4) : FVec F S1x128x128 .bf16 :=
  k0_pay69 (A.group x g) (rnorm (A.group x 0) (A.group x 1) (A.group x 2) (A.group x 3)) (A.gn g)

/-- The query block the `k`-th store from the end belongs to. -/
def rowOf (k : Fin 32) : Fin 8 := ⟨7 - k.val / 4, by omega⟩

/-- The group the `k`-th store from the end belongs to. -/
def grpOf (k : Fin 32) : Fin 4 := ⟨3 - k.val % 4, by omega⟩

/-- A query tile lies in the query block. -/
theorem q_inb (x : Fin 8) (g : Fin 4) :
    ∀ a, (![0, 128 * x.val, 128 * g.val] : Fin 3 → ℕ) a + S1x128x128.size a ≤ S1x1024x512.size a := by
  have := x.isLt; have := g.isLt
  intro a; fin_cases a <;> simp <;> omega

/-- The three key blocks around a query block lie in the keys' scratch. -/
theorem key_inb (x : Fin 8) : ∀ a, (![128 * x.val, 0] : Fin 2 → ℕ) a + S384x128.size a ≤ S1280x128.size a := by
  have := x.isLt
  intro a; fin_cases a <;> simp <;> omega

/-- The three value blocks around a query block lie in the values' scratch. -/
theorem val_inb (x : Fin 8) : ∀ a, (![128 * x.val, 0] : Fin 2 → ℕ) a + S384x256.size a ≤ S1280x256.size a := by
  have := x.isLt
  intro a; fin_cases a <;> simp <;> omega

/-- A sink lies in the sinks. -/
theorem sink_inb (j : Fin 8) : ∀ a, (![j.val] : Fin 1 → ℕ) a + S1.size a ≤ S8.size a := by
  have := j.isLt
  intro a; fin_cases a; simp; omega

/-- A group's weights lie in the norm's. -/
theorem gn_inb (g : Fin 4) : ∀ a, (![0, 128 * g.val] : Fin 2 → ℕ) a + S1x128.size a ≤ S1x512.size a := by
  have := g.isLt
  intro a; fin_cases a <;> simp <;> omega

/-- The variant of the bias table a query block selects lies in the table. -/
theorem bias_inb (i : grid0.Coords) (a b : BitVec 32) (hb : b.toNat ≤ 2) :
    ∀ k, k0_off1 i a b k + S1x128x384.size k ≤ S3x128x384.size k := by
  have h : k0_off1 i a b 0 ≤ 2 := by
    simp only [k0_off1, Scalar.select, Scalar.indexCast]
    split <;> simp <;> omega
  intro k; fin_cases k
  · simpa using by omega
  · simp [k0_off1]
  · simp [k0_off1]

/-- The thirty-two stores of a point, last first. -/
def tiles (A : Loads F) : List (View.Piece (Elt F) S1x1024x512 .bf16) :=
  List.ofFn fun k : Fin 32 =>
    ⟨Rect.unit (s := S1x1024x512) ![0, 128 * (rowOf k).val, 128 * (grpOf k).val] S1x128x128.size (q_inb (rowOf k) (grpOf k)), A.tile (rowOf k) (grpOf k)⟩

section Raw

/-- The stores into the keys' scratch, last first: the next block's first 128 keys, the block's own, the block before's last 128. -/
def keyPieces {arg3 : Memref sig .tc .vmem S1x128x256 .bf16} (harg3 : arg3.IsWhole) {arg4 : Memref sig .tc .vmem S1x1024x256 .bf16}
    (harg4 : arg4.IsWhole) {arg5 : Memref sig .tc .vmem S1x128x256 .bf16} (harg5 : arg5.IsWhole)
    (x1 : Vec F S1x128x256 .bf16) (x2 : Vec F S1x1024x256 .bf16) (x3 : Vec F S1x128x256 .bf16) :
    List (View.Piece (Elt F) S1280x128 .bf16) :=
  [⟨Rect.unit (s := S1280x128) ![1152, 0] S128x128.size inb_S1280x128_S128x128_1152_0, k0_pay6 (View.readAt (Elt F) arg5.view (Rect.unit (s := S1x128x256) ![0, 0, 0] S1x128x128.size inb_S1x128x256_S1x128x128_0_0_0).toLoadRect (harg5.unread x3))⟩,
   ⟨Rect.unit (s := S1280x128) ![128, 0] S1024x128.size inb_S1280x128_S1024x128_128_0, k0_pay4 (View.readAt (Elt F) arg4.view (Rect.unit (s := S1x1024x256) ![0, 0, 0] S1x1024x128.size inb_S1x1024x256_S1x1024x128_0_0_0).toLoadRect (harg4.unread x2))⟩,
   ⟨Rect.unit (s := S1280x128) ![0, 0] S128x128.size inb_S1280x128_S128x128_0_0, k0_pay2 (View.readAt (Elt F) arg3.view (Rect.unit (s := S1x128x256) ![0, 0, 0] S1x128x128.size inb_S1x128x256_S1x128x128_0_0_0).toLoadRect (harg3.unread x1))⟩]

/-- The stores of values into the values' scratch, last first, at the same three places. -/
def valPieces {arg3 : Memref sig .tc .vmem S1x128x256 .bf16} (harg3 : arg3.IsWhole) {arg4 : Memref sig .tc .vmem S1x1024x256 .bf16}
    (harg4 : arg4.IsWhole) {arg5 : Memref sig .tc .vmem S1x128x256 .bf16} (harg5 : arg5.IsWhole)
    (x1 : Vec F S1x128x256 .bf16) (x2 : Vec F S1x1024x256 .bf16) (x3 : Vec F S1x128x256 .bf16) :
    List (View.Piece (Elt F) S1280x256 .bf16) :=
  [⟨Rect.unit (s := S1280x256) ![1152, 0] S128x128.size inb_S1280x256_S128x128_1152_0, k0_pay7 (View.readAt (Elt F) arg5.view (Rect.unit (s := S1x128x256) ![0, 0, 128] S1x128x128.size inb_S1x128x256_S1x128x128_0_0_128).toLoadRect (harg5.unread x3))⟩,
   ⟨Rect.unit (s := S1280x256) ![128, 0] S1024x128.size inb_S1280x256_S1024x128_128_0, k0_pay5 (View.readAt (Elt F) arg4.view (Rect.unit (s := S1x1024x256) ![0, 0, 128] S1x1024x128.size inb_S1x1024x256_S1x1024x128_0_0_128).toLoadRect (harg4.unread x2))⟩,
   ⟨Rect.unit (s := S1280x256) ![0, 0] S128x128.size inb_S1280x256_S128x128_0_0, k0_pay3 (View.readAt (Elt F) arg3.view (Rect.unit (s := S1x128x256) ![0, 0, 128] S1x128x128.size inb_S1x128x256_S1x128x128_0_0_128).toLoadRect (harg3.unread x1))⟩]

/-- The store of the context's keys. -/
def keyxPieces {arg6 : Memref sig .tc .vmem S1x256x256 .bf16} (harg6 : arg6.IsWhole) (x4 : Vec F S1x256x256 .bf16) :
    List (View.Piece (Elt F) S256x128 .bf16) :=
  [⟨Rect.unit (s := S256x128) ![0, 0] S256x128.size inb_S256x128_S256x128_0_0, k0_pay8 (View.readAt (Elt F) arg6.view (Rect.unit (s := S1x256x256) ![0, 0, 0] S1x256x128.size inb_S1x256x256_S1x256x128_0_0_0).toLoadRect (harg6.unread x4))⟩]

/-- The store of the context's values. -/
def valxPieces {arg6 : Memref sig .tc .vmem S1x256x256 .bf16} (harg6 : arg6.IsWhole) (x4 : Vec F S1x256x256 .bf16) :
    List (View.Piece (Elt F) S256x256 .bf16) :=
  [⟨Rect.unit (s := S256x256) ![0, 0] S256x128.size inb_S256x256_S256x128_0_0, k0_pay9 (View.readAt (Elt F) arg6.view (Rect.unit (s := S1x256x256) ![0, 0, 128] S1x256x128.size inb_S1x256x256_S1x256x128_0_0_128).toLoadRect (harg6.unread x4))⟩]

/-- The columns of ones the first point stores beside the values. -/
def onesPiece : View.Piece (Elt F) S1280x256 .bf16 :=
  ⟨Rect.unit (s := S1280x256) ![0, 128] S1280x128.size inb_S1280x256_S1280x128_0_128, k0_pay10⟩

/-- The columns of ones the first point stores beside the context's values. -/
def onesxPiece : View.Piece (Elt F) S256x256 .bf16 :=
  ⟨Rect.unit (s := S256x256) ![0, 128] S256x128.size inb_S256x256_S256x128_0_128, k0_pay11⟩

/-- What the first point loads, as its body spells it. -/
def rawA (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32) : Loads F where
  q x g := View.readAt (Elt F) arg2.view (Rect.unit (s := S1x1024x512) ![0, 128 * x.val, 128 * g.val] S1x128x128.size (q_inb x g)).toLoadRect (harg2.unread x0)
  bias x := match x with
    | 0 => View.readAt (Elt F) arg7.view (Rect.unit (s := S3x128x384) (k0_off1 i 0#32 0#32) S1x128x384.size (bias_inb i 0#32 0#32 (by decide))).toLoadRect (harg7.unread x5)
    | 7 => View.readAt (Elt F) arg7.view (Rect.unit (s := S3x128x384) (k0_off1 i 15#32 2#32) S1x128x384.size (bias_inb i 15#32 2#32 (by decide))).toLoadRect (harg7.unread x5)
    | _ => View.readAt (Elt F) arg7.view (Rect.unit (s := S3x128x384) ![1, 0, 0] S1x128x384.size (inb_S3x128x384_S1x128x384_1_0_0)).toLoadRect (harg7.unread x5)
  keys x := arg11.view.readCov (keyPieces harg3 harg4 harg5 x1 x2 x3) (Rect.unit (s := S1280x128) ![128 * x.val, 0] S384x128.size (key_inb x)).toLoadRect
  keyx := arg13.view.readCov (keyxPieces harg6 x4) (Rect.unit (s := S256x128) ![0, 0] S256x128.size inb_S256x128_S256x128_0_0).toLoadRect
  vals x := arg12.view.readCov (onesPiece :: valPieces harg3 harg4 harg5 x1 x2 x3) (Rect.unit (s := S1280x256) ![128 * x.val, 0] S384x256.size (val_inb x)).toLoadRect
  valx := arg14.view.readCov (onesxPiece :: valxPieces harg6 x4) (Rect.unit (s := S256x256) ![0, 0] S256x256.size inb_S256x256_S256x256_0_0).toLoadRect
  sink j := View.readAt (Elt F) arg8.view (Rect.unit (s := S8) ![j.val] S1.size (sink_inb j)).toLoadRect (harg8.unread x6) (Shape.Idx.first (numel1_S1.symm ▸ Nat.one_pos))
  gn g := View.readAt (Elt F) arg9.view (Rect.unit (s := S1x512) ![0, 128 * g.val] S1x128.size (gn_inb g)).toLoadRect (harg9.unread x7)

/-- What a later point loads, as its body spells it: the columns of ones are what the point before left. -/
def rawB (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32)
    (xs1 : Vec F S1280x256 .bf16) (xs3 : Vec F S256x256 .bf16) : Loads F where
  q x g := View.readAt (Elt F) arg2.view (Rect.unit (s := S1x1024x512) ![0, 128 * x.val, 128 * g.val] S1x128x128.size (q_inb x g)).toLoadRect (harg2.unread x0)
  bias x := match x with
    | 0 => View.readAt (Elt F) arg7.view (Rect.unit (s := S3x128x384) (k0_off1 i 0#32 0#32) S1x128x384.size (bias_inb i 0#32 0#32 (by decide))).toLoadRect (harg7.unread x5)
    | 7 => View.readAt (Elt F) arg7.view (Rect.unit (s := S3x128x384) (k0_off1 i 15#32 2#32) S1x128x384.size (bias_inb i 15#32 2#32 (by decide))).toLoadRect (harg7.unread x5)
    | _ => View.readAt (Elt F) arg7.view (Rect.unit (s := S3x128x384) ![1, 0, 0] S1x128x384.size (inb_S3x128x384_S1x128x384_1_0_0)).toLoadRect (harg7.unread x5)
  keys x := arg11.view.readCov (keyPieces harg3 harg4 harg5 x1 x2 x3) (Rect.unit (s := S1280x128) ![128 * x.val, 0] S384x128.size (key_inb x)).toLoadRect
  keyx := arg13.view.readCov (keyxPieces harg6 x4) (Rect.unit (s := S256x128) ![0, 0] S256x128.size inb_S256x128_S256x128_0_0).toLoadRect
  vals x := View.readAt (Elt F) arg12.view (Rect.unit (s := S1280x256) ![128 * x.val, 0] S384x256.size (val_inb x)).toLoadRect (arg12.view.writes (Elt F) (harg12.unread xs1) (valPieces harg3 harg4 harg5 x1 x2 x3))
  valx := View.readAt (Elt F) arg14.view (Rect.unit (s := S256x256) ![0, 0] S256x256.size inb_S256x256_S256x256_0_0).toLoadRect (arg14.view.writes (Elt F) (harg14.unread xs3) (valxPieces harg6 x4))
  sink j := View.readAt (Elt F) arg8.view (Rect.unit (s := S8) ![j.val] S1.size (sink_inb j)).toLoadRect (harg8.unread x6) (Shape.Idx.first (numel1_S1.symm ▸ Nat.one_pos))
  gn g := View.readAt (Elt F) arg9.view (Rect.unit (s := S1x512) ![0, 128 * g.val] S1x128.size (gn_inb g)).toLoadRect (harg9.unread x7)

/-- The first point's stores into the values' scratch. -/
theorem spieces_A_1 (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32) (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1 = onesPiece :: valPieces harg3 harg4 harg5 x1 x2 x3 := by
  sl_kernel_rfl

/-- A later point's stores into the values' scratch. -/
theorem spieces_B_1 (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32)
    (xs1 : Vec F S1280x256 .bf16) (xs3 : Vec F S256x256 .bf16) (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1 xs3).2.1 = valPieces harg3 harg4 harg5 x1 x2 x3 := by
  sl_kernel_rfl

/-- The first point's stores into the scratch of the context's values. -/
theorem spieces_A_3 (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32) (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1 = onesxPiece :: valxPieces harg6 x4 := by
  sl_kernel_rfl

/-- A later point's stores into the scratch of the context's values. -/
theorem spieces_B_3 (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32)
    (xs1 : Vec F S1280x256 .bf16) (xs3 : Vec F S256x256 .bf16) (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1 xs3).2.2.1 = valxPieces harg6 x4 := by
  sl_kernel_rfl

end Raw

end Cert.Attn

end
-- ==== Proof.Carry.lean ====
/- What a grid point loads, element by element: the queries, the run of key and value rows around a query block, the bias
   table's variant, the sinks and the norm's weights; and the columns of ones beside the values, which the first point of a
   sweep stores and every later point finds. -/
module

public import proofs.«01_k».proof.Proof.Block
public import Idealize.ShloMosaic.Lib.Pointwise
public import Idealize.ShloMosaic.Lib.WritesUnit
public import Idealize.ShloMosaic.Lib.Pipeline.ValueKit.Tiles

@[expose] public section

set_option maxRecDepth 16384

noncomputable section

namespace Cert.Attn

open Cert.KernelIdeal Cert.KernelIdeal.Gen Cert.KernelIdeal.Facts
open Idealize.ShloMosaic Idealize.ShloMosaic.TcCoe Idealize.SL.Sem

variable {F : FTy → Type} [FloatOps F]

/-- The bfloat16 one. -/
abbrev one16 : Elt F .bf16 := (Scalar.ofBits .bf16 0x3F80#16 : F .bf16)

/-- Row `n` of the 1280 rows a point sees: the last 128 rows of the step before, its own 1024, the first 128 of the step after. -/
def around (x1 : Vec F S1x128x256 .bf16) (x2 : Vec F S1x1024x256 .bf16) (x3 : Vec F S1x128x256 .bf16) (n : Fin 1280)
    (l : Fin 256) : Elt F .bf16 :=
  if h : n.val < 128 then x1 (ix3 0 ⟨n.val, h⟩ l)
  else if h' : n.val < 1152 then x2 (ix3 0 ⟨n.val - 128, by omega⟩ l)
  else x3 (ix3 0 ⟨n.val - 1152, by omega⟩ l)

/-- The variant of the bias table a query block takes: the first for a row's first block, the last for its last. -/
def variant (i : grid0.Coords) (x : Fin 8) : Fin 3 :=
  if x = 0 ∧ (i 1 : ℕ) = 0 then 0 else if x = 7 ∧ (i 1 : ℕ) = 15 then 2 else 1

/-- A load through a unit rectangle of a buffer holding `X` reads `X` at the offset index. -/
theorem readAt_unread {sp : Space} {s : Shape} {e : EltTy} {arg : Memref sig .tc sp s e} (h : arg.IsWhole) (X : Vec F s e)
    (off size : Fin s.rank → ℕ) (inb) (y : (Rect.unit (s := s) off size inb).toLoadRect.shape.Idx) (i : s.Idx)
    (hi : ∀ a, (i a : ℕ) = off a + (y a : ℕ)) :
    View.readAt (Elt F) arg.view (Rect.unit (s := s) off size inb).toLoadRect (h.unread X) y = X i := by
  rw [View.readAt_eq_ld, h.read_unread]
  exact View.ld_unit_apply_of X off size inb y i hi

/-- A load through a unit rectangle reads the buffer at the offset index. -/
theorem readAt_at {κ : Kind} {sp : Space} {s : Shape} {e : EltTy} (v : View sig κ sp s e) (f : v.ty.Contents (Elt F))
    (off size : Fin s.rank → ℕ) (inb) (y : (Rect.unit (s := s) off size inb).toLoadRect.shape.Idx) (i : s.Idx)
    (hi : ∀ a, (i a : ℕ) = off a + (y a : ℕ)) :
    v.readAt (Elt F) (Rect.unit (s := s) off size inb).toLoadRect f y = v.read (Elt F) f i := by
  rw [View.readAt_eq_ld]
  exact View.ld_unit_apply_of _ off size inb y i hi

/-- A load through a unit rectangle of what stores left reads it at the offset index. -/
theorem readCov_at {κ : Kind} {sp : Space} {s : Shape} {e : EltTy} (v : View sig κ sp s e) (L : List (View.Piece (Elt F) s e))
    (off size : Fin s.rank → ℕ) (inb) (y : (Rect.unit (s := s) off size inb).toLoadRect.shape.Idx) (i : s.Idx)
    (hi : ∀ a, (i a : ℕ) = off a + (y a : ℕ)) :
    v.readCov L (Rect.unit (s := s) off size inb).toLoadRect y = v.read (Elt F) (v.writes (Elt F) v.junk L) i := by
  rw [View.readCov_eq_canon', View.read_writes_junk_apply_eq_canon]
  exact congrArg _ (funext fun a => Fin.ext ((Rect.idx_unit_val off size inb y a).trans (hi a).symm))

/-- An index inside the newest piece's rectangle reads that piece at the index less the offsets. -/
theorem hit {κ : Kind} {sp : Space} {e : EltTy} {m0 m1 k0 k1 o0 o1 : ℕ} (v : View sig κ sp ⟨2, ![m0, m1]⟩ e) (f : v.ty.Contents (Elt F))
    (inb : ∀ a, (![o0, o1] : Fin 2 → ℕ) a + (![k0, k1] : Fin 2 → ℕ) a ≤ (⟨2, ![m0, m1]⟩ : Shape).size a)
    (w : (⟨2, ![k0, k1]⟩ : Shape).Idx → Elt F e) (L : List (View.Piece (Elt F) ⟨2, ![m0, m1]⟩ e)) (n : Fin m0) (l : Fin m1) (a : Fin k0) (b : Fin k1)
    (h0 : n.val = o0 + a.val) (h1 : l.val = o1 + b.val) :
    v.read (Elt F) (v.writes (Elt F) f (⟨Rect.unit (s := ⟨2, ![m0, m1]⟩) ![o0, o1] ![k0, k1] inb, w⟩ :: L)) (ix2 n l) = w (ix2 a b) :=
  View.read_writes_cons_unit_of_mem v f inb w L (ix2 n l) (ix2 a b) rfl
    (by intro c; fin_cases c <;> simpa)

section Pieces

variable {arg3 : Memref sig .tc .vmem S1x128x256 .bf16} (harg3 : arg3.IsWhole) {arg4 : Memref sig .tc .vmem S1x1024x256 .bf16}
    (harg4 : arg4.IsWhole) {arg5 : Memref sig .tc .vmem S1x128x256 .bf16} (harg5 : arg5.IsWhole)
    {arg6 : Memref sig .tc .vmem S1x256x256 .bf16} (harg6 : arg6.IsWhole)
    (x1 : Vec F S1x128x256 .bf16) (x2 : Vec F S1x1024x256 .bf16) (x3 : Vec F S1x128x256 .bf16) (x4 : Vec F S1x256x256 .bf16)

/-- The keys' scratch after a point's stores, row by row. -/
theorem keys_written {κ : Kind} {sp : Space} (v : View sig κ sp S1280x128 .bf16) (f : v.ty.Contents (Elt F)) (n : Fin 1280) (l : Fin 128) :
    v.read (Elt F) (v.writes (Elt F) f (keyPieces harg3 harg4 harg5 x1 x2 x3)) (ix2 n l)
      = around x1 x2 x3 n ⟨l.val, by omega⟩ := by
  unfold keyPieces around
  by_cases h : n.val < 128
  · rw [dif_pos h, View.read_writes_cons_unit_of_not_mem v f _ _ _ _ rfl 0 (.inl (by simp; omega)),
      View.read_writes_cons_unit_of_not_mem v f _ _ _ _ rfl 0 (.inl (by simp; omega))]
    refine (hit v f _ _ _ n _ (⟨n.val, h⟩) (l) (by first | omega | (dsimp only; omega)) (by first | omega | (dsimp only; omega))).trans ?_
    pointwise [k0_pay2]
    exact readAt_unread harg3 x1 _ _ _ _ _ (by intro a; fin_cases a <;> simp)
  · rw [dif_neg h]
    by_cases h' : n.val < 1152
    · rw [dif_pos h', View.read_writes_cons_unit_of_not_mem v f _ _ _ _ rfl 0 (.inl (by simp; omega))]
      refine (hit v f _ _ _ n _ (⟨n.val - 128, by omega⟩) (l) (by first | omega | (dsimp only; omega)) (by first | omega | (dsimp only; omega))).trans ?_
      pointwise [k0_pay4]
      exact readAt_unread harg4 x2 _ _ _ _ _ (by intro a; fin_cases a <;> simp)
    · rw [dif_neg h']
      refine (hit v f _ _ _ n _ (⟨n.val - 1152, by omega⟩) (l) (by first | omega | (dsimp only; omega)) (by first | omega | (dsimp only; omega))).trans ?_
      pointwise [k0_pay6]
      exact readAt_unread harg5 x3 _ _ _ _ _ (by intro a; fin_cases a <;> simp)

/-- The value columns of the values' scratch after a point's stores, row by row. -/
theorem vals_written {κ : Kind} {sp : Space} (v : View sig κ sp S1280x256 .bf16) (f : v.ty.Contents (Elt F)) (n : Fin 1280) (l : Fin 128) :
    v.read (Elt F) (v.writes (Elt F) f (valPieces harg3 harg4 harg5 x1 x2 x3)) (ix2 n ⟨l.val, by omega⟩)
      = around x1 x2 x3 n ⟨128 + l.val, by omega⟩ := by
  unfold valPieces around
  by_cases h : n.val < 128
  · rw [dif_pos h, View.read_writes_cons_unit_of_not_mem v f _ _ _ _ rfl 0 (.inl (by simp; omega)),
      View.read_writes_cons_unit_of_not_mem v f _ _ _ _ rfl 0 (.inl (by simp; omega))]
    refine (hit v f _ _ _ n _ (⟨n.val, h⟩) (l) (by first | omega | (dsimp only; omega)) (by first | omega | (dsimp only; omega))).trans ?_
    pointwise [k0_pay3]
    exact readAt_unread harg3 x1 _ _ _ _ _ (by intro a; fin_cases a <;> simp)
  · rw [dif_neg h]
    by_cases h' : n.val < 1152
    · rw [dif_pos h', View.read_writes_cons_unit_of_not_mem v f _ _ _ _ rfl 0 (.inl (by simp; omega))]
      refine (hit v f _ _ _ n _ (⟨n.val - 128, by omega⟩) (l) (by first | omega | (dsimp only; omega)) (by first | omega | (dsimp only; omega))).trans ?_
      pointwise [k0_pay5]
      exact readAt_unread harg4 x2 _ _ _ _ _ (by intro a; fin_cases a <;> simp)
    · rw [dif_neg h']
      refine (hit v f _ _ _ n _ (⟨n.val - 1152, by omega⟩) (l) (by first | omega | (dsimp only; omega)) (by first | omega | (dsimp only; omega))).trans ?_
      pointwise [k0_pay7]
      exact readAt_unread harg5 x3 _ _ _ _ _ (by intro a; fin_cases a <;> simp)

/-- A point's stores of values leave the columns beside them alone. -/
theorem ones_kept {κ : Kind} {sp : Space} (v : View sig κ sp S1280x256 .bf16) (f : v.ty.Contents (Elt F)) (n : Fin 1280) (l : Fin 256) (hl : 128 ≤ l.val) :
    v.read (Elt F) (v.writes (Elt F) f (valPieces harg3 harg4 harg5 x1 x2 x3)) (ix2 n l) = v.read (Elt F) f (ix2 n l) := by
  unfold valPieces
  rw [View.read_writes_cons_unit_of_not_mem v f _ _ _ _ rfl 1 (.inr (by simpa using hl)),
    View.read_writes_cons_unit_of_not_mem v f _ _ _ _ rfl 1 (.inr (by simpa using hl)),
    View.read_writes_cons_unit_of_not_mem v f _ _ _ _ rfl 1 (.inr (by simpa using hl)), View.writes_nil]

/-- The first point's ones, beside the values. -/
theorem ones_written {κ : Kind} {sp : Space} (v : View sig κ sp S1280x256 .bf16) (f : v.ty.Contents (Elt F)) (L) (n : Fin 1280) (l : Fin 256) (hl : 128 ≤ l.val) :
    v.read (Elt F) (v.writes (Elt F) f (onesPiece :: L)) (ix2 n l) = one16 := by
  unfold onesPiece
  refine (hit v f _ _ _ n _ (n) (⟨l.val - 128, by omega⟩) (by first | omega | (dsimp only; omega)) (by first | omega | (dsimp only; omega))).trans ?_
  pointwise [k0_pay10]

/-- The first point's ones leave the values alone. -/
theorem ones_beside {κ : Kind} {sp : Space} (v : View sig κ sp S1280x256 .bf16) (f : v.ty.Contents (Elt F)) (L) (n : Fin 1280) (l : Fin 256) (hl : l.val < 128) :
    v.read (Elt F) (v.writes (Elt F) f (onesPiece :: L)) (ix2 n l) = v.read (Elt F) (v.writes (Elt F) f L) (ix2 n l) := by
  unfold onesPiece
  rw [View.read_writes_cons_unit_of_not_mem v f _ _ _ _ rfl 1 (.inl (by simpa using hl))]

/-- The scratch of the context's keys after the store. -/
theorem keyx_written {κ : Kind} {sp : Space} (v : View sig κ sp S256x128 .bf16) (f : v.ty.Contents (Elt F)) (n : Fin 256) (l : Fin 128) :
    v.read (Elt F) (v.writes (Elt F) f (keyxPieces harg6 x4)) (ix2 n l) = x4 (ix3 0 n ⟨l.val, by omega⟩) := by
  unfold keyxPieces
  refine (hit v f _ _ _ n _ (n) (l) (by first | omega | (dsimp only; omega)) (by first | omega | (dsimp only; omega))).trans ?_
  pointwise [k0_pay8]
  exact readAt_unread harg6 x4 _ _ _ _ _ (by intro a; fin_cases a <;> simp)

/-- The value columns of the scratch of the context's values after the store. -/
theorem valx_written {κ : Kind} {sp : Space} (v : View sig κ sp S256x256 .bf16) (f : v.ty.Contents (Elt F)) (n : Fin 256) (l : Fin 128) :
    v.read (Elt F) (v.writes (Elt F) f (valxPieces harg6 x4)) (ix2 n ⟨l.val, by omega⟩) = x4 (ix3 0 n ⟨128 + l.val, by omega⟩) := by
  unfold valxPieces
  refine (hit v f _ _ _ n _ (n) (l) (by first | omega | (dsimp only; omega)) (by first | omega | (dsimp only; omega))).trans ?_
  pointwise [k0_pay9]
  exact readAt_unread harg6 x4 _ _ _ _ _ (by intro a; fin_cases a <;> simp)

/-- The store of the context's values leaves the columns beside them alone. -/
theorem onesx_kept {κ : Kind} {sp : Space} (v : View sig κ sp S256x256 .bf16) (f : v.ty.Contents (Elt F)) (n : Fin 256) (l : Fin 256) (hl : 128 ≤ l.val) :
    v.read (Elt F) (v.writes (Elt F) f (valxPieces harg6 x4)) (ix2 n l) = v.read (Elt F) f (ix2 n l) := by
  unfold valxPieces
  rw [View.read_writes_cons_unit_of_not_mem v f _ _ _ _ rfl 1 (.inr (by simpa using hl)), View.writes_nil]

/-- The first point's ones, beside the context's values. -/
theorem onesx_written {κ : Kind} {sp : Space} (v : View sig κ sp S256x256 .bf16) (f : v.ty.Contents (Elt F)) (L) (n : Fin 256) (l : Fin 256) (hl : 128 ≤ l.val) :
    v.read (Elt F) (v.writes (Elt F) f (onesxPiece :: L)) (ix2 n l) = one16 := by
  unfold onesxPiece
  refine (hit v f _ _ _ n _ (n) (⟨l.val - 128, by omega⟩) (by first | omega | (dsimp only; omega)) (by first | omega | (dsimp only; omega))).trans ?_
  pointwise [k0_pay11]

/-- The first point's ones leave the context's values alone. -/
theorem onesx_beside {κ : Kind} {sp : Space} (v : View sig κ sp S256x256 .bf16) (f : v.ty.Contents (Elt F)) (L) (n : Fin 256) (l : Fin 256) (hl : l.val < 128) :
    v.read (Elt F) (v.writes (Elt F) f (onesxPiece :: L)) (ix2 n l) = v.read (Elt F) (v.writes (Elt F) f L) (ix2 n l) := by
  unfold onesxPiece
  rw [View.read_writes_cons_unit_of_not_mem v f _ _ _ _ rfl 1 (.inl (by simpa using hl))]

end Pieces

/-- What a point's loads are, element by element, as functions of its blocks. -/
structure Reads (i : grid0.Coords) (x0 : Vec F S1x1024x512 .bf16) (x1 : Vec F S1x128x256 .bf16) (x2 : Vec F S1x1024x256 .bf16)
    (x3 : Vec F S1x128x256 .bf16) (x4 : Vec F S1x256x256 .bf16) (x5 : Vec F S3x128x384 .f32) (x6 : Vec F S8 .f32)
    (x7 : Vec F S1x512 .f32) (A : Loads F) : Prop where
  q : ∀ (x : Fin 8) (g : Fin 4) (r l : Fin 128), A.q x g (ix3 0 r l) = x0 (ix3 0 ⟨128 * x.val + r.val, by omega⟩ ⟨128 * g.val + l.val, by omega⟩)
  bias : ∀ (x : Fin 8) (r : Fin 128) (w : Fin 384), A.bias x (ix3 0 r w) = x5 (ix3 (variant i x) r w)
  keys : ∀ (x : Fin 8) (w : Fin 384) (l : Fin 128), A.keys x (ix2 w l) = around x1 x2 x3 ⟨128 * x.val + w.val, by omega⟩ ⟨l.val, by omega⟩
  keyx : ∀ (w : Fin 256) (l : Fin 128), A.keyx (ix2 w l) = x4 (ix3 0 w ⟨l.val, by omega⟩)
  vals : ∀ (x : Fin 8) (w : Fin 384) (l : Fin 128), A.vals x (ix2 w ⟨l.val, by omega⟩) = around x1 x2 x3 ⟨128 * x.val + w.val, by omega⟩ ⟨128 + l.val, by omega⟩
  ones : ∀ (x : Fin 8) (w : Fin 384) (l : Fin 256), 128 ≤ l.val → A.vals x (ix2 w l) = one16
  valx : ∀ (w : Fin 256) (l : Fin 128), A.valx (ix2 w ⟨l.val, by omega⟩) = x4 (ix3 0 w ⟨128 + l.val, by omega⟩)
  onesx : ∀ (w : Fin 256) (l : Fin 256), 128 ≤ l.val → A.valx (ix2 w l) = one16
  sink : ∀ j : Fin 8, A.sink j = x6 (ix1 j)
  gn : ∀ (g : Fin 4) (l : Fin 128), A.gn g (ix2 0 l) = x7 (ix2 0 ⟨128 * g.val + l.val, by omega⟩)

/-- The first query block's offset into the bias table. -/
theorem off_first : ∀ i : grid0.Coords, k0_off1 i 0#32 0#32 = ![if (i 1 : ℕ) = 0 then 0 else 1, 0, 0] := by decide +kernel

/-- The last query block's offset into the bias table. -/
theorem off_last : ∀ i : grid0.Coords, k0_off1 i 15#32 2#32 = ![if (i 1 : ℕ) = 15 then 2 else 1, 0, 0] := by decide +kernel

/-- The first query block's variant, as an offset. -/
theorem bias_first (i : grid0.Coords) (r : Fin 128) (w : Fin 384) :
    ∀ a, ((ix3 (variant i 0) r w : S3x128x384.Idx) a : ℕ) = k0_off1 i 0#32 0#32 a + ((ix3 (0 : Fin 1) r w : S1x128x384.Idx) a : ℕ) := by
  rw [off_first]
  intro a
  fin_cases a
  · by_cases h : (i 1 : ℕ) = 0 <;> simp [variant, h]
  · simp
  · simp

/-- The last query block's variant, as an offset. -/
theorem bias_last (i : grid0.Coords) (r : Fin 128) (w : Fin 384) :
    ∀ a, ((ix3 (variant i 7) r w : S3x128x384.Idx) a : ℕ) = k0_off1 i 15#32 2#32 a + ((ix3 (0 : Fin 1) r w : S1x128x384.Idx) a : ℕ) := by
  rw [off_last]
  intro a
  fin_cases a
  · by_cases h : (i 1 : ℕ) = 15 <;> simp [variant, h]
  · simp
  · simp

/-- The other query blocks' variant, as an offset. -/
theorem bias_mid (i : grid0.Coords) (r : Fin 128) (w : Fin 384) (x : Fin 8) (h0 : x ≠ 0) (h7 : x ≠ 7) :
    ∀ a, ((ix3 (variant i x) r w : S3x128x384.Idx) a : ℕ) = (![1, 0, 0] : Fin 3 → ℕ) a + ((ix3 (0 : Fin 1) r w : S1x128x384.Idx) a : ℕ) := by
  intro a
  fin_cases a
  · simp [variant, h0, h7]
  · simp
  · simp

/-- The first point's loads. -/
theorem reads_A (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32) :
    Reads i x0 x1 x2 x3 x4 x5 x6 x7 (rawA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7) := by
  constructor
  · intro x g r l
    exact readAt_unread harg2 x0 _ _ _ _ _ (by intro a; fin_cases a <;> simp)
  · intro x r w
    fin_cases x
    · exact readAt_unread harg7 x5 _ _ _ _ _ (bias_first i r w)
    · exact readAt_unread harg7 x5 _ _ _ _ _ (bias_mid i r w 1 (by decide) (by decide))
    · exact readAt_unread harg7 x5 _ _ _ _ _ (bias_mid i r w 2 (by decide) (by decide))
    · exact readAt_unread harg7 x5 _ _ _ _ _ (bias_mid i r w 3 (by decide) (by decide))
    · exact readAt_unread harg7 x5 _ _ _ _ _ (bias_mid i r w 4 (by decide) (by decide))
    · exact readAt_unread harg7 x5 _ _ _ _ _ (bias_mid i r w 5 (by decide) (by decide))
    · exact readAt_unread harg7 x5 _ _ _ _ _ (bias_mid i r w 6 (by decide) (by decide))
    · exact readAt_unread harg7 x5 _ _ _ _ _ (bias_last i r w)
  · intro x w l
    exact (readCov_at arg11.view _ _ _ _ _ (ix2 ⟨128 * x.val + w.val, by omega⟩ l) (by intro a; fin_cases a <;> simp)).trans (keys_written harg3 harg4 harg5 x1 x2 x3 arg11.view _ _ l)
  · intro w l
    exact (readCov_at arg13.view _ _ _ _ _ (ix2 w l) (by intro a; fin_cases a <;> simp)).trans (keyx_written harg6 x4 arg13.view _ w l)
  · intro x w l
    exact ((readCov_at arg12.view _ _ _ _ _ (ix2 ⟨128 * x.val + w.val, by omega⟩ ⟨l.val, by omega⟩) (by intro a; fin_cases a <;> simp)).trans (ones_beside arg12.view _ _ _ _ l.isLt)).trans
      (vals_written harg3 harg4 harg5 x1 x2 x3 arg12.view _ _ l)
  · intro x w l hl
    exact (readCov_at arg12.view _ _ _ _ _ (ix2 ⟨128 * x.val + w.val, by omega⟩ l) (by intro a; fin_cases a <;> simp)).trans (ones_written arg12.view _ _ _ l hl)
  · intro w l
    exact ((readCov_at arg14.view _ _ _ _ _ (ix2 w ⟨l.val, by omega⟩) (by intro a; fin_cases a <;> simp)).trans (onesx_beside arg14.view _ _ _ _ l.isLt)).trans
      (valx_written harg6 x4 arg14.view _ w l)
  · intro w l hl
    exact (readCov_at arg14.view _ _ _ _ _ (ix2 w l) (by intro a; fin_cases a <;> simp)).trans (onesx_written arg14.view _ _ w l hl)
  · intro j
    exact readAt_unread harg8 x6 _ _ _ _ _ (by intro a; fin_cases a; simp [Shape.Idx.first])
  · intro g l
    exact readAt_unread harg9 x7 _ _ _ _ _ (by intro a; fin_cases a <;> simp)

/-- A later point's loads, when the columns of ones it finds are ones. -/
theorem reads_B (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32)
    (xs1 : Vec F S1280x256 .bf16) (xs3 : Vec F S256x256 .bf16)
    (hs1 : ∀ n l, 128 ≤ l.val → xs1 (ix2 n l) = one16) (hs3 : ∀ n l, 128 ≤ l.val → xs3 (ix2 n l) = one16) :
    Reads i x0 x1 x2 x3 x4 x5 x6 x7 (rawB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xs1 xs3) := by
  constructor
  · intro x g r l
    exact readAt_unread harg2 x0 _ _ _ _ _ (by intro a; fin_cases a <;> simp)
  · intro x r w
    fin_cases x
    · exact readAt_unread harg7 x5 _ _ _ _ _ (bias_first i r w)
    · exact readAt_unread harg7 x5 _ _ _ _ _ (bias_mid i r w 1 (by decide) (by decide))
    · exact readAt_unread harg7 x5 _ _ _ _ _ (bias_mid i r w 2 (by decide) (by decide))
    · exact readAt_unread harg7 x5 _ _ _ _ _ (bias_mid i r w 3 (by decide) (by decide))
    · exact readAt_unread harg7 x5 _ _ _ _ _ (bias_mid i r w 4 (by decide) (by decide))
    · exact readAt_unread harg7 x5 _ _ _ _ _ (bias_mid i r w 5 (by decide) (by decide))
    · exact readAt_unread harg7 x5 _ _ _ _ _ (bias_mid i r w 6 (by decide) (by decide))
    · exact readAt_unread harg7 x5 _ _ _ _ _ (bias_last i r w)
  · intro x w l
    exact (readCov_at arg11.view _ _ _ _ _ (ix2 ⟨128 * x.val + w.val, by omega⟩ l) (by intro a; fin_cases a <;> simp)).trans (keys_written harg3 harg4 harg5 x1 x2 x3 arg11.view _ _ l)
  · intro w l
    exact (readCov_at arg13.view _ _ _ _ _ (ix2 w l) (by intro a; fin_cases a <;> simp)).trans (keyx_written harg6 x4 arg13.view _ w l)
  · intro x w l
    exact (readAt_at arg12.view _ _ _ _ _ (ix2 ⟨128 * x.val + w.val, by omega⟩ ⟨l.val, by omega⟩) (by intro a; fin_cases a <;> simp)).trans (vals_written harg3 harg4 harg5 x1 x2 x3 arg12.view _ _ l)
  · intro x w l hl
    refine ((readAt_at arg12.view _ _ _ _ _ (ix2 ⟨128 * x.val + w.val, by omega⟩ l) (by intro a; fin_cases a <;> simp)).trans (ones_kept harg3 harg4 harg5 x1 x2 x3 arg12.view _ _ l hl)).trans ?_
    rw [harg12.read_unread]; exact hs1 _ _ hl
  · intro w l
    exact (readAt_at arg14.view _ _ _ _ _ (ix2 w ⟨l.val, by omega⟩) (by intro a; fin_cases a <;> simp)).trans (valx_written harg6 x4 arg14.view _ w l)
  · intro w l hl
    refine ((readAt_at arg14.view _ _ _ _ _ (ix2 w l) (by intro a; fin_cases a <;> simp)).trans (onesx_kept harg6 x4 arg14.view _ w l hl)).trans ?_
    rw [harg14.read_unread]; exact hs3 _ _ hl
  · intro j
    exact readAt_unread harg8 x6 _ _ _ _ _ (by intro a; fin_cases a; simp [Shape.Idx.first])
  · intro g l
    exact readAt_unread harg9 x7 _ _ _ _ _ (by intro a; fin_cases a <;> simp)

end Cert.Attn

end
-- ==== Proof.PiecesA.lean ====
/- The first grid point's stores, as the thirty-two tiles of what it loads. -/
module

public import proofs.«01_k».proof.Proof.Block

@[expose] public section

set_option maxRecDepth 16384

noncomputable section

namespace Cert.Attn

open Cert.KernelIdeal Cert.KernelIdeal.Gen Cert.KernelIdeal.Facts
open Idealize.ShloMosaic Idealize.ShloMosaic.TcCoe Idealize.SL.Sem

variable {F : FTy → Type} [FloatOps F]

/-- The first point's stores into its output are the thirty-two tiles of what it loads. -/
theorem pieces_A (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32) (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1 = tiles (rawA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7) := by
  sl_kernel_rfl

end Cert.Attn

end
-- ==== Proof.PiecesB.lean ====
/- A later grid point's stores, as the thirty-two tiles of what it loads. -/
module

public import proofs.«01_k».proof.Proof.Block

@[expose] public section

set_option maxRecDepth 16384

noncomputable section

namespace Cert.Attn

open Cert.KernelIdeal Cert.KernelIdeal.Gen Cert.KernelIdeal.Facts
open Idealize.ShloMosaic Idealize.ShloMosaic.TcCoe Idealize.SL.Sem

variable {F : FTy → Type} [FloatOps F]

/-- A later point's stores into its output are the thirty-two tiles of what it loads. -/
theorem pieces_B (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32)
    (xs1 : Vec F S1280x256 .bf16) (xs3 : Vec F S256x256 .bf16) (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1 xs3).1 = tiles (rawB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xs1 xs3) := by
  sl_kernel_rfl

end Cert.Attn

end
-- ==== Proof.Sweep.lean ====
/- The sweep over the grid: after every point the columns beside the values are ones, so every point's output block is the
   thirty-two tiles of its own loads; and with that what the kernel's result array holds at an index. -/
module

public import proofs.«01_k».proof.Proof.Carry
public import proofs.«01_k».proof.Proof.PiecesA
public import proofs.«01_k».proof.Proof.PiecesB

@[expose] public section

set_option maxRecDepth 16384

noncomputable section

namespace Cert.Attn

open Cert.KernelIdeal Cert.KernelIdeal.Gen Cert.KernelIdeal.Facts Cert.KernelIdeal.Value
open Idealize.ShloMosaic Idealize.ShloMosaic.TcCoe Idealize.SL.Sem

variable {F : FTy → Type} [FloatOps F]

/-- A point's output block at query block `x`, row `r`, group `g`, lane `l` is that tile's entry. -/
theorem tiles_at (A : Loads F) (x : Fin 8) (g : Fin 4) (r l : Fin 128) :
    View.canon (tiles A) (ix3 0 ⟨128 * x.val + r.val, by omega⟩ ⟨128 * g.val + l.val, by omega⟩) = A.tile x g (ix3 0 r l) := by
  refine @View.canon_ofFn_unit_eq_of_forall (Elt F) S1x1024x512 .bf16 _ 32 (fun k : Fin 32 => ![0, 128 * (rowOf k).val, 128 * (grpOf k).val])
    S1x128x128.size (fun k => q_inb (rowOf k) (grpOf k)) (fun k => A.tile (rowOf k) (grpOf k)) _ _ ?_ ?_
  · refine ⟨⟨4 * (7 - x.val) + (3 - g.val), by omega⟩, ?_⟩
    intro a
    fin_cases a
    · simp
    · simp [rowOf]; omega
    · simp [grpOf]; omega
  · intro k y hy
    have h1 := hy 1
    have h2 := hy 2
    have y0 : (y 0 : ℕ) < 1 := (y 0).isLt
    have y1 : (y 1 : ℕ) < 128 := (y 1).isLt
    have y2 : (y 2 : ℕ) < 128 := (y 2).isLt
    simp at h1 h2
    have e1 : rowOf k = x := Fin.ext (by omega)
    have e2 : grpOf k = g := Fin.ext (by omega)
    show A.tile (rowOf k) (grpOf k) y = _
    rw [e1, e2]
    rw [e1] at h1
    rw [e2] at h2
    refine congrArg _ (funext fun a => Fin.ext ?_)
    fin_cases a
    · show (y 0 : ℕ) = 0; omega
    · show (y 1 : ℕ) = r.val; omega
    · show (y 2 : ℕ) = l.val; omega

/-- The first point's output block. -/
theorem out_A (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32) (hc0 : cond0_0 i) :
    out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = View.canon (tiles (rawA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7)) := by
  unfold out0_A_8
  rw [pieces_A, View.read_writes_junk_eq_canon]

/-- A later point's output block. -/
theorem out_B (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32)
    (xs1 : Vec F S1280x256 .bf16) (xs3 : Vec F S256x256 .bf16) (hc0 : ¬cond0_0 i) :
    out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1 xs3 = View.canon (tiles (rawB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xs1 xs3)) := by
  unfold out0_B_8
  rw [pieces_B, View.read_writes_junk_eq_canon]

/-- The first point leaves ones beside the values. -/
theorem ones_A (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32) (hc0 : cond0_0 i) (n : Fin 1280) (l : Fin 256) (hl : 128 ≤ l.val) :
    sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 n l) = one16 := by
  unfold sout0_A_1
  rw [spieces_A_1]
  exact ones_written _ _ _ n l hl

/-- A later point keeps the ones beside the values. -/
theorem ones_B (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32)
    (xs1 : Vec F S1280x256 .bf16) (xs3 : Vec F S256x256 .bf16) (hc0 : ¬cond0_0 i) (h : ∀ n l, 128 ≤ l.val → xs1 (ix2 n l) = one16) (n : Fin 1280) (l : Fin 256) (hl : 128 ≤ l.val) :
    sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1 xs3 (ix2 n l) = one16 := by
  unfold sout0_B_1
  rw [spieces_B_1]
  refine (ones_kept _ _ _ _ _ _ _ _ n l hl).trans ?_
  rw [harg12.read_unread]; exact h n l hl

/-- The first point leaves ones beside the context's values. -/
theorem onesx_A (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32) (hc0 : cond0_0 i) (n : Fin 256) (l : Fin 256) (hl : 128 ≤ l.val) :
    sout0_A_3 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 n l) = one16 := by
  unfold sout0_A_3
  rw [spieces_A_3]
  exact onesx_written _ _ _ n l hl

/-- A later point keeps the ones beside the context's values. -/
theorem onesx_B (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32)
    (xs1 : Vec F S1280x256 .bf16) (xs3 : Vec F S256x256 .bf16) (hc0 : ¬cond0_0 i) (h : ∀ n l, 128 ≤ l.val → xs3 (ix2 n l) = one16) (n : Fin 256) (l : Fin 256) (hl : 128 ≤ l.val) :
    sout0_B_3 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1 xs3 (ix2 n l) = one16 := by
  unfold sout0_B_3
  rw [spieces_B_3]
  refine (onesx_kept _ _ _ _ n l hl).trans ?_
  rw [harg14.read_unread]; exact h n l hl

/-- What holds after a point with blocks `x0 … x7`: its block is the tiles of its own loads, and the columns beside the values are ones. -/
def Good (i : grid0.Coords) (x0 : Vec F S1x1024x512 .bf16) (x1 : Vec F S1x128x256 .bf16) (x2 : Vec F S1x1024x256 .bf16)
    (x3 : Vec F S1x128x256 .bf16) (x4 : Vec F S1x256x256 .bf16) (x5 : Vec F S3x128x384 .f32) (x6 : Vec F S8 .f32)
    (x7 : Vec F S1x512 .f32) (o : Vec F S1x1024x512 .bf16) (o1 : Vec F S1280x256 .bf16) (o3 : Vec F S256x256 .bf16) : Prop :=
  (∃ A : Loads F, Reads i x0 x1 x2 x3 x4 x5 x6 x7 A ∧ o = View.canon (tiles A))
    ∧ (∀ n l, 128 ≤ l.val → o1 (ix2 n l) = one16) ∧ ∀ n l, 128 ≤ l.val → o3 (ix2 n l) = one16

/-- The first point. -/
theorem good_A (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32) (hc0 : cond0_0 i) :
    Good i x0 x1 x2 x3 x4 x5 x6 x7 (out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (sout0_A_3 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) :=
  ⟨⟨_, reads_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7, out_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0⟩, ones_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0, onesx_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0⟩

/-- A later point, after one that left ones. -/
theorem good_B (c : Dev nD) (i : grid0.Coords) (arg2 : Memref sig .tc .vmem S1x1024x512 .bf16) (harg2 : arg2.IsWhole) (arg3 : Memref sig .tc .vmem S1x128x256 .bf16) (harg3 : arg3.IsWhole) (arg4 : Memref sig .tc .vmem S1x1024x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S3x128x384 .f32) (harg7 : arg7.IsWhole) (arg8 : Memref sig .tc .smem S8 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1280x128 .bf16) (harg11 : arg11.IsWhole) (arg12 : Memref sig .tc .vmem S1280x256 .bf16) (harg12 : arg12.IsWhole) (arg13 : Memref sig .tc .vmem S256x128 .bf16) (harg13 : arg13.IsWhole) (arg14 : Memref sig .tc .vmem S256x256 .bf16) (harg14 : arg14.IsWhole)  (x0 : Vec F S1x1024x512 .bf16) (x1 : Vec F S1x128x256 .bf16) (x2 : Vec F S1x1024x256 .bf16) (x3 : Vec F S1x128x256 .bf16) (x4 : Vec F S1x256x256 .bf16) (x5 : Vec F S3x128x384 .f32) (x6 : Vec F S8 .f32) (x7 : Vec F S1x512 .f32)
    (xs1 : Vec F S1280x256 .bf16) (xs3 : Vec F S256x256 .bf16) (hc0 : ¬cond0_0 i) (h1 : ∀ n l, 128 ≤ l.val → xs1 (ix2 n l) = one16) (h3 : ∀ n l, 128 ≤ l.val → xs3 (ix2 n l) = one16) :
    Good i x0 x1 x2 x3 x4 x5 x6 x7 (out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1 xs3) (sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1 xs3) (sout0_B_3 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1 xs3) :=
  ⟨⟨_, reads_B c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xs1 xs3 h1 h3, out_B c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xs1 xs3 hc0⟩, ones_B c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xs1 xs3 hc0 h1, onesx_B c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xs1 xs3 hc0 h3⟩

variable (m : (ℓ : Loc nD τ sig) → Buf (Elt F) ℓ)

/-- Every point of the sweep leaves that. -/
theorem after_point (c : Dev nD) : ∀ (n : ℕ) (hn : n < cfg0.N), Good (grid0.coords ⟨n, hn⟩) (iblk m c 0 ⟨n, hn⟩) (iblk m c 1 ⟨n, hn⟩)
    (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩)
    (outsAt0 m c n hn).1 (outsAt0 m c n hn).2.1 (outsAt0 m c n hn).2.2
  | 0, hn => by
    have e := outsAt0_A m c ⟨0, hn⟩ (Nat.zero_mod _)
    dsimp only at e
    rw [e]
    dsimp only
    exact good_A _ _ _ _ _ _ _ _ _ _ _ _ _ _ _ _ _ _ _ _ _ _ _ _ _ _ _ _ _ _ _ _ _ _ _ _ _
  | n + 1, hn => by
    have ih := after_point c n (Nat.lt_of_succ_lt hn)
    have hN : cfg0.N = 32 := N_0
    have e := outsAt0_B m c ⟨n + 1, hn⟩ (by show ¬ (n + 1) % 32 = 0; omega)
    dsimp only at e
    rw [e]
    dsimp only
    exact good_B _ _ _ _ _ _ _ _ _ _ _ _ _ _ _ _ _ _ _ _ _ _ _ _ _ _ _ _ _ _ _ _ _ _ _ _ _ _ _ ih.2.1 ih.2.2

/-- What the kernel's result holds at row `1024 s + 128 x + r` of sequence `b`, in group `g`, lane `l`: the entry of the tile the
    point `(b, s)` computes from its loads. -/
theorem G8_at (c : Dev nD) (b : Fin 2) (s : Fin 16) :
    ∃ A : Loads F, (∀ t : Fin cfg0.N, t.val = 16 * b.val + s.val → Reads (grid0.coords t) (iblk m c 0 t) (iblk m c 1 t) (iblk m c 2 t)
      (iblk m c 3 t) (iblk m c 4 t) (iblk m c 5 t) (iblk m c 6 t) (iblk m c 7 t) A)
      ∧ ∀ (x : Fin 8) (g : Fin 4) (r l : Fin 128), G8 m c (ix3 b ⟨1024 * s.val + 128 * x.val + r.val, by omega⟩ ⟨128 * g.val + l.val, by omega⟩)
        = A.tile x g (ix3 0 r l) := by
  have hN : cfg0.N = 32 := N_0
  have ht : 16 * b.val + s.val < cfg0.N := by omega
  obtain ⟨⟨A, hA, ho⟩, -, -⟩ := after_point m c (16 * b.val + s.val) ht
  refine ⟨A, fun t e => ?_, fun x g r l => ?_⟩
  · obtain rfl : t = ⟨16 * b.val + s.val, ht⟩ := Fin.ext e
    exact hA
  · have hp : pt8Of (ix3 b ⟨1024 * s.val + 128 * x.val + r.val, by omega⟩ ⟨128 * g.val + l.val, by omega⟩) = 16 * b.val + s.val := by
      show 16 * (b.val / 1 - 0) + 1 * ((1024 * s.val + 128 * x.val + r.val) / 1024 - 0) + 1 * ((128 * g.val + l.val) / 512 - 0) = _
      omega
    have hl : loc8Of (ix3 b ⟨1024 * s.val + 128 * x.val + r.val, by omega⟩ ⟨128 * g.val + l.val, by omega⟩)
        = ix3 0 ⟨128 * x.val + r.val, by omega⟩ ⟨128 * g.val + l.val, by omega⟩ := by
      funext a
      apply Fin.ext
      match a with
      | ⟨0, _⟩ => show b.val % 1 = 0; omega
      | ⟨1, _⟩ => show (1024 * s.val + 128 * x.val + r.val) % 1024 = 128 * x.val + r.val; omega
      | ⟨2, _⟩ => show (128 * g.val + l.val) % 512 = 128 * g.val + l.val; omega
    unfold G8
    rw [dif_pos (by rw [hp]; exact ht), hl, fold0_congr m c _ _ _ (by omega : 0 + (16 * b.val + s.val) < cfg0.N) hp, ← outsAt0_sweep m c _ ht, ho]
    exact tiles_at A x g r l

end Cert.Attn

end
-- ==== Proof.Core.lean ====
/- The arithmetic of one softmax-weighted average, over the extended reals and with nothing about programs: a tile that
   weighs with powers of two and divides once at the end, and the textbook softmax that divides every weight first, are the
   same average. -/
module

public import Idealize.ShloMosaic.PureOps.Ideal

@[expose] public section

noncomputable section

namespace Cert.Attn

open Idealize.ShloMosaic

variable {ι κ : Type*} [Fintype ι] [Fintype κ]

/-- The weight a base-2 score carries: the real number `2 ^ x`, and nothing for the score `⊥` of a masked key. -/
def wt2 (x : EReal) : ℝ := (Ideal.exp2 x).toReal

/-- The weight a natural score carries: the real number `e ^ x`, and nothing for the score `⊥` of a masked key. -/
def wtE (x : EReal) : ℝ := (Ideal.exp x).toReal

/-- A masked base-2 score weighs nothing. -/
theorem wt2_bot : wt2 ⊥ = 0 := by simp [wt2]

/-- A real base-2 score weighs its power of two. -/
theorem wt2_coe (r : ℝ) : wt2 (r : EReal) = (2 : ℝ) ^ r := by simp [wt2]

/-- A masked natural score weighs nothing. -/
theorem wtE_bot : wtE ⊥ = 0 := by simp [wtE]

/-- A real natural score weighs its exponential. -/
theorem wtE_coe (r : ℝ) : wtE (r : EReal) = Real.exp r := by simp [wtE]

/-- No base-2 weight is negative. -/
theorem wt2_nonneg (x : EReal) : 0 ≤ wt2 x := by
  induction x with
  | bot => rw [wt2_bot]
  | top => exact (EReal.toReal_top).ge
  | coe r => rw [wt2_coe]; positivity

/-- A natural score that is `ln 2` times a base-2 score weighs what that one weighs. -/
theorem wtE_log_two (r : ℝ) : wtE ((r * Real.log 2 : ℝ) : EReal) = wt2 (r : EReal) := by
  rw [wtE_coe, wt2_coe, Real.rpow_def_of_pos two_pos, mul_comm]

/-- Lowering a base-2 score by `M` divides its weight by `2 ^ M`. -/
theorem exp2_sub (x : EReal) (hx : x ≠ ⊤) (M : ℝ) :
    Ideal.exp2 (x - (M : EReal)) = ((wt2 x * (2 : ℝ) ^ (-M) : ℝ) : EReal) := by
  induction x with
  | bot => simp [wt2_bot, EReal.bot_sub]
  | top => exact absurd rfl hx
  | coe r =>
    rw [← EReal.coe_sub, Ideal.exp2_coe, wt2_coe, ← Real.rpow_add two_pos, ← sub_eq_add_neg]
    rfl

/-- Lowering a natural score by `M` divides its weight by `e ^ M`. -/
theorem exp_sub (x : EReal) (hx : x ≠ ⊤) (M : ℝ) :
    Ideal.exp (x - (M : EReal)) = ((wtE x * Real.exp (-M) : ℝ) : EReal) := by
  induction x with
  | bot => simp [wtE_bot, EReal.bot_sub]
  | top => exact absurd rfl hx
  | coe r => rw [← EReal.coe_sub, Ideal.exp_coe, wtE_coe, ← Real.exp_add, sub_eq_add_neg]

/-- A nonnegative real factor comes out of a sum of extended reals, whatever the terms are. -/
theorem mul_sum_coe (c : ℝ) (hc : 0 ≤ c) (s : Finset ι) (f : ι → EReal) :
    ∑ i ∈ s, (c : EReal) * f i = (c : EReal) * ∑ i ∈ s, f i := by
  classical
  induction s using Finset.induction_on with
  | empty => simp
  | insert a s ha ih =>
    rw [Finset.sum_insert ha, Finset.sum_insert ha, ih,
      EReal.left_distrib_of_nonneg_of_ne_top (by exact_mod_cast hc) (EReal.coe_ne_top c)]

/-- A sum of real numbers is the real sum. -/
theorem coe_sum (f : ι → ℝ) : ∑ i, ((f i : ℝ) : EReal) = ((∑ i, f i : ℝ) : EReal) :=
  (map_sum (⟨⟨Real.toEReal, rfl⟩, EReal.coe_add⟩ : ℝ →+ EReal) f Finset.univ).symm

/-- The average of the values `v` and `x` under the weights `a` and `b`, a weight `g` going to nothing: one softmax
    row over local keys, context keys and a sink. -/
def softAvg (a : ι → ℝ) (b : κ → ℝ) (g : ℝ) (v : ι → EReal) (x : κ → EReal) : EReal :=
  (((∑ i, a i) + (∑ j, b j) + g)⁻¹ : ℝ) * ((∑ i, (a i : EReal) * v i) + ∑ j, (b j : EReal) * x j)

/-- A key of weight zero may carry any value. -/
theorem softAvg_congr {a a' : ι → ℝ} {b b' : κ → ℝ} {g g' : ℝ} {v v' : ι → EReal} {x x' : κ → EReal}
    (ha : ∀ i, a i = a' i) (hb : ∀ j, b j = b' j) (hg : g = g') (hv : ∀ i, a' i ≠ 0 → v i = v' i) (hx : ∀ j, x j = x' j) :
    softAvg a b g v x = softAvg a' b' g' v' x' := by
  have hs : ∀ i, (a i : EReal) * v i = (a' i : EReal) * v' i := fun i => by
    rw [ha i]
    by_cases h : a' i = 0
    · simp [h]
    · rw [hv i h]
  simp only [softAvg, hs, hb, hg, hx]
  simp only [ha]

/-- A sum of weighted values whose weights are all scaled by one factor. -/
theorem sum_scaled (a : ι → ℝ) (c : ℝ) (hc : 0 ≤ c) (v : ι → EReal) :
    ∑ i, ((a i * c : ℝ) : EReal) * v i = (c : EReal) * ∑ i, (a i : EReal) * v i := by
  rw [← mul_sum_coe c hc]
  exact Finset.sum_congr rfl fun i _ => by rw [mul_comm (a i) c, EReal.coe_mul, mul_assoc]

/-- The tile's form of the average: the numerators and the row sums are accumulated with weights lowered by the row's
    largest score, and one division is made at the end. -/
theorem tile_avg (s : ι → EReal) (hs : ∀ i, s i ≠ ⊤) (u : κ → EReal) (hu : ∀ j, u j ≠ ⊤) (z M : ℝ)
    (v : ι → EReal) (x : κ → EReal) :
    Ideal.div ((∑ i, Ideal.exp2 (s i - (M : EReal)) * v i) + ∑ j, Ideal.exp2 (u j - (M : EReal)) * x j)
      (((∑ i, Ideal.exp2 (s i - (M : EReal))) + ∑ j, Ideal.exp2 (u j - (M : EReal)))
        + Ideal.exp2 ((z : EReal) - (M : EReal)))
      = softAvg (fun i => wt2 (s i)) (fun j => wt2 (u j)) (wt2 (z : EReal)) v x := by
  have hc : (0 : ℝ) < (2 : ℝ) ^ (-M) := by positivity
  simp only [exp2_sub _ (hs _), exp2_sub _ (hu _), exp2_sub _ (EReal.coe_ne_top z), sum_scaled _ _ hc.le, coe_sum]
  rw [← EReal.left_distrib_of_nonneg_of_ne_top (by exact_mod_cast hc.le) (EReal.coe_ne_top _), ← EReal.coe_add,
    ← EReal.coe_add, ← Finset.sum_mul, ← Finset.sum_mul, ← add_mul, ← add_mul]
  have hg : 0 < wt2 (z : EReal) := by rw [wt2_coe]; positivity
  have hA : 0 ≤ ∑ i, wt2 (s i) := Finset.sum_nonneg fun i _ => wt2_nonneg _
  have hB : 0 ≤ ∑ j, wt2 (u j) := Finset.sum_nonneg fun j _ => wt2_nonneg _
  have hD : (0 : ℝ) < (∑ i, wt2 (s i)) + (∑ j, wt2 (u j)) + wt2 (z : EReal) := by positivity
  rw [Ideal.div_coe (mul_pos hD hc).ne', softAvg, mul_comm, ← mul_assoc, ← EReal.coe_mul]
  congr 2
  field_simp

/-- The textbook form of the average: every weight is divided by the row's sum before it multiplies its value. -/
theorem softmax_avg (s : ι → EReal) (hs : ∀ i, s i ≠ ⊤) (u : κ → EReal) (hu : ∀ j, u j ≠ ⊤) (z M : ℝ) (S : EReal)
    (hS : S = ((∑ i, Ideal.exp (s i - (M : EReal))) + ∑ j, Ideal.exp (u j - (M : EReal)))
        + Ideal.exp ((z : EReal) - (M : EReal)))
    (v : ι → EReal) (x : κ → EReal) :
    (∑ i, Ideal.div (Ideal.exp (s i - (M : EReal))) S * v i) + ∑ j, Ideal.div (Ideal.exp (u j - (M : EReal))) S * x j
      = softAvg (fun i => wtE (s i)) (fun j => wtE (u j)) (wtE (z : EReal)) v x := by
  have hc : (0 : ℝ) < Real.exp (-M) := Real.exp_pos _
  have hn : ∀ y : EReal, 0 ≤ wtE y := fun y => by
    induction y with
    | bot => rw [wtE_bot]
    | top => exact (EReal.toReal_top).ge
    | coe r => rw [wtE_coe]; positivity
  have hg : 0 < wtE (z : EReal) := by rw [wtE_coe]; positivity
  have hA : 0 ≤ ∑ i, wtE (s i) := Finset.sum_nonneg fun i _ => hn _
  have hB : 0 ≤ ∑ j, wtE (u j) := Finset.sum_nonneg fun j _ => hn _
  have hD : (0 : ℝ) < (∑ i, wtE (s i)) + (∑ j, wtE (u j)) + wtE (z : EReal) := by positivity
  simp only [exp_sub _ (hs _), exp_sub _ (hu _), exp_sub _ (EReal.coe_ne_top z), coe_sum] at hS ⊢
  rw [← EReal.coe_add, ← EReal.coe_add, ← Finset.sum_mul, ← Finset.sum_mul, ← add_mul, ← add_mul] at hS
  subst hS
  set D : ℝ := (∑ i, wtE (s i)) + (∑ j, wtE (u j)) + wtE (z : EReal) with hDdef
  have hw : ∀ y : EReal, Ideal.div ((wtE y * Real.exp (-M) : ℝ) : EReal) ((D * Real.exp (-M) : ℝ) : EReal)
      = ((wtE y * D⁻¹ : ℝ) : EReal) := fun y => by
    rw [Ideal.div_coe (mul_pos hD hc).ne', ← EReal.coe_mul]
    congr 1
    field_simp
  simp only [hw, sum_scaled _ _ (inv_nonneg.2 hD.le)]
  rw [← EReal.left_distrib_of_nonneg_of_ne_top (by exact_mod_cast (inv_nonneg.2 hD.le)) (EReal.coe_ne_top _), softAvg]

/-- The largest of finitely many scores, none of them `⊤`, is not `⊤`. -/
theorem fold_max_ne_top (s : Finset ι) (f : ι → EReal) (hf : ∀ i, f i ≠ ⊤) (b : EReal) (hb : b ≠ ⊤) :
    s.fold max b f ≠ ⊤ := by
  classical
  induction s using Finset.induction_on with
  | empty => simpa using hb
  | insert a s ha ih =>
    rw [Finset.fold_insert ha]
    exact fun h => (max_eq_top.1 h).elim (hf a) ih

/-- A row's largest score is a real number: it is at least the sink's and no score is `⊤`. -/
theorem max_real (a b : EReal) (ha : a ≠ ⊤) (hb : b ≠ ⊤) (z : ℝ) : ∃ M : ℝ, max (max a b) (z : EReal) = (M : EReal) := by
  have ht : max (max a b) (z : EReal) ≠ ⊤ := fun h =>
    (max_eq_top.1 h).elim (fun h => (max_eq_top.1 h).elim ha hb) (EReal.coe_ne_top z)
  have hbot : max (max a b) (z : EReal) ≠ ⊥ := fun h => EReal.coe_ne_bot z (max_eq_bot.1 h).2
  exact ⟨_, (EReal.coe_toReal ht hbot).symm⟩

end Cert.Attn

end
-- ==== Proof.Spec.lean ====
/- The attention in plain mathematics: every query's softmax-weighted average of the values within its window, of the
   context's values and of a sink that carries nothing, then the norm over the 512 columns. -/
module

public import proofs.«01_k».proof.Proof.Core

@[expose] public section

noncomputable section

namespace Cert.Attn

open Idealize.ShloMosaic

/-- The arguments as numbers, read by batch entry, position and column: real queries, keys and sinks, and values and
    weights that may be infinite. -/
structure Inputs where
  q : Fin 2 → Fin 16384 → Fin 512 → ℝ
  k : Fin 2 → Fin 16384 → Fin 128 → ℝ
  v : Fin 2 → Fin 16384 → Fin 128 → EReal
  kx : Fin 2 → Fin 256 → Fin 128 → ℝ
  vx : Fin 2 → Fin 256 → Fin 128 → EReal
  z : Fin 8 → ℝ
  gn : Fin 512 → EReal

/-- Whether window column `w` of row `i` of query block `n` is attended to: at most 128 positions away, and a position
    of the sequence. -/
def inWin (n i : Fin 128) (w : Fin 384) : Prop :=
  (i.val ≤ w.val ∧ w.val ≤ i.val + 256) ∧ 128 ≤ 128 * n.val + w.val ∧ 128 * n.val + w.val < 16512

instance (n i : Fin 128) (w : Fin 384) : Decidable (inWin n i w) := inferInstanceAs (Decidable (_ ∧ _))

/-- The position window column `w` of query block `n` stands for (some position for a column outside the sequence). -/
def kvRow (n : Fin 128) (w : Fin 384) : Fin 16384 := ⟨min (128 * n.val + w.val - 128) 16383, by omega⟩

/-- Position `i` of query block `n`. -/
def qRow (n i : Fin 128) : Fin 16384 := ⟨128 * n.val + i.val, by omega⟩

/-- Dimension `d` of key head `h` in query group `g`. -/
def qCol (g : Fin 4) (h : Fin 2) (d : Fin 64) : Fin 512 := ⟨128 * g.val + 64 * h.val + d.val, by omega⟩

/-- Dimension `d` of key head `h`. -/
def kCol (h : Fin 2) (d : Fin 64) : Fin 128 := ⟨64 * h.val + d.val, by omega⟩

/-- The key head of a column of the key heads. -/
def headOf (l : Fin 128) : Fin 2 := ⟨l.val / 64, by omega⟩

/-- The sink of a query head. -/
def zOf (g : Fin 4) (h : Fin 2) : Fin 8 := ⟨4 * h.val + g.val, by omega⟩

namespace Inputs

variable (I : Inputs) (b : Fin 2) (n i : Fin 128) (g : Fin 4) (h : Fin 2)

/-- A query's product with the key of a window column. -/
def locDot (w : Fin 384) : ℝ := ∑ d : Fin 64, I.q b (qRow n i) (qCol g h d) * I.k b (kvRow n w) (kCol h d)

/-- A query's base-2 score for a window column: minus infinity outside the window. -/
def loc (w : Fin 384) : EReal := if inWin n i w then ((I.locDot b n i g h w : ℝ) : EReal) else ⊥

/-- A query's base-2 score for a position of the context. -/
def ctx (j : Fin 256) : ℝ := ∑ d : Fin 64, I.q b (qRow n i) (qCol g h d) * I.kx b j (kCol h d)

/-- One entry of the attention. -/
def att (l : Fin 128) : EReal :=
  softAvg (fun w => wt2 (I.loc b n i g (headOf l) w)) (fun j => wt2 ((I.ctx b n i g (headOf l) j : ℝ) : EReal))
    (wt2 ((I.z (zOf g (headOf l)) : ℝ) : EReal)) (fun w => I.v b (kvRow n w) l) (fun j => I.vx b j l)

/-- One entry of the result: the attention over the root of its mean square, times the norm's weight. -/
def out (l : Fin 128) : EReal :=
  I.att b n i g l
    * Ideal.rsqrt ((∑ g' : Fin 4, ∑ l' : Fin 128, I.att b n i g' l' * I.att b n i g' l') * (((1 : ℝ) / 512 : ℝ) : EReal)
      + Ideal.ofBits .f32 897988541#32)
    * I.gn ⟨128 * g.val + l.val, by omega⟩

/-- No score of a window column is `⊤`. -/
theorem loc_ne_top (w : Fin 384) : I.loc b n i g h w ≠ ⊤ := by
  unfold loc
  split
  · exact EReal.coe_ne_top _
  · exact bot_ne_top

end Inputs

end Cert.Attn

end
-- ==== Proof.Blocks.lean ====
/- What the windows bring to a grid point, in the coordinates of the arrays: the queries of the step, the keys and values of
   the step and of one block on each side, the context, and the three variants of the bias table. -/
module

public import proofs.«01_k».proof.Proof.Carry
public import Idealize.ShloMosaic.Lib.Claim
public import Idealize.ShloMosaic.Lib.StableHlo.ReadAt

@[expose] public section

set_option maxRecDepth 16384

noncomputable section

namespace Cert.Attn

open Cert.KernelIdeal Cert.KernelIdeal.Gen Cert.KernelIdeal.Facts Cert.KernelIdeal.Value
open Idealize.ShloMosaic Idealize.ShloMosaic.TcCoe Idealize.SL.Sem

variable {F : FTy → Type} [FloatOps F]
variable (m : (ℓ : Loc nD τ sig) → Buf (Elt F) ℓ)

/-- The windows' places in their arrays, by sequence and step. -/
theorem places : ∀ t : Fin cfg0.N,
    win0_0.index t = ![t.val / 16, t.val % 16, 0] ∧ win0_1.index t = ![t.val / 16, 8 * (t.val % 16) - 1, 0]
    ∧ win0_2.index t = ![t.val / 16, t.val % 16, 0] ∧ win0_3.index t = ![t.val / 16, min (8 * (t.val % 16 + 1)) 127, 0]
    ∧ win0_4.index t = ![t.val / 16, 0, 0] ∧ win0_5.index t = ![0, 0, 0] ∧ win0_6.index t = ![0] ∧ win0_7.index t = ![0, 0]
    ∧ (grid0.coords t 1 : ℕ) = t.val % 16 :=
  (by decide +kernel : ∀ t : Fin grid0.N, _)

/-- The points are the two sequences' sixteen steps. -/
theorem point_lt (t : Fin cfg0.N) : t.val < 32 := lt_of_lt_of_eq t.isLt N_0

/-- The queries of a point. -/
theorem blk0 (c : Dev nD) (t : Fin cfg0.N) (r : Fin 1024) (l : Fin 512) (b : Fin 2) (p : Fin 16384) (hb : b.val = t.val / 16)
    (hp : p.val = 1024 * (t.val % 16) + r.val) :
    iblk m c 0 t (ix3 0 r l) = m ((c : Thread nD τ).loc main_arg0) (ix3 b p l) := by
  show V m c main_arg0 (((cfg0.win 0).blk t).view.emb (ix3 0 r l)) = _
  rw [V_main_arg0]
  have e := (places t).1
  refine congrArg _ (funext fun a => Fin.ext ?_)
  match a with
  | ⟨0, _⟩ => show win0_0.index t (0 : Fin 3) * 1 + 1 * 0 = b.val; rw [e]; simp [hb]
  | ⟨1, _⟩ => show win0_0.index t (1 : Fin 3) * 1024 + 1 * r.val = p.val; rw [e]; simp [hp]; omega
  | ⟨2, _⟩ => show win0_0.index t (2 : Fin 3) * 512 + 1 * l.val = l.val; rw [e]; simp

/-- The block of keys and values before a point's own. -/
theorem blk1 (c : Dev nD) (t : Fin cfg0.N) (r : Fin 128) (l : Fin 256) (b : Fin 2) (p : Fin 16384) (hb : b.val = t.val / 16)
    (hp : p.val = 128 * (8 * (t.val % 16) - 1) + r.val) :
    iblk m c 1 t (ix3 0 r l) = m ((c : Thread nD τ).loc main_arg1) (ix3 b p l) := by
  show V m c main_arg1 (((cfg0.win 1).blk t).view.emb (ix3 0 r l)) = _
  rw [V_main_arg1]
  have e := (places t).2.1
  refine congrArg _ (funext fun a => Fin.ext ?_)
  match a with
  | ⟨0, _⟩ => show win0_1.index t (0 : Fin 3) * 1 + 1 * 0 = b.val; rw [e]; simp [hb]
  | ⟨1, _⟩ => show win0_1.index t (1 : Fin 3) * 128 + 1 * r.val = p.val; rw [e]; simp [hp]; omega
  | ⟨2, _⟩ => show win0_1.index t (2 : Fin 3) * 256 + 1 * l.val = l.val; rw [e]; simp

/-- A point's own keys and values. -/
theorem blk2 (c : Dev nD) (t : Fin cfg0.N) (r : Fin 1024) (l : Fin 256) (b : Fin 2) (p : Fin 16384) (hb : b.val = t.val / 16)
    (hp : p.val = 1024 * (t.val % 16) + r.val) :
    iblk m c 2 t (ix3 0 r l) = m ((c : Thread nD τ).loc main_arg1) (ix3 b p l) := by
  show V m c main_arg1 (((cfg0.win 2).blk t).view.emb (ix3 0 r l)) = _
  rw [V_main_arg1]
  have e := (places t).2.2.1
  refine congrArg _ (funext fun a => Fin.ext ?_)
  match a with
  | ⟨0, _⟩ => show win0_2.index t (0 : Fin 3) * 1 + 1 * 0 = b.val; rw [e]; simp [hb]
  | ⟨1, _⟩ => show win0_2.index t (1 : Fin 3) * 1024 + 1 * r.val = p.val; rw [e]; simp [hp]; omega
  | ⟨2, _⟩ => show win0_2.index t (2 : Fin 3) * 256 + 1 * l.val = l.val; rw [e]; simp

/-- The block of keys and values after a point's own. -/
theorem blk3 (c : Dev nD) (t : Fin cfg0.N) (r : Fin 128) (l : Fin 256) (b : Fin 2) (p : Fin 16384) (hb : b.val = t.val / 16)
    (hp : p.val = 128 * min (8 * (t.val % 16 + 1)) 127 + r.val) :
    iblk m c 3 t (ix3 0 r l) = m ((c : Thread nD τ).loc main_arg1) (ix3 b p l) := by
  show V m c main_arg1 (((cfg0.win 3).blk t).view.emb (ix3 0 r l)) = _
  rw [V_main_arg1]
  have e := (places t).2.2.2.1
  refine congrArg _ (funext fun a => Fin.ext ?_)
  match a with
  | ⟨0, _⟩ => show win0_3.index t (0 : Fin 3) * 1 + 1 * 0 = b.val; rw [e]; simp [hb]
  | ⟨1, _⟩ => show win0_3.index t (1 : Fin 3) * 128 + 1 * r.val = p.val; rw [e, hp]; show min (8 * (t.val % 16 + 1)) 127 * 128 + 1 * r.val = _; omega
  | ⟨2, _⟩ => show win0_3.index t (2 : Fin 3) * 256 + 1 * l.val = l.val; rw [e]; simp

/-- The context's keys and values. -/
theorem blk4 (c : Dev nD) (t : Fin cfg0.N) (r : Fin 256) (l : Fin 256) (b : Fin 2) (hb : b.val = t.val / 16) :
    iblk m c 4 t (ix3 0 r l) = m ((c : Thread nD τ).loc main_arg2) (ix3 b r l) := by
  show V m c main_arg2 (((cfg0.win 4).blk t).view.emb (ix3 0 r l)) = _
  rw [V_main_arg2]
  have e := (places t).2.2.2.2.1
  refine congrArg _ (funext fun a => Fin.ext ?_)
  match a with
  | ⟨0, _⟩ => show win0_4.index t (0 : Fin 3) * 1 + 1 * 0 = b.val; rw [e]; simp [hb]
  | ⟨1, _⟩ => show win0_4.index t (1 : Fin 3) * 256 + 1 * r.val = r.val; rw [e]; simp
  | ⟨2, _⟩ => show win0_4.index t (2 : Fin 3) * 256 + 1 * l.val = l.val; rw [e]; simp

/-- The bias table, whole at every point. -/
theorem blk5 (c : Dev nD) (t : Fin cfg0.N) (v : Fin 3) (r : Fin 128) (w : Fin 384) :
    iblk m c 5 t (ix3 v r w) = V m c main_v26 (ix3 v r w) := by
  show V m c main_v26 (((cfg0.win 5).blk t).view.emb (ix3 v r w)) = _
  have e := (places t).2.2.2.2.2.1
  refine congrArg _ (funext fun a => Fin.ext ?_)
  match a with
  | ⟨0, _⟩ => show win0_5.index t (0 : Fin 3) * 3 + 1 * v.val = v.val; rw [e]; simp
  | ⟨1, _⟩ => show win0_5.index t (1 : Fin 3) * 128 + 1 * r.val = r.val; rw [e]; simp
  | ⟨2, _⟩ => show win0_5.index t (2 : Fin 3) * 384 + 1 * w.val = w.val; rw [e]; simp

/-- The sinks, whole at every point. -/
theorem blk6 (c : Dev nD) (t : Fin cfg0.N) (j : Fin 8) :
    iblk m c 6 t (ix1 j) = m ((c : Thread nD τ).loc main_arg3) (ix1 j) := by
  show V m c main_arg3 (((cfg0.win 6).blk t).view.emb (ix1 j)) = _
  rw [V_main_arg3]
  have e := (places t).2.2.2.2.2.2.1
  refine congrArg _ (funext fun a => Fin.ext ?_)
  match a with
  | ⟨0, _⟩ => show win0_6.index t (0 : Fin 1) * 8 + 1 * j.val = j.val; rw [e]; simp

/-- The norm's weights, whole at every point. -/
theorem blk7 (c : Dev nD) (t : Fin cfg0.N) (l : Fin 512) :
    iblk m c 7 t (ix2 0 l) = m ((c : Thread nD τ).loc main_arg4) (ix2 0 l) := by
  show V m c main_arg4 (((cfg0.win 7).blk t).view.emb (ix2 0 l)) = _
  rw [V_main_arg4]
  have e := (places t).2.2.2.2.2.2.2.1
  refine congrArg _ (funext fun a => Fin.ext ?_)
  match a with
  | ⟨0, _⟩ => show win0_7.index t (0 : Fin 2) * 1 + 1 * 0 = 0; rw [e]; simp
  | ⟨1, _⟩ => show win0_7.index t (1 : Fin 2) * 512 + 1 * l.val = l.val; rw [e]; simp

/-- The 1280 rows a point sees are rows of the array where they lie in it: row `n` is row `1024 s + n - 128`. -/
theorem around_row (c : Dev nD) (t : Fin cfg0.N) (n : Fin 1280) (l : Fin 256) (b : Fin 2) (p : Fin 16384) (hb : b.val = t.val / 16)
    (hp : 128 + p.val = 1024 * (t.val % 16) + n.val) :
    around (iblk m c 1 t) (iblk m c 2 t) (iblk m c 3 t) n l = m ((c : Thread nD τ).loc main_arg1) (ix3 b p l) := by
  have ht := point_lt t
  unfold around
  split
  · exact blk1 m c t _ l b p hb (by show p.val = 128 * (8 * (t.val % 16) - 1) + n.val; omega)
  · split
    · exact blk2 m c t _ l b p hb (by show p.val = 1024 * (t.val % 16) + (n.val - 128); omega)
    · exact blk3 m c t _ l b p hb (by show p.val = 128 * min (8 * (t.val % 16 + 1)) 127 + (n.val - 1152); omega)

/-- Every one of them is a row of the array, in it or clamped to its ends. -/
theorem around_some (c : Dev nD) (t : Fin cfg0.N) (n : Fin 1280) (l : Fin 256) (b : Fin 2) (hb : b.val = t.val / 16) :
    ∃ p : Fin 16384, around (iblk m c 1 t) (iblk m c 2 t) (iblk m c 3 t) n l = m ((c : Thread nD τ).loc main_arg1) (ix3 b p l) := by
  have ht := point_lt t
  unfold around
  split
  · exact ⟨⟨128 * (8 * (t.val % 16) - 1) + n.val, by omega⟩, blk1 m c t _ l b _ hb rfl⟩
  · split
    · exact ⟨⟨1024 * (t.val % 16) + (n.val - 128), by omega⟩, blk2 m c t _ l b _ hb rfl⟩
    · exact ⟨⟨128 * min (8 * (t.val % 16 + 1)) 127 + (n.val - 1152), by omega⟩, blk3 m c t _ l b _ hb rfl⟩

end Cert.Attn

end
-- ==== Proof.Bias.lean ====
/- The table of biases the kernel is given: per variant, nothing added to the scores within the window and minus infinity to
   the others. -/
module

public import proofs.«01_k».proof.Proof.Blocks
public import Idealize.ShloMosaic.Lib.Pointwise

@[expose] public section

set_option maxRecDepth 16384

noncomputable section

namespace Cert.Attn

open Cert.KernelIdeal Cert.KernelIdeal.Gen Cert.KernelIdeal.Facts
open Idealize.ShloMosaic Idealize.ShloMosaic.TcCoe Idealize.SL.Sem

/-- A small number as a word is itself. -/
theorem word_nat (n : ℕ) (h : n < 2 ^ 31) : (BitVec.ofNat 32 n).toInt = n := by
  rw [BitVec.toInt_ofNat', Int.bmod_def]
  omega

/-- The distance of two words, small as numbers, is compared with the window as the numbers are. -/
theorem window_word (x : BitVec 32) (e : ℤ) (hx : x.toInt = e) (h : -2 ^ 31 < e) :
    IntOp.cmpi .sle (IntOp.absi x) 128#32 = if -128 ≤ e ∧ e ≤ 128 then 1#1 else 0#1 := by
  have hm : x.msb = decide (e < 0) := by rw [BitVec.msb_eq_toInt, hx]
  have ha : (IntOp.absi x).toInt = if e < 0 then -e else e := by
    rw [IntOp.absi, hm]
    by_cases he : e < 0
    · simp only [he, decide_true, if_true]
      rw [BitVec.toInt_neg, hx, Int.bmod_def]
      have := BitVec.le_toInt x
      norm_num at *
      omega
    · simpa [he] using hx
  have hc : IntOp.cmpi .sle (IntOp.absi x) 128#32 = 1#1 ↔ -128 ≤ e ∧ e ≤ 128 := by
    rw [IntOp.cmpi_sle, ha]
    have : (128#32 : BitVec 32).toInt = 128 := by decide
    rw [this]
    split <;> omega
  by_cases hh : -128 ≤ e ∧ e ≤ 128
  · rw [if_pos hh]; exact hc.2 hh
  · rw [if_neg hh]
    have := mt hc.1 hh
    revert this
    generalize IntOp.cmpi .sle (IntOp.absi x) 128#32 = c
    revert c; decide

/-- A comparison of words is the comparison of the numbers. -/
theorem sge_word (x y : BitVec 32) (a b : ℤ) (hx : x.toInt = a) (hy : y.toInt = b) :
    IntOp.cmpi .sge x y = if b ≤ a then 1#1 else 0#1 := by
  have hc : IntOp.cmpi .sge x y = 1#1 ↔ b ≤ a := by rw [IntOp.cmpi_sge, hx, hy]
  by_cases hh : b ≤ a
  · rw [if_pos hh]; exact hc.2 hh
  · rw [if_neg hh]
    have := mt hc.1 hh
    revert this
    generalize IntOp.cmpi .sge x y = c
    revert c; decide

/-- A comparison of words is the comparison of the numbers. -/
theorem slt_word (x y : BitVec 32) (a b : ℤ) (hx : x.toInt = a) (hy : y.toInt = b) :
    IntOp.cmpi .slt x y = if a < b then 1#1 else 0#1 := by
  have hc : IntOp.cmpi .slt x y = 1#1 ↔ a < b := by rw [IntOp.cmpi_slt, hx, hy]
  by_cases hh : a < b
  · rw [if_pos hh]; exact hc.2 hh
  · rw [if_neg hh]
    have := mt hc.1 hh
    revert this
    generalize IntOp.cmpi .slt x y = c
    revert c; decide

/-- The difference of two words, small as numbers. -/
theorem sub_word (x y : BitVec 32) (a b : ℤ) (hx : x.toInt = a) (hy : y.toInt = b) (h : -2 ^ 31 ≤ a - b ∧ a - b < 2 ^ 31) :
    (IntOp.subi x y).toInt = a - b := by
  rw [IntOp.subi, BitVec.toInt_sub, hx, hy, Int.bmod_def]
  norm_num at *
  omega

/-- The sum of two words, small as numbers. -/
theorem add_word (x y : BitVec 32) (a b : ℤ) (hx : x.toInt = a) (hy : y.toInt = b) (h : -2 ^ 31 ≤ a + b ∧ a + b < 2 ^ 31) :
    (IntOp.addi x y).toInt = a + b := by
  rw [IntOp.addi, BitVec.toInt_add, hx, hy, Int.bmod_def]
  norm_num at *
  omega

/-- The product of two words, small as numbers. -/
theorem mul_word (x y : BitVec 32) (a b : ℤ) (hx : x.toInt = a) (hy : y.toInt = b) (h : -2 ^ 31 ≤ a * b ∧ a * b < 2 ^ 31) :
    (IntOp.muli x y).toInt = a * b := by
  rw [IntOp.muli, BitVec.toInt_mul, hx, hy, Int.bmod_def]
  generalize a * b = e at *
  norm_num at *
  omega

/-- The pattern of minus infinity is the least extended real. -/
theorem ofBits_bot : Ideal.ofBits .f32 4286578688#32 = ⊥ := by
  simp [Ideal.ofBits, Ideal.ieee]

/-- A choice by a bit that says whether a condition holds. -/
theorem select_if {α : Type} (p : Prop) [Decidable p] (a b : α) :
    Scalar.select (if p then 1#1 else 0#1) a b = if p then a else b := by
  by_cases h : p <;> simp [h, Scalar.select]

/-- The bit that says two conditions hold. -/
theorem andi_if (p q : Prop) [Decidable p] [Decidable q] :
    IntOp.andi (if p then 1#1 else 0#1) (if q then 1#1 else 0#1) = if p ∧ q then 1#1 else 0#1 := by
  by_cases h : p <;> by_cases h' : q <;> simp [h, h', IntOp.andi]

/-- The bias of a row and a window column: zero within the window, minus infinity outside it; the first variant also masks
    the block before the row's, the last the block after it. -/
theorem bias_table (m : (ℓ : Loc nD τ sig) → Buf (Elt Ideal) ℓ) (c : Dev nD) (v : Fin 3) (r : Fin 128) (w : Fin 384) :
    V m c main_v26 (ix3 v r w)
      = if (r.val ≤ w.val ∧ w.val ≤ r.val + 256) ∧ (v.val = 0 → 128 ≤ w.val) ∧ (v.val = 2 → w.val < 256)
        then (0 : EReal) else ⊥ := by
  have hr := r.isLt
  have hw := w.isLt
  have hv := v.isLt
  unfold V
  simp only [hostOps0, hostOps0_1, hostOps0_2, hostOps0_3, hostOps0_4, hostOps0_5, hostOps0_6, List.flatten_cons,
    List.flatten_nil, List.append_nil, List.cons_append, List.nil_append]
  after_results_simp
  pointwise
  after_results_simp
  simp only [StableHlo.TRef.ofBuf, StableHlo.TRef.toBuf, cast_eq]
  pointwise
  have hW : (BitVec.ofNat 32 w.val).toInt = w.val := word_nat _ (by omega)
  have h0 : (IntOp.subi (IntOp.addi (BitVec.ofNat 32 r.val) 128#32) (BitVec.ofNat 32 w.val)).toInt
      = (r.val : ℤ) + 128 - w.val :=
    sub_word _ _ _ _ (add_word _ _ _ _ (word_nat _ (by omega)) (by decide) (by omega)) hW (by omega)
  rw [window_word _ _ h0 (by omega), sge_word _ _ _ _ hW (by decide : (128#32 : BitVec 32).toInt = 128),
    slt_word _ _ _ _ hW (by decide : (256#32 : BitVec 32).toInt = 256), ofBits_bot]
  simp only [andi_if, select_if]
  split_ifs <;> first | rfl | (exfalso; omega)

end Cert.Attn

end
-- ==== Proof.Tile.lean ====
/- One tile's value over the extended reals: the group's attention and the norm, from the numbers the point loads. -/
module

public import proofs.«01_k».proof.Proof.Spec
public import proofs.«01_k».proof.Proof.Bias

@[expose] public section

set_option maxRecDepth 16384

noncomputable section

namespace Cert.Attn

open Cert.KernelIdeal Cert.KernelIdeal.Gen Cert.KernelIdeal.Facts
open Idealize.ShloMosaic Idealize.ShloMosaic.TcCoe Idealize.SL.Sem

/-- The pattern of one in sixteen bits is one. -/
theorem one16_eq : (one16 : Elt Ideal .bf16) = (1 : EReal) := by
  show Ideal.ofBits .bf16 0x3F80#16 = 1
  exact Ideal.ofBits_one_bf16

/-- The norm's factor is one over 512. -/
theorem ofBits_512th : Ideal.ofBits .f32 989855744#32 = (((1 : ℝ) / 512 : ℝ) : EReal) := by
  simp [Ideal.ofBits, Ideal.ieee]
  rw [← EReal.coe_mul]
  norm_num

/-- A lane of the first head, as a bit. -/
theorem low_word (l : ℕ) (hl : l < 256) (k : ℕ) (hk : k < 256) :
    IntOp.cmpi .slt (BitVec.ofNat 32 l) (BitVec.ofNat 32 k) = if l < k then 1#1 else 0#1 := by
  rw [slt_word _ _ _ _ (word_nat l (by omega)) (word_nat k (by omega))]
  simp

/-- The queries of the two heads stacked: a row of the upper half keeps the first head's lanes, one of the lower half the
    second's. -/
theorem stacked (q : Vec Ideal S1x128x128 .bf16) (h : Fin 2) (r : Fin 128) (d : Fin 128) :
    k0_pay16 k0_pay12 k0_pay14 q (ix2 (⟨128 * h.val + r.val, by omega⟩ : Fin 256) d)
      = if headOf d = h then q (ix3 0 r d) else (0 : EReal) := by
  have hd := d.isLt
  have hh : h = 0 ∨ h = 1 := by omega
  rcases hh with rfl | rfl
  · have e : (⟨128 * (0 : Fin 2).val + r.val, by omega⟩ : Fin 256) = ⟨r.val, by omega⟩ := by simp
    rw [e]
    pointwise [k0_pay16, k0_pay12, k0_pay14]
    rw [low_word d.val (by omega) 64 (by omega), select_if]
    have hc : (d.val < 64) = (headOf d = 0) := propext (by simp only [headOf, Fin.ext_iff, Fin.val_zero]; omega)
    simp only [hc]
  · have e : (⟨128 * (1 : Fin 2).val + r.val, by omega⟩ : Fin 256) = ⟨128 + r.val, by omega⟩ := by simp
    rw [e]
    pointwise [k0_pay16, k0_pay12, k0_pay14]
    rw [low_word d.val (by omega) 64 (by omega), select_if]
    have hc : (headOf d = 1) = ¬(d.val < 64) := propext (by simp only [headOf, Fin.ext_iff, Fin.val_one]; omega)
    simp only [hc, ite_not]

/-- A sum over the 128 lanes of which one head's alone count is the sum over that head's dimensions. -/
theorem half_sum (h : Fin 2) (f y : Fin 128 → EReal) :
    ∑ x, (if headOf x = h then f x else 0) * y x = ∑ d : Fin 64, f (kCol h d) * y (kCol h d) := by
  have hs := Fin.sum_univ_add (a := 64) (b := 64) (fun x : Fin (64 + 64) => (if headOf x = h then f x else 0) * y x)
  refine Eq.trans hs ?_
  have hh : h = 0 ∨ h = 1 := by omega
  rcases hh with rfl | rfl
  · have h1 : ∀ d : Fin 64, headOf (Fin.castAdd 64 d) = 0 := fun d => by
      simp only [headOf, Fin.ext_iff, Fin.val_castAdd, Fin.val_zero]; omega
    have h2 : ∀ d : Fin 64, headOf (Fin.natAdd 64 d) ≠ 0 := fun d => by
      simp only [headOf, Ne, Fin.ext_iff, Fin.val_natAdd, Fin.val_zero]; omega
    simp only [h1, h2, if_true, if_false, zero_mul, Finset.sum_const_zero, add_zero]
    exact Finset.sum_congr rfl fun d _ => by
      have : Fin.castAdd 64 d = kCol 0 d := Fin.ext (by simp [kCol])
      rw [this]
  · have h1 : ∀ d : Fin 64, headOf (Fin.castAdd 64 d) ≠ 1 := fun d => by
      simp only [headOf, Ne, Fin.ext_iff, Fin.val_castAdd, Fin.val_one]; omega
    have h2 : ∀ d : Fin 64, headOf (Fin.natAdd 64 d) = 1 := fun d => by
      simp only [headOf, Fin.ext_iff, Fin.val_natAdd, Fin.val_one]; omega
    simp only [h1, h2, if_true, if_false, zero_mul, Finset.sum_const_zero, zero_add]
    exact Finset.sum_congr rfl fun d _ => by
      have : Fin.natAdd 64 d = kCol 1 d := Fin.ext (by simp [kCol, add_comm])
      rw [this]

/-- A row of the stacked tile. -/
def row2 (h : Fin 2) (r : Fin 128) : Fin 256 := ⟨128 * h.val + r.val, by omega⟩

/-- A score against the context's keys. -/
theorem ctx_score (q : Vec Ideal S1x128x128 .bf16) (kx : Vec Ideal S256x128 .bf16) (h : Fin 2) (r : Fin 128) (j : Fin 256) :
    k0_pay17 k0_pay12 k0_pay14 q kx (ix2 (row2 h r) j)
      = ∑ d : Fin 64, (q (ix3 0 r (kCol h d)) : EReal) * kx (ix2 j (kCol h d)) := by
  pointwise [k0_pay17]
  simp only [row2, stacked]
  exact half_sum h (fun x => q (ix3 0 r x)) (fun x => kx (ix2 j x))

/-- A score against the keys around the block, its bias added. -/
theorem loc_score (bb : Vec Ideal S1x128x384 .f32) (q : Vec Ideal S1x128x128 .bf16) (kl : Vec Ideal S384x128 .bf16) (h : Fin 2)
    (r : Fin 128) (w : Fin 384) (hb : 128 ≤ w.val → w.val < 256 → bb (ix3 0 r w) = (0 : EReal)) :
    k0_pay18 k0_pay12 k0_pay14 (k0_pay15 bb) q kl (ix2 (row2 h r) w)
      = (∑ d : Fin 64, (q (ix3 0 r (kCol h d)) : EReal) * kl (ix2 w (kCol h d))) + bb (ix3 0 r w) := by
  have hw := w.isLt
  pointwise [k0_pay18, k0_pay15]
  simp only [row2, stacked]
  have hm : ∀ p, (⟨(128 * h.val + r.val) % 128, p⟩ : Fin 128) = r := fun _ => Fin.ext (by simp)
  have h1 : ∀ p, w.val - 128 < 128 → 128 ≤ w.val → (⟨128 + (w.val - 128), p⟩ : Fin 384) = w := fun _ _ _ => Fin.ext (by simp; omega)
  have h2 : ∀ p, 256 ≤ w.val → (⟨256 + (w.val - 128 - 128), p⟩ : Fin 384) = w := fun _ _ => Fin.ext (by simp; omega)
  have hsum := half_sum h (fun x => q (ix3 0 r x)) (fun x => kl (ix2 w x))
  by_cases ha : w.val < 128
  · rw [dif_pos ha, hm, ← hsum]
  · rw [dif_neg ha]
    by_cases hc : w.val - 128 < 128
    · rw [dif_pos hc, h1 _ hc (by omega), hb (by omega) (by omega), add_zero, ← hsum]
    · rw [dif_neg hc, h2 _ (by omega), hm, ← hsum]

section Weights

variable (bb : Vec Ideal S128x384 .f32) (q : Vec Ideal S1x128x128 .bf16) (kl : Vec Ideal S384x128 .bf16)
  (kx : Vec Ideal S256x128 .bf16) (z0 z1 : Elt Ideal .f32)

/-- The sink of a row: the first head's in the upper half, the second's in the lower. -/
theorem sink_row (h : Fin 2) (r : Fin 128) :
    k0_pay19 k0_pay13 z0 z1 (ix2 (row2 h r) (0 : Fin 1)) = if h = 0 then z0 else z1 := by
  have hh : h = 0 ∨ h = 1 := by omega
  pointwise [k0_pay19, k0_pay13]
  simp only [row2]
  rw [low_word _ (by omega) 128 (by omega), select_if]
  rcases hh with rfl | rfl <;> simp

/-- What is taken off a row's scores: the largest of them and of the sink. -/
theorem largest (h : Fin 2) (r : Fin 128) :
    k0_pay20 k0_pay12 k0_pay13 k0_pay14 bb q kl kx z0 z1 (ix2 (row2 h r) (0 : Fin 1))
      = max (max (Finset.univ.fold max (⊥ : EReal) fun w : Fin 384 => k0_pay18 k0_pay12 k0_pay14 bb q kl (ix2 (row2 h r) w))
          (Finset.univ.fold max (⊥ : EReal) fun j : Fin 256 => k0_pay17 k0_pay12 k0_pay14 q kx (ix2 (row2 h r) j)))
        (if h = 0 then z0 else z1) := by
  rw [← sink_row z0 z1 h r, ← ofBits_bot]
  pointwise [k0_pay20]

/-- The weight of a key around the block. -/
theorem loc_weight (R : Fin 256) (w : Fin 384) :
    k0_pay21 k0_pay12 k0_pay13 k0_pay14 bb q kl kx z0 z1 (ix2 R w)
      = Ideal.exp2 (k0_pay18 k0_pay12 k0_pay14 bb q kl (ix2 R w)
          - k0_pay20 k0_pay12 k0_pay13 k0_pay14 bb q kl kx z0 z1 (ix2 R (0 : Fin 1))) := by
  pointwise [k0_pay21]
  rfl

/-- The weight of a key of the context. -/
theorem ctx_weight (R : Fin 256) (j : Fin 256) :
    k0_pay22 k0_pay12 k0_pay13 k0_pay14 bb q kl kx z0 z1 (ix2 R j)
      = Ideal.exp2 (k0_pay17 k0_pay12 k0_pay14 q kx (ix2 R j)
          - k0_pay20 k0_pay12 k0_pay13 k0_pay14 bb q kl kx z0 z1 (ix2 R (0 : Fin 1))) := by
  pointwise [k0_pay22]
  rfl

/-- The sink's weight. -/
theorem sink_weight (R : Fin 256) :
    k0_pay23 k0_pay12 k0_pay13 k0_pay14 bb q kl kx z0 z1 (ix2 R (0 : Fin 1))
      = Ideal.exp2 (k0_pay19 k0_pay13 z0 z1 (ix2 R (0 : Fin 1))
          - k0_pay20 k0_pay12 k0_pay13 k0_pay14 bb q kl kx z0 z1 (ix2 R (0 : Fin 1))) := by
  pointwise [k0_pay23]
  rfl

end Weights

/-- The division at the end, and the choice of the head's half. -/
theorem divided (e1 : FVec Ideal S256x384 .bf16) (e2 : FVec Ideal S256x256 .bf16) (es : FVec Ideal S256x1 .f32)
    (vl : Vec Ideal S384x256 .bf16) (vx : Vec Ideal S256x256 .bf16) (r l : Fin 128)
    (hl : ∀ w, vl (ix2 w (⟨128 + l.val, by omega⟩ : Fin 256)) = (1 : EReal))
    (hx : ∀ j, vx (ix2 j (⟨128 + l.val, by omega⟩ : Fin 256)) = (1 : EReal)) :
    k0_pay32 k0_pay12 e1 e2 es vl vx (ix2 r l)
      = Ideal.div ((∑ w, (e1 (ix2 (row2 (headOf l) r) w) : EReal) * vl (ix2 w (⟨l.val, by omega⟩ : Fin 256)))
            + ∑ j, (e2 (ix2 (row2 (headOf l) r) j) : EReal) * vx (ix2 j (⟨l.val, by omega⟩ : Fin 256)))
          (((∑ w, (e1 (ix2 (row2 (headOf l) r) w) : EReal)) + ∑ j, (e2 (ix2 (row2 (headOf l) r) j) : EReal))
            + es (ix2 (row2 (headOf l) r) (0 : Fin 1))) := by
  pointwise [k0_pay32, k0_pay12]
  rw [low_word l.val (by omega) 64 (by omega), select_if]
  simp only [hl, hx, mul_one]
  have hh : headOf l = 0 ∨ headOf l = 1 := by omega
  rcases hh with h | h
  · have e : row2 (headOf l) r = ⟨r.val, by omega⟩ := Fin.ext (by simp [row2, h])
    have hc : l.val < 64 := by simp only [headOf, Fin.ext_iff, Fin.val_zero] at h; omega
    rw [if_pos hc, e]
  · have e : row2 (headOf l) r = ⟨128 + r.val, by omega⟩ := Fin.ext (by simp [row2, h])
    have hc : ¬l.val < 64 := by simp only [headOf, Fin.ext_iff, Fin.val_one] at h; omega
    rw [if_neg hc, e]

/-- One entry of a group: the softmax-weighted average under the row's scores. -/
theorem group_value (bb : Vec Ideal S1x128x384 .f32) (q : Vec Ideal S1x128x128 .bf16) (kl : Vec Ideal S384x128 .bf16)
    (kx : Vec Ideal S256x128 .bf16) (vl : Vec Ideal S384x256 .bf16) (vx : Vec Ideal S256x256 .bf16) (z0 z1 : Elt Ideal .f32)
    (r l : Fin 128) (s : Fin 384 → EReal) (u : Fin 256 → EReal) (z : ℝ)
    (hs : ∀ w, k0_pay18 k0_pay12 k0_pay14 (k0_pay15 bb) q kl (ix2 (row2 (headOf l) r) w) = s w) (hst : ∀ w, s w ≠ ⊤)
    (hu : ∀ j, k0_pay17 k0_pay12 k0_pay14 q kx (ix2 (row2 (headOf l) r) j) = u j) (hut : ∀ j, u j ≠ ⊤)
    (hz : (if headOf l = 0 then z0 else z1) = (z : EReal))
    (hl : ∀ w, vl (ix2 w (⟨128 + l.val, by omega⟩ : Fin 256)) = (1 : EReal))
    (hx : ∀ j, vx (ix2 j (⟨128 + l.val, by omega⟩ : Fin 256)) = (1 : EReal)) :
    group q bb kl kx vl vx z0 z1 (ix2 r l)
      = softAvg (fun w => wt2 (s w)) (fun j => wt2 (u j)) (wt2 (z : EReal)) (fun w => vl (ix2 w (⟨l.val, by omega⟩ : Fin 256)))
          (fun j => vx (ix2 j (⟨l.val, by omega⟩ : Fin 256))) := by
  rw [group, divided _ _ _ _ _ _ _ hl hx]
  simp only [loc_weight, ctx_weight, sink_weight, sink_row, largest, hs, hu, hz]
  obtain ⟨M, hM⟩ := max_real _ _ (fold_max_ne_top Finset.univ s hst ⊥ bot_ne_top)
    (fold_max_ne_top Finset.univ u hut ⊥ bot_ne_top) z
  simp only [hM]
  exact tile_avg s hst u hut z M _ _

/-- A head's dimension among its group's columns. -/
theorem qCol_eq (g : Fin 4) (h : Fin 2) (d : Fin 64) (p) : (⟨128 * g.val + (kCol h d).val, p⟩ : Fin 512) = qCol g h d :=
  Fin.ext (by simp [kCol, qCol, add_assoc])

/-- What one query block loads, in the arguments' numbers. -/
structure Block (I : Inputs) (b : Fin 2) (n : Fin 128) (A : Loads Ideal) (x : Fin 8) : Prop where
  q : ∀ (g : Fin 4) (r d : Fin 128), A.q x g (ix3 0 r d) = ((I.q b (qRow n r) ⟨128 * g.val + d.val, by omega⟩ : ℝ) : EReal)
  bias : ∀ (r : Fin 128) (w : Fin 384), A.bias x (ix3 0 r w) = if inWin n r w then (0 : EReal) else ⊥
  keys : ∀ (w : Fin 384) (d : Fin 128), 128 ≤ 128 * n.val + w.val → 128 * n.val + w.val < 16512 →
    A.keys x (ix2 w d) = ((I.k b (kvRow n w) d : ℝ) : EReal)
  keyx : ∀ (j : Fin 256) (d : Fin 128), A.keyx (ix2 j d) = ((I.kx b j d : ℝ) : EReal)
  vals : ∀ (w : Fin 384) (d : Fin 128), 128 ≤ 128 * n.val + w.val → 128 * n.val + w.val < 16512 →
    A.vals x (ix2 w (⟨d.val, by omega⟩ : Fin 256)) = I.v b (kvRow n w) d
  ones : ∀ (w : Fin 384) (d : Fin 128), A.vals x (ix2 w (⟨128 + d.val, by omega⟩ : Fin 256)) = (1 : EReal)
  valx : ∀ (j : Fin 256) (d : Fin 128), A.valx (ix2 j (⟨d.val, by omega⟩ : Fin 256)) = I.vx b j d
  onesx : ∀ (j : Fin 256) (d : Fin 128), A.valx (ix2 j (⟨128 + d.val, by omega⟩ : Fin 256)) = (1 : EReal)
  sink : ∀ j : Fin 8, A.sink j = ((I.z j : ℝ) : EReal)
  gn : ∀ (g : Fin 4) (d : Fin 128), A.gn g (ix2 0 d) = I.gn ⟨128 * g.val + d.val, by omega⟩

variable {I : Inputs} {b : Fin 2} {n : Fin 128} {A : Loads Ideal} {x : Fin 8}

/-- One entry of a group, from what the block loads, is the attention's. -/
theorem Block.att (H : Block I b n A x) (g : Fin 4) (r l : Fin 128) : A.group x g (ix2 r l) = I.att b n r g l := by
  refine (group_value (A.bias x) (A.q x g) (A.keys x) A.keyx (A.vals x) A.valx _ _ r l
    (fun w => I.loc b n r g (headOf l) w) (fun j => ((I.ctx b n r g (headOf l) j : ℝ) : EReal)) (I.z (zOf g (headOf l)))
    (fun w => ?_) (fun w => I.loc_ne_top b n r g (headOf l) w) (fun j => ?_) (fun j => EReal.coe_ne_top _) ?_
    (fun w => H.ones w l) (fun j => H.onesx j l)).trans ?_
  · rw [loc_score]
    · rw [H.bias, Inputs.loc]
      by_cases hw : inWin n r w
      · rw [if_pos hw, if_pos hw, add_zero, Inputs.locDot, ← coe_sum]
        refine Finset.sum_congr rfl fun d _ => ?_
        rw [H.q, H.keys w _ hw.2.1 hw.2.2, qCol_eq, ← EReal.coe_mul]
      · rw [if_neg hw, if_neg hw, EReal.add_bot]
    · intro h1 h2
      rw [H.bias, if_pos]
      have := r.isLt; have := n.isLt
      refine ⟨⟨?_, ?_⟩, ?_, ?_⟩ <;> omega
  · rw [ctx_score, Inputs.ctx, ← coe_sum]
    refine Finset.sum_congr rfl fun d _ => ?_
    rw [H.q, H.keyx, qCol_eq, ← EReal.coe_mul]
  · have hh : headOf l = 0 ∨ headOf l = 1 := by omega
    rcases hh with h | h
    · rw [if_pos h, H.sink, h]
      have e : (⟨g.val, by omega⟩ : Fin 8) = zOf g 0 := Fin.ext (by simp [zOf])
      rw [e]
    · rw [if_neg (by rw [h]; decide), H.sink, h]
      rfl
  · refine softAvg_congr (fun _ => rfl) (fun _ => rfl) rfl (fun w hw => ?_) (fun j => H.valx j l)
    have hin : inWin n r w := by
      by_contra hc
      exact hw (by rw [Inputs.loc, if_neg hc, wt2_bot])
    exact H.vals w l hin.2.1 hin.2.2

/-- The sum of squares of a group's row. -/
theorem sq_value (t : FVec Ideal S128x128 .f32) (r : Fin 128) :
    sq t (ix2 r (0 : Fin 1)) = ∑ l : Fin 128, (t (ix2 r l) : EReal) * t (ix2 r l) := by
  pointwise [sq]

/-- The norm's factor of a row. -/
theorem rnorm_value (t0 t1 t2 t3 : FVec Ideal S128x128 .f32) (r : Fin 128) :
    rnorm t0 t1 t2 t3 (ix2 r (0 : Fin 1))
      = Ideal.rsqrt ((sq t0 (ix2 r (0 : Fin 1)) + sq t1 (ix2 r (0 : Fin 1)) + sq t2 (ix2 r (0 : Fin 1)) + sq t3 (ix2 r (0 : Fin 1)))
          * (((1 : ℝ) / 512 : ℝ) : EReal) + Ideal.ofBits .f32 897988541#32) := by
  rw [← ofBits_512th]
  pointwise [rnorm]

/-- One entry of a tile, from what the block loads, is the result's. -/
theorem Block.out (H : Block I b n A x) (g : Fin 4) (r l : Fin 128) : A.tile x g (ix3 0 r l) = I.out b n r g l := by
  have h : A.tile x g (ix3 0 r l) = (A.group x g (ix2 r l) : EReal)
      * rnorm (A.group x 0) (A.group x 1) (A.group x 2) (A.group x 3) (ix2 r (0 : Fin 1)) * A.gn g (ix2 0 l) := by
    unfold Loads.tile
    pointwise [k0_pay69]
  rw [h, rnorm_value, H.att, H.gn, Inputs.out, Fin.sum_univ_four]
  simp only [sq_value, H.att]

end Cert.Attn

end
-- ==== Proof.Whole.lean ====
/- The kernel's result, entry by entry, in the arguments' numbers. -/
module

public import proofs.«01_k».proof.Proof.Sweep
public import proofs.«01_k».proof.Proof.Tile

@[expose] public section

set_option maxRecDepth 16384

noncomputable section

namespace Cert.Attn

open Cert.KernelIdeal Cert.KernelIdeal.Gen Cert.KernelIdeal.Facts Cert.KernelIdeal.Value
open Idealize.ShloMosaic Idealize.ShloMosaic.TcCoe Idealize.SL.Sem

/-- The five arguments hold these numbers. -/
structure Agrees (I : Inputs) (x0 : Vec Ideal S2x16384x512 .bf16) (x1 : Vec Ideal S2x16384x256 .bf16)
    (x2 : Vec Ideal S2x256x256 .bf16) (x3 : Vec Ideal S8 .f32) (x4 : Vec Ideal S1x512 .f32) : Prop where
  q : ∀ b p k, x0 (ix3 b p k) = ((I.q b p k : ℝ) : EReal)
  k : ∀ b p (l : Fin 128), x1 (ix3 b p (⟨l.val, by omega⟩ : Fin 256)) = ((I.k b p l : ℝ) : EReal)
  v : ∀ b p (l : Fin 128), x1 (ix3 b p (⟨128 + l.val, by omega⟩ : Fin 256)) = I.v b p l
  kx : ∀ b p (l : Fin 128), x2 (ix3 b p (⟨l.val, by omega⟩ : Fin 256)) = ((I.kx b p l : ℝ) : EReal)
  vx : ∀ b p (l : Fin 128), x2 (ix3 b p (⟨128 + l.val, by omega⟩ : Fin 256)) = I.vx b p l
  z : ∀ j, x3 (ix1 j) = ((I.z j : ℝ) : EReal)
  gn : ∀ k, x4 (ix2 0 k) = I.gn k

variable (m : (ℓ : Loc nD τ sig) → Buf (Elt Ideal) ℓ) (c : Dev nD) {I : Inputs}

/-- What a point loads for one of its query blocks is the arguments' numbers of that block. -/
theorem block_of (H : Agrees I (m ((c : Thread nD τ).loc main_arg0)) (m ((c : Thread nD τ).loc main_arg1))
      (m ((c : Thread nD τ).loc main_arg2)) (m ((c : Thread nD τ).loc main_arg3)) (m ((c : Thread nD τ).loc main_arg4)))
    (b : Fin 2) (s : Fin 16) (x : Fin 8) (t : Fin cfg0.N) (ht : t.val = 16 * b.val + s.val) (A : Loads Ideal)
    (R : Reads (grid0.coords t) (iblk m c 0 t) (iblk m c 1 t) (iblk m c 2 t) (iblk m c 3 t) (iblk m c 4 t) (iblk m c 5 t)
      (iblk m c 6 t) (iblk m c 7 t) A) :
    Block I b ⟨8 * s.val + x.val, by omega⟩ A x where
  q g r d := by
    rw [R.q, blk0 m c t _ _ b (qRow ⟨8 * s.val + x.val, by omega⟩ r) (by omega) (by simp only [qRow]; omega), H.q]
  bias r w := by
    have hi := (places t).2.2.2.2.2.2.2.2
    rw [R.bias, blk5, bias_table]
    have hs : t.val % 16 = s.val := by omega
    rw [hs] at hi
    have hw := w.isLt; have hr := r.isLt; have hx := x.isLt; have hsl := s.isLt
    congr 1
    refine propext ?_
    unfold inWin variant
    rw [hi]
    by_cases h0 : x = 0 ∧ s.val = 0
    · rw [if_pos h0]
      have := congrArg Fin.val h0.1
      simp at this
      simp; omega
    · rw [if_neg h0]
      by_cases h1 : x = 7 ∧ s.val = 15
      · rw [if_pos h1]
        have := congrArg Fin.val h1.1
        simp at this
        simp; omega
      · rw [if_neg h1]
        have h0' : ¬(x.val = 0 ∧ s.val = 0) := fun h => h0 ⟨Fin.ext h.1, h.2⟩
        have h1' : ¬(x.val = 7 ∧ s.val = 15) := fun h => h1 ⟨Fin.ext h.1, h.2⟩
        have e1 : (1 : Fin 3).val = 1 := rfl
        rw [e1]
        dsimp only
        omega
  keys w d h1 h2 := by
    rw [R.keys, around_row m c t _ _ b (kvRow ⟨8 * s.val + x.val, by omega⟩ w) (by omega) (by simp only [kvRow] at *; omega), H.k]
  keyx j d := by rw [R.keyx, blk4 m c t _ _ b (by omega), H.kx]
  vals w d h1 h2 := by
    rw [R.vals, around_row m c t _ _ b (kvRow ⟨8 * s.val + x.val, by omega⟩ w) (by omega) (by simp only [kvRow] at *; omega), H.v]
  ones w d := by rw [R.ones x w _ (by simp), one16_eq]
  valx j d := by rw [R.valx, blk4 m c t _ _ b (by omega), H.vx]
  onesx j d := by rw [R.onesx j _ (by simp), one16_eq]
  sink j := by rw [R.sink, blk6, H.z]
  gn g d := by rw [R.gn, blk7, H.gn]

/-- Every entry of the kernel's result. -/
theorem kernel_at (H : Agrees I (m ((c : Thread nD τ).loc main_arg0)) (m ((c : Thread nD τ).loc main_arg1))
      (m ((c : Thread nD τ).loc main_arg2)) (m ((c : Thread nD τ).loc main_arg3)) (m ((c : Thread nD τ).loc main_arg4)))
    (b : Fin 2) (n r : Fin 128) (g : Fin 4) (l : Fin 128) :
    G8 m c (ix3 b (qRow n r) ⟨128 * g.val + l.val, by omega⟩) = I.out b n r g l := by
  obtain ⟨A, hA, hG⟩ := G8_at m c b ⟨n.val / 8, by omega⟩
  have hB := block_of m c H b ⟨n.val / 8, by omega⟩ ⟨n.val % 8, by omega⟩
    (⟨16 * b.val + n.val / 8, lt_of_lt_of_eq (by omega) N_0.symm⟩ : Fin cfg0.N) rfl A (hA _ rfl)
  have hn : (⟨8 * (n.val / 8) + n.val % 8, by omega⟩ : Fin 128) = n := Fin.ext (by simp; omega)
  have ho := hB.out g r l
  rw [← hG ⟨n.val % 8, by omega⟩ g r l] at ho
  dsimp only at ho
  rw [hn] at ho
  rw [← ho]
  congr 2
  exact Fin.ext (by simp only [qRow]; omega)

end Cert.Attn

end
-- ==== Proof.Finite.lean ====
/- The precondition read back: the queries, the keys and the sink logits are real numbers. -/
module

public import proofs.«01_k».proof.Pre_finite
public import proofs.«01_k».proof.Proof.Whole
public import Idealize.ShloMosaic.Lib.ReduceAll
public import Idealize.ShloMosaic.Lib.Pointwise

@[expose] public section

set_option maxRecDepth 16384

noncomputable section

namespace Cert.Attn

open Cert.Pre_finite
open Idealize.ShloMosaic

/-- The relations between shapes that the precondition's operations take. -/
theorem finite_facts : Cert.Pre_finite.Facts where
  bitsLt_bf16_f32 := by decide
  bcast_S_S2x16384x512 := by decide
  reducesTo_S2x16384x512_S_d0_1_2 := by decide
  h_S_ := by decide
  slices_S2x16384x256_S2x16384x128_0_0_0 := by decide
  bcast_S_S2x16384x128 := by decide
  reducesTo_S2x16384x128_S_d0_1_2 := by decide
  slices_S2x256x256_S2x256x128_0_0_0 := by decide
  bcast_S_S2x256x128 := by decide
  reducesTo_S2x256x128_S_d0_1_2 := by decide
  bcast_S_S8 := by decide
  reducesTo_S8_S_d0 := by decide

/-- The pattern of infinity is infinity. -/
theorem ofBits_top : Ideal.ofBits .f32 0x7F800000#32 = (⊤ : EReal) := by
  simp [Ideal.ofBits, Ideal.ieee]

/-- An extended real whose size is below infinity is a real number. -/
theorem real_of_abs (a : EReal) (h : Ideal.cmp .olt (max a (-a)) (Ideal.ofBits .f32 0x7F800000#32) = 1#1) : ((a.toReal : ℝ) : EReal) = a := by
  rw [ofBits_top] at h
  have h' : max a (-a) < ⊤ := by
    by_contra hn
    simp [Ideal.cmp, hn] at h
  refine EReal.coe_toReal (fun e => ?_) (fun e => ?_)
  · rw [e] at h'; simp at h'
  · rw [e] at h'; simp at h'

/-- An array all of whose sizes compare below infinity holds real numbers. -/
theorem real_of_all {s t : Shape} {axes : List (Fin s.rank)} [Subsingleton t.Idx] (x : FVec Ideal s .f32) (B : FVec Ideal s .f32)
    (hB : ∀ i, B i = Ideal.ofBits .f32 0x7F800000#32) {u : Shape} (v : u.Idx → BitVec 1) (h : s.ReducesTo axes t) (hu : 0 < u.numel) (j : t.Idx)
    (e : Host.reduce IntOp.andi (cmpf .olt (Host.absf x) B) v h hu j = 1#1) (i : s.Idx) : (((x i : EReal).toReal : ℝ) : EReal) = x i := by
  have h1 := Host.reduce_andi_all _ _ h hu j e i
  have h2 : Ideal.cmp .olt (max (x i : EReal) (-(x i : EReal))) (B i) = 1#1 := h1
  rw [hB] at h2
  exact real_of_abs _ h2

instance : Subsingleton (S_ : Shape).Idx := ⟨fun a b => funext fun i => i.elim0⟩

variable (x0 : FVec Ideal S2x16384x512 .bf16) (x1 : FVec Ideal S2x16384x256 .bf16) (x2 : FVec Ideal S2x256x256 .bf16)
    (x3 : FVec Ideal S8 .f32) (x4 : FVec Ideal S1x512 .f32)

/-- The arguments' numbers. -/
def inputs : Inputs where
  q b p k := (x0 (ix3 b p k) : EReal).toReal
  k b p l := (x1 (ix3 b p (⟨l.val, by omega⟩ : Fin 256)) : EReal).toReal
  v b p l := x1 (ix3 b p (⟨128 + l.val, by omega⟩ : Fin 256))
  kx b p l := (x2 (ix3 b p (⟨l.val, by omega⟩ : Fin 256)) : EReal).toReal
  vx b p l := x2 (ix3 b p (⟨128 + l.val, by omega⟩ : Fin 256))
  z j := (x3 (ix1 j) : EReal).toReal
  gn k := x4 (ix2 0 k)

/-- Arguments that satisfy the precondition hold their numbers. -/
theorem agrees (h : @Cert.Pre_finite.fn finite_facts Ideal _ x0 x1 x2 x3 x4 = fun _ => 1#1) : Agrees (inputs x0 x1 x2 x3 x4) x0 x1 x2 x3 x4 := by
  letI := finite_facts
  have h0 := congrFun h (Shape.Idx.first Facts.h_S_)
  unfold Cert.Pre_finite.fn Cert.Pre_finite.fn_part1 at h0
  obtain ⟨h012, h3⟩ := IntOp.andi_eq_one.1 h0
  obtain ⟨h01, h2⟩ := IntOp.andi_eq_one.1 h012
  obtain ⟨h0, h1⟩ := IntOp.andi_eq_one.1 h01
  have r0 := real_of_all _ _ (fun _ => rfl) _ _ _ _ h0
  have r1 := real_of_all _ _ (fun _ => rfl) _ _ _ _ h1
  have r2 := real_of_all _ _ (fun _ => rfl) _ _ _ _ h2
  have r3 := real_of_all _ _ (fun _ => rfl) _ _ _ _ h3
  have s1 : ∀ (hs : S2x16384x256.Slices ![0, 0, 0] S2x16384x128) (b : Fin 2) (p : Fin 16384) (l : Fin 128), extractStridedSlice S2x16384x128 ![0, 0, 0] x1 hs (ix3 b p l)
      = x1 (ix3 b p (⟨l.val, by omega⟩ : Fin 256)) := fun hs b p l => by pointwise []
  have s2 : ∀ (hs : S2x256x256.Slices ![0, 0, 0] S2x256x128) (b : Fin 2) (p : Fin 256) (l : Fin 128), extractStridedSlice S2x256x128 ![0, 0, 0] x2 hs (ix3 b p l)
      = x2 (ix3 b p (⟨l.val, by omega⟩ : Fin 256)) := fun hs b p l => by pointwise []
  exact {
    q := fun b p k => (r0 (ix3 b p k)).symm
    k := fun b p l => by
      have := r1 (ix3 b p l)
      have e := s1 Facts.slices_S2x16384x256_S2x16384x128_0_0_0 b p l
      rw [← e]
      exact this.symm.trans (by simp only [inputs, ← e]; rfl)
    v := fun b p l => rfl
    kx := fun b p l => by
      have := r2 (ix3 b p l)
      have e := s2 Facts.slices_S2x256x256_S2x256x128_0_0_0 b p l
      rw [← e]
      exact this.symm.trans (by simp only [inputs, ← e]; rfl)
    vx := fun b p l => rfl
    z := fun j => (r3 (ix1 j)).symm
    gn := fun k => rfl }

end Cert.Attn

end
-- ==== Proof.RefScores.lean ====
/- The reference's value over the extended reals, stage by stage. -/
module

public import proofs.«01_k».proof.Proof.Whole
public import proofs.«01_k».proof.Proof.Gen.ReferenceIdeal.Read
public import Idealize.ShloMosaic.Lib.Pointwise

@[expose] public section

set_option maxRecDepth 16384

noncomputable section

namespace Cert.Attn.Ref

open Cert.ReferenceIdeal Cert.ReferenceIdeal.Gen Cert.ReferenceIdeal.Read
open Idealize.ShloMosaic Idealize.ShloMosaic.TcCoe Idealize.SL.Sem

variable {x0 : (⟨S2x16384x512, .bf16⟩ : BufTy).Contents (Elt Ideal)} {x1 : (⟨S2x16384x256, .bf16⟩ : BufTy).Contents (Elt Ideal)}
  {x2 : (⟨S2x256x256, .bf16⟩ : BufTy).Contents (Elt Ideal)} {x3 : (⟨S8, .f32⟩ : BufTy).Contents (Elt Ideal)}
  {x4 : (⟨S1x512, .f32⟩ : BufTy).Contents (Elt Ideal)} {I : Inputs}

/-- The pattern of two is two, and its logarithm is real. -/
theorem log_two : Ideal.log (Ideal.ofBits .f32 1073741824#32) = ((Real.log 2 : ℝ) : EReal) := by
  have h : Ideal.ofBits .f32 1073741824#32 = ((2 : ℝ) : EReal) := by
    simp [Ideal.ofBits, Ideal.ieee]
    rw [← EReal.coe_mul]
    norm_num
  rw [h]
  exact if_neg (by norm_num)

/-- The score's scale is an eighth. -/
theorem eighth : Ideal.ofBits .f32 1040187392#32 = (((1 : ℝ) / 8 : ℝ) : EReal) := by
  simp [Ideal.ofBits, Ideal.ieee]
  rw [← EReal.coe_mul]
  norm_num

/-- The number of columns is 512. -/
theorem five12 : Ideal.ofBits .f32 1140850688#32 = ((512 : ℝ) : EReal) := by
  simp [Ideal.ofBits, Ideal.ieee]
  rw [← EReal.coe_mul]
  norm_num

section Stages

variable (b : Fin 2) (n i : Fin 128) (g : Fin 4) (h : Fin 2) (d : Fin 64)

/-- The query, its base-2 scaling undone. -/
theorem query_at (H : Agrees I x0 x1 x2 x3 x4) :
    val_main_v19 (F := Ideal) x0 (ix6 b n i g h d) = ((I.q b (qRow n i) (qCol g h d) * Real.log 2 * 8 : ℝ) : EReal) := by
  have h1 : val_main_v19 (F := Ideal) x0 (ix6 b n i g h d) = val_main_v5 (F := Ideal) x0 (ix3 b (qRow n i) (qCol g h d)) := by
    pointwise [val_main_v19]
    congr 2
    · exact Fin.ext (by simp only [qRow]; omega)
    · exact Fin.ext (by simp only [qCol]; omega)
  have h2 : val_main_v5 (F := Ideal) x0 (ix3 b (qRow n i) (qCol g h d))
      = Ideal.div (x0 (ix3 b (qRow n i) (qCol g h d)) * Ideal.log (Ideal.ofBits .f32 1073741824#32)) (Ideal.ofBits .f32 1040187392#32) := by
    pointwise [val_main_v5, val_main_v4, val_main_v3, val_main_v2, val_main_v1, val_main_v0, val_main_cst, val_main_cst_0]
  rw [h1, h2, log_two, eighth, H.q, Ideal.div_coe (by norm_num), ← EReal.coe_mul, ← EReal.coe_mul]
  norm_num

/-- A row of the padded keys. -/
theorem key_row (p : Fin 16640) (q : Fin 16384) (hq : p.val = q.val + 128) (H : Agrees I x0 x1 x2 x3 x4) :
    val_main_v20 (F := Ideal) x1 (ix4 b p h d) = ((I.k b q (kCol h d) : ℝ) : EReal) := by
  rw [← H.k]
  pointwise [val_main_v20, val_main_v12, val_main_v11, val_main_v9]
  rw [dif_pos (by omega)]
  congr 2
  · exact Fin.ext (by simp only []; omega)
  · exact Fin.ext (by simp only [kCol]; omega)

/-- A row of the padded values. -/
theorem val_row (p : Fin 16640) (q : Fin 16384) (hq : p.val = q.val + 128) (H : Agrees I x0 x1 x2 x3 x4) :
    val_main_v26 (F := Ideal) x1 (ix4 b p h d) = I.v b q (kCol h d) := by
  rw [← H.v]
  pointwise [val_main_v26, val_main_v14, val_main_v13, val_main_v9]
  rw [dif_pos (by omega)]
  congr 2
  · exact Fin.ext (by simp only []; omega)
  · exact Fin.ext (by simp only [kCol]; omega)

/-- A key within the sequence, by its window column. -/
theorem key_at (w : Fin 384) (h1 : 128 ≤ 128 * n.val + w.val) (h2 : 128 * n.val + w.val < 16512) (H : Agrees I x0 x1 x2 x3 x4) :
    val_main_v25 (F := Ideal) x1 (ix5 b n w h d) = ((I.k b (kvRow n w) (kCol h d) : ℝ) : EReal) := by
  pointwise [val_main_v25, val_main_v22, val_main_v23, val_main_v24, val_main_v21]
  split
  · exact key_row b h d _ _ (by simp only [kvRow]; omega) H
  · split
    · exact key_row b h d _ _ (by simp only [kvRow]; omega) H
    · exact key_row b h d _ _ (by simp only [kvRow]; omega) H

/-- A value within the sequence, by its window column. -/
theorem val_at (w : Fin 384) (h1 : 128 ≤ 128 * n.val + w.val) (h2 : 128 * n.val + w.val < 16512) (H : Agrees I x0 x1 x2 x3 x4) :
    val_main_v31 (F := Ideal) x1 (ix5 b n w h d) = I.v b (kvRow n w) (kCol h d) := by
  pointwise [val_main_v31, val_main_v28, val_main_v29, val_main_v30, val_main_v27]
  split
  · exact val_row b h d _ _ (by simp only [kvRow]; omega) H
  · split
    · exact val_row b h d _ _ (by simp only [kvRow]; omega) H
    · exact val_row b h d _ _ (by simp only [kvRow]; omega) H

/-- The mask is the window. -/
theorem mask_at (w : Fin 384) : val_main_v69 (F := Ideal) (ix3 n i w) = if inWin n i w then 1#1 else 0#1 := by
  have hn := n.isLt; have hi := i.isLt; have hw := w.isLt
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_c_3, val_main_c_4, val_main_c_5, val_main_c_6, val_main_c_7, val_main_c_8]
  have hN : (BitVec.ofNat 32 n.val).toInt = n.val := word_nat _ (by omega)
  have hI : (BitVec.ofNat 32 i.val).toInt = i.val := word_nat _ (by omega)
  have hW : (BitVec.ofNat 32 w.val).toInt = w.val := word_nat _ (by omega)
  have e128 : (128#32 : BitVec 32).toInt = 128 := by decide
  have hq : (IntOp.addi (IntOp.muli (BitVec.ofNat 32 n.val) 128#32) (BitVec.ofNat 32 i.val)).toInt = (n.val : ℤ) * 128 + i.val :=
    add_word _ _ _ _ (mul_word _ _ _ _ hN e128 (by omega)) hI (by omega)
  have hk : (IntOp.addi (IntOp.muli (IntOp.subi (BitVec.ofNat 32 n.val) 1#32) 128#32) (BitVec.ofNat 32 w.val)).toInt
      = ((n.val : ℤ) - 1) * 128 + w.val :=
    add_word _ _ _ _ (mul_word _ _ _ _ (sub_word _ _ _ _ hN (by decide : (1#32 : BitVec 32).toInt = 1) (by omega)) e128
      (by omega)) hW (by omega)
  rw [window_word _ _ (sub_word _ _ _ _ hq hk (by omega)) (by omega), sge_word _ _ _ _ hk (by decide : (0#32 : BitVec 32).toInt = 0),
    slt_word _ _ _ _ hk (by decide : (16384#32 : BitVec 32).toInt = 16384)]
  simp only [andi_if]
  refine if_congr ?_ rfl rfl
  unfold inWin
  omega

/-- A local score: the base-2 score times `ln 2` within the window, minus infinity outside it. -/
theorem loc_at (w : Fin 384) (H : Agrees I x0 x1 x2 x3 x4) :
    val_main_v75 (F := Ideal) x0 x1 (ix6 b n h g i w)
      = if inWin n i w then ((I.locDot b n i g h w * Real.log 2 : ℝ) : EReal) else ⊥ := by
  have h1 : val_main_v75 (F := Ideal) x0 x1 (ix6 b n h g i w)
      = Scalar.select (val_main_v69 (F := Ideal) (ix3 n i w))
          ((∑ k : Fin 64, (val_main_v25 (F := Ideal) x1 (ix5 b n w h k) : EReal) * val_main_v19 (F := Ideal) x0 (ix6 b n i g h k))
            * Ideal.ofBits .f32 1040187392#32) (Ideal.ofBits .f32 4286578688#32) := by
    pointwise [val_main_v75, val_main_call2_v0, val_main_call2_v1, val_main_call2_v2, val_main_v74, val_main_v73, val_main_v72, val_main_v71, val_main_v70, val_main_cst_9, val_main_cst_10]
    rfl
  rw [h1, mask_at, select_if, ofBits_bot, eighth]
  refine if_ctx_congr Iff.rfl (fun hw => ?_) fun _ => rfl
  simp only [key_at b n h _ w hw.2.1 hw.2.2 H, query_at b n i g h _ H, ← EReal.coe_mul]
  rw [coe_sum, ← EReal.coe_mul, Inputs.locDot, Finset.sum_mul, Finset.sum_mul]
  congr 1
  exact Finset.sum_congr rfl fun d _ => by ring

/-- A context score: the base-2 score times `ln 2`. -/
theorem ctx_at (j : Fin 256) (H : Agrees I x0 x1 x2 x3 x4) :
    val_main_v79 (F := Ideal) x0 x2 (ix6 b n h g i j) = ((I.ctx b n i g h j * Real.log 2 : ℝ) : EReal) := by
  have h1 : val_main_v79 (F := Ideal) x0 x2 (ix6 b n h g i j)
      = (∑ k : Fin 64, (x2 (ix3 b j (⟨(kCol h k).val, by omega⟩ : Fin 256)) : EReal) * val_main_v19 (F := Ideal) x0 (ix6 b n i g h k))
            * Ideal.ofBits .f32 1040187392#32 := by
    pointwise [val_main_v79, val_main_v78, val_main_v77, val_main_v76, val_main_cst_11, val_main_v16, val_main_v15, val_main_v10]
    simp only [kCol, mul_comm 64]
  rw [h1, eighth]
  simp only [H.kx, query_at b n i g h _ H, ← EReal.coe_mul]
  rw [coe_sum, ← EReal.coe_mul, Inputs.ctx, Finset.sum_mul, Finset.sum_mul]
  congr 1
  exact Finset.sum_congr rfl fun d _ => by ring

/-- The sink's score. -/
theorem sink_at (H : Agrees I x0 x1 x2 x3 x4) :
    val_main_v82 (F := Ideal) x3 (ix6 b n h g i (0 : Fin 1)) = ((I.z (zOf g h) * Real.log 2 : ℝ) : EReal) := by
  have h1 : val_main_v82 (F := Ideal) x3 (ix6 b n h g i (0 : Fin 1))
      = x3 (ix1 (zOf g h)) * Ideal.log (Ideal.ofBits .f32 1073741824#32) := by
    pointwise [val_main_v82, val_main_v81, val_main_v80, val_main_v8, val_main_v7, val_main_v6, val_main_cst_1]
    simp only [zOf, mul_comm 4]
  rw [h1, log_two, H.z, ← EReal.coe_mul]

end Stages

end Cert.Attn.Ref

end
-- ==== Proof.RefValue.lean ====
/- The reference's softmax, its weighted sums and its norm over the extended reals: the attention in plain mathematics. -/
module

public import proofs.«01_k».proof.Proof.RefScores

@[expose] public section

set_option maxRecDepth 16384

noncomputable section

namespace Cert.Attn.Ref

open Cert.ReferenceIdeal Cert.ReferenceIdeal.Gen Cert.ReferenceIdeal.Read
open Idealize.ShloMosaic Idealize.ShloMosaic.TcCoe Idealize.SL.Sem

variable {x0 : (⟨S2x16384x512, .bf16⟩ : BufTy).Contents (Elt Ideal)} {x1 : (⟨S2x16384x256, .bf16⟩ : BufTy).Contents (Elt Ideal)}
  {x2 : (⟨S2x256x256, .bf16⟩ : BufTy).Contents (Elt Ideal)} {x3 : (⟨S8, .f32⟩ : BufTy).Contents (Elt Ideal)}
  {x4 : (⟨S1x512, .f32⟩ : BufTy).Contents (Elt Ideal)} {I : Inputs}

/-- A sum over local keys, context keys and the sink, split into the three. -/
theorem sum_641 (f : Fin 641 → EReal) :
    ∑ t, f t = (∑ w : Fin 384, f ⟨w.val, by omega⟩) + (∑ j : Fin 256, f ⟨384 + j.val, by omega⟩) + f ⟨640, by omega⟩ := by
  have h1 := Fin.sum_univ_add (a := 640) (b := 1) (fun t : Fin (640 + 1) => f t)
  have h2 := Fin.sum_univ_add (a := 384) (b := 256) (fun t : Fin (384 + 256) => f (Fin.castAdd 1 t))
  refine Eq.trans h1 ?_
  rw [Fin.sum_univ_one]
  refine congrArg₂ (· + ·) (Eq.trans h2 ?_) rfl
  rfl

section Stages

variable (b : Fin 2) (n i : Fin 128) (g : Fin 4) (h : Fin 2) (d : Fin 64)

/-- A row of scores, local keys first, then the context's, the sink last. -/
theorem row_at (t : Fin 641) : val_main_v83 (F := Ideal) x0 x1 x2 x3 (ix6 b n h g i t)
    = if h1 : t.val < 384 then val_main_v75 (F := Ideal) x0 x1 (ix6 b n h g i (⟨t.val, h1⟩ : Fin 384))
      else if h2 : t.val - 384 < 256 then val_main_v79 (F := Ideal) x0 x2 (ix6 b n h g i (⟨t.val - 384, h2⟩ : Fin 256))
      else val_main_v82 (F := Ideal) x3 (ix6 b n h g i (⟨t.val - 384 - 256, by omega⟩ : Fin 1)) := by
  pointwise [val_main_v83]

/-- The row's local scores. -/
theorem row_loc (w : Fin 384) : val_main_v83 (F := Ideal) x0 x1 x2 x3 (ix6 b n h g i (⟨w.val, by omega⟩ : Fin 641))
    = val_main_v75 (F := Ideal) x0 x1 (ix6 b n h g i w) := by
  rw [row_at, dif_pos w.isLt]

/-- The row's context scores. -/
theorem row_ctx (j : Fin 256) : val_main_v83 (F := Ideal) x0 x1 x2 x3 (ix6 b n h g i (⟨384 + j.val, by omega⟩ : Fin 641))
    = val_main_v79 (F := Ideal) x0 x2 (ix6 b n h g i j) := by
  have hj := j.isLt
  rw [row_at, dif_neg (by simp), dif_pos (by simp)]
  congr 2
  exact Fin.ext (by simp)

/-- The row's sink. -/
theorem row_sink : val_main_v83 (F := Ideal) x0 x1 x2 x3 (ix6 b n h g i (⟨640, by omega⟩ : Fin 641))
    = val_main_v82 (F := Ideal) x3 (ix6 b n h g i (0 : Fin 1)) := by
  rw [row_at, dif_neg (by decide), dif_neg (by decide)]
  rfl

/-- No score is `⊤`. -/
theorem row_ne_top (H : Agrees I x0 x1 x2 x3 x4) (t : Fin 641) :
    (val_main_v83 (F := Ideal) x0 x1 x2 x3 (ix6 b n h g i t) : EReal) ≠ ⊤ := by
  rw [row_at]
  split
  · rw [loc_at b n i g h _ H]
    split
    · exact EReal.coe_ne_top _
    · exact bot_ne_top
  · split
    · rw [ctx_at b n i g h _ H]
      exact EReal.coe_ne_top _
    · have e : (⟨t.val - 384 - 256, by omega⟩ : Fin 1) = 0 := Subsingleton.elim _ _
      rw [e, sink_at b n i g h H]
      exact EReal.coe_ne_top _

/-- The row's largest score, as a maximum over the row. -/
theorem largest_fold : val_main_v84 (F := Ideal) x0 x1 x2 x3 (ix5 b n h g i)
    = Finset.univ.fold max (⊥ : EReal) fun t : Fin 641 => val_main_v83 (F := Ideal) x0 x1 x2 x3 (ix6 b n h g i t) := by
  unfold val_main_v84
  generalize val_main_v83 (F := Ideal) x0 x1 x2 x3 = y
  rw [Host.reduce_eq_fold_single (FloatOps.maximumf (F := Ideal) (φ := .f32)) y _ reducesTo_S2x128x2x4x128x641_S2x128x2x4x128_d5 (by decide) h_S_]
  have hb : (val_main_cst_12 (F := Ideal)) (Shape.Idx.first h_S_) = (⊥ : EReal) := ofBits_bot
  rw [hb]
  refine congrArg (Finset.fold max (⊥ : EReal) · Finset.univ) (funext fun k => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- The row's largest score is a real number. -/
theorem largest_real (H : Agrees I x0 x1 x2 x3 x4) :
    ∃ M : ℝ, val_main_v86 (F := Ideal) x0 x1 x2 x3 (ix5 b n h g i) = (M : EReal) := by
  have h1 : val_main_v86 (F := Ideal) x0 x1 x2 x3 (ix5 b n h g i)
      = max (⊥ : EReal) (val_main_v84 (F := Ideal) x0 x1 x2 x3 (ix5 b n h g i)) := by
    rw [val_main_v86_apply, val_main_v85_apply, val_main_cst_13_apply]
    generalize val_main_v84 (F := Ideal) x0 x1 x2 x3 (ix5 b n h g i) = y
    show max (Ideal.ofBits .f32 4286578688#32) y = max ⊥ y
    rw [ofBits_bot]
  rw [h1, largest_fold, max_eq_right bot_le]
  have ht := fold_max_ne_top Finset.univ _ (row_ne_top (x0 := x0) (x1 := x1) (x2 := x2) (x3 := x3) b n i g h H) ⊥ bot_ne_top
  have hs : ((I.z (zOf g h) * Real.log 2 : ℝ) : EReal)
      ≤ Finset.univ.fold max (⊥ : EReal) fun t : Fin 641 => val_main_v83 (F := Ideal) x0 x1 x2 x3 (ix6 b n h g i t) := by
    rw [Finset.le_fold_max]
    refine Or.inr ⟨⟨640, by omega⟩, Finset.mem_univ _, ?_⟩
    rw [row_sink, sink_at b n i g h H]
  have hbot := fun e => EReal.coe_ne_bot (I.z (zOf g h) * Real.log 2) (le_bot_iff.1 (hs.trans (le_of_eq e)))
  exact ⟨_, (EReal.coe_toReal ht hbot).symm⟩

/-- The largest score is one for the whole row. -/
theorem shifted (t : Fin 641) : val_main_v90 (F := Ideal) x0 x1 x2 x3 (ix6 b n h g i t)
    = Ideal.exp (val_main_v83 (F := Ideal) x0 x1 x2 x3 (ix6 b n h g i t) - val_main_v86 (F := Ideal) x0 x1 x2 x3 (ix5 b n h g i)) := by
  have h1 : val_main_v88 (F := Ideal) x0 x1 x2 x3 (ix6 b n h g i t) = val_main_v86 (F := Ideal) x0 x1 x2 x3 (ix5 b n h g i) := by
    pointwise [val_main_v88, val_main_v87]
  rw [← h1]
  rfl

/-- The row's sum of exponentials. -/
theorem total : val_main_v91 (F := Ideal) x0 x1 x2 x3 (ix5 b n h g i)
    = ∑ t : Fin 641, (val_main_v90 (F := Ideal) x0 x1 x2 x3 (ix6 b n h g i t) : EReal) := by
  rw [val_main_v91_apply]
  have hb : (val_main_cst_14 (F := Ideal)) (Shape.Idx.first h_S_) = (0 : EReal) := by
    show Ideal.ofBits .f32 0x00000000#32 = 0
    simp [Ideal.ofBits, Ideal.ieee]
  rw [hb, zero_add]
  refine Finset.sum_congr rfl fun k _ => congrArg _ ?_
  exact funext fun a => Fin.ext (by match a with | ⟨0, _⟩ => rfl | ⟨1, _⟩ => rfl | ⟨2, _⟩ => rfl | ⟨3, _⟩ => rfl | ⟨4, _⟩ => rfl | ⟨5, _⟩ => rfl)

/-- A weight of the softmax. -/
theorem weight (t : Fin 641) : val_main_v94 (F := Ideal) x0 x1 x2 x3 (ix6 b n h g i t)
    = Ideal.div (val_main_v90 (F := Ideal) x0 x1 x2 x3 (ix6 b n h g i t)) (val_main_v91 (F := Ideal) x0 x1 x2 x3 (ix5 b n h g i)) := by
  have h1 : val_main_v93 (F := Ideal) x0 x1 x2 x3 (ix6 b n h g i t) = val_main_v91 (F := Ideal) x0 x1 x2 x3 (ix5 b n h g i) := by
    pointwise [val_main_v93, val_main_v92]
  rw [← h1]
  rfl

/-- The two weighted sums. -/
theorem sums : val_main_v101 (F := Ideal) x0 x1 x2 x3 (ix6 b n i g h d)
    = (∑ w : Fin 384, (val_main_v31 (F := Ideal) x1 (ix5 b n w h d) : EReal)
          * val_main_v94 (F := Ideal) x0 x1 x2 x3 (ix6 b n h g i (⟨w.val, by omega⟩ : Fin 641)))
      + ∑ j : Fin 256, (x2 (ix3 b j (⟨128 + (h.val * 64 + d.val), by omega⟩ : Fin 256)) : EReal)
          * val_main_v94 (F := Ideal) x0 x1 x2 x3 (ix6 b n h g i (⟨384 + j.val, by omega⟩ : Fin 641)) := by
  rw [val_main_v101_apply]
  unfold val_main_v100 val_main_v99 val_main_v98 val_main_v97 val_main_v96 val_main_v95
  generalize val_main_v94 (F := Ideal) x0 x1 x2 x3 = y
  generalize val_main_v31 (F := Ideal) x1 = v
  pointwise [val_main_v18, val_main_v17, val_main_v10]

/-- The head of a head's dimension. -/
theorem headOf_kCol : headOf (kCol h d) = h := Fin.ext (by simp only [headOf, kCol]; omega)

/-- The reference's attention is the attention. -/
theorem att_at (H : Agrees I x0 x1 x2 x3 x4) :
    val_main_v101 (F := Ideal) x0 x1 x2 x3 (ix6 b n i g h d) = I.att b n i g (kCol h d) := by
  obtain ⟨M, hM⟩ := largest_real (x0 := x0) (x1 := x1) (x2 := x2) (x3 := x3) b n i g h H
  have hcol : (⟨128 + (h.val * 64 + d.val), by omega⟩ : Fin 256) = ⟨128 + (kCol h d).val, by omega⟩ :=
    Fin.ext (by simp [kCol, mul_comm])
  rw [sums, hcol]
  simp only [weight]
  have hS : val_main_v91 (F := Ideal) x0 x1 x2 x3 (ix5 b n h g i)
      = (∑ w : Fin 384, Ideal.exp (val_main_v75 (F := Ideal) x0 x1 (ix6 b n h g i w) - (M : EReal)))
        + (∑ j : Fin 256, Ideal.exp (val_main_v79 (F := Ideal) x0 x2 (ix6 b n h g i j) - (M : EReal)))
        + Ideal.exp (((I.z (zOf g h) * Real.log 2 : ℝ) : EReal) - (M : EReal)) := by
    rw [total, sum_641]
    simp only [shifted, row_loc, row_ctx, row_sink, hM, sink_at b n i g h H]
  have hs : ∀ w : Fin 384, (val_main_v75 (F := Ideal) x0 x1 (ix6 b n h g i w) : EReal) ≠ ⊤ := fun w => by
    rw [loc_at b n i g h w H]
    split
    · exact EReal.coe_ne_top _
    · exact bot_ne_top
  have hu : ∀ j : Fin 256, (val_main_v79 (F := Ideal) x0 x2 (ix6 b n h g i j) : EReal) ≠ ⊤ := fun j => by
    rw [ctx_at b n i g h j H]
    exact EReal.coe_ne_top _
  have key := softmax_avg _ hs _ hu (I.z (zOf g h) * Real.log 2) M _ hS
    (fun w => val_main_v31 (F := Ideal) x1 (ix5 b n w h d)) (fun j => x2 (ix3 b j (⟨128 + (kCol h d).val, by omega⟩ : Fin 256)))
  refine Eq.trans ?_ (key.trans ?_)
  · simp only [shifted, row_loc, row_ctx, hM, mul_comm]
  · unfold Inputs.att
    rw [headOf_kCol]
    refine softAvg_congr (fun w => ?_) (fun j => ?_) ?_ (fun w hw => ?_) (fun j => H.vx b j (kCol h d))
    · rw [loc_at b n i g h w H, Inputs.loc]
      split
      · exact wtE_log_two _
      · rw [wtE_bot, wt2_bot]
    · rw [ctx_at b n i g h j H]
      exact wtE_log_two _
    · exact wtE_log_two _
    · have hin : inWin n i w := by
        by_contra hc
        exact hw (by rw [Inputs.loc, if_neg hc, wt2_bot])
      exact val_at b n h d w hin.2.1 hin.2.2 H

/-- One entry of the reference's attention, by position and column. -/
theorem rows_at (H : Agrees I x0 x1 x2 x3 x4) (l : Fin 128) :
    val_main_v102 (F := Ideal) x0 x1 x2 x3 (ix3 b (qRow n i) (⟨128 * g.val + l.val, by omega⟩ : Fin 512)) = I.att b n i g l := by
  have hl := l.isLt; have hi := i.isLt; have hg := g.isLt
  have hk : kCol (headOf l) (⟨l.val % 64, by omega⟩ : Fin 64) = l := Fin.ext (by simp only [headOf, kCol]; omega)
  rw [← hk, ← att_at b n i g (headOf l) ⟨l.val % 64, by omega⟩ H, hk]
  have h1 : ∀ (p : Fin 16384) (k : Fin 512), val_main_v102 (F := Ideal) x0 x1 x2 x3 (ix3 b p k)
      = val_main_v101 (F := Ideal) x0 x1 x2 x3 (ix6 b (⟨p.val / 128, by omega⟩ : Fin 128) (⟨p.val % 128, by omega⟩ : Fin 128)
          (⟨k.val / 128, by omega⟩ : Fin 4) (⟨k.val / 64 % 2, by omega⟩ : Fin 2) (⟨k.val % 64, by omega⟩ : Fin 64)) := fun p k => by
    pointwise [val_main_v102]
  rw [h1]
  generalize val_main_v101 (F := Ideal) x0 x1 x2 x3 = y
  congr 2
  · exact Fin.ext (by simp only [qRow]; omega)
  · exact Fin.ext (by simp only [qRow]; omega)
  · exact Fin.ext (by simp only []; omega)
  · exact Fin.ext (by simp only [headOf]; omega)
  · exact Fin.ext (by simp only []; omega)

/-- A sum over the columns, group by group. -/
theorem sum_512 (f : Fin 512 → EReal) : ∑ k, f k = ∑ g : Fin 4, ∑ l : Fin 128, f ⟨128 * g.val + l.val, by omega⟩ := by
  rw [← Finset.sum_product', ← Equiv.sum_comp (finProdFinEquiv (m := 4) (n := 128)) f]
  refine Finset.sum_congr rfl fun x _ => congrArg f (Fin.ext ?_)
  simp [finProdFinEquiv, add_comm]

/-- The sum of squares of a row. -/
theorem squares (p : Fin 16384) : val_main_v104 (F := Ideal) x0 x1 x2 x3 (ix2 b p)
    = ∑ k : Fin 512, (val_main_v102 (F := Ideal) x0 x1 x2 x3 (ix3 b p k) : EReal) * val_main_v102 (F := Ideal) x0 x1 x2 x3 (ix3 b p k) := by
  rw [val_main_v104_apply]
  have hb : (val_main_cst_15 (F := Ideal)) (Shape.Idx.first h_S_) = (0 : EReal) := by
    show Ideal.ofBits .f32 0x00000000#32 = 0
    simp [Ideal.ofBits, Ideal.ieee]
  rw [hb, zero_add]
  refine Finset.sum_congr rfl fun k _ => ?_
  have e : idx_main_v104 (ix2 b p) k = ix3 b p k :=
    funext fun a => Fin.ext (by match a with | ⟨0, _⟩ => rfl | ⟨1, _⟩ => rfl | ⟨2, _⟩ => rfl)
  rw [val_main_v103_apply, e]
  rfl

/-- The norm's factor of a row. -/
theorem factor (p : Fin 16384) (k : Fin 512) : val_main_v111 (F := Ideal) x0 x1 x2 x3 (ix3 b p k)
    = Ideal.rsqrt (Ideal.div (val_main_v104 (F := Ideal) x0 x1 x2 x3 (ix2 b p)) (Ideal.ofBits .f32 1140850688#32)
        + Ideal.ofBits .f32 897988541#32) := by
  have h1 : val_main_v105 (F := Ideal) x0 x1 x2 x3 (ix3 b p (0 : Fin 1)) = val_main_v104 (F := Ideal) x0 x1 x2 x3 (ix2 b p) := by
    pointwise [val_main_v105]
  have h2 : val_main_v111 (F := Ideal) x0 x1 x2 x3 (ix3 b p k) = val_main_v110 (F := Ideal) x0 x1 x2 x3 (ix3 b p (0 : Fin 1)) := by
    pointwise [val_main_v111]
  rw [h2, ← h1, val_main_v110_apply, val_main_v109_apply, val_main_v108_apply, val_main_v107_apply, val_main_v106_apply,
    val_main_cst_16_apply, val_main_cst_17_apply]
  generalize val_main_v105 (F := Ideal) x0 x1 x2 x3 (ix3 b p (0 : Fin 1)) = y
  rfl

/-- The norm's weight of a column. -/
theorem weight_at (p : Fin 16384) (k : Fin 512) : val_main_v114 (F := Ideal) x4 (ix3 b p k) = x4 (ix2 0 k) := by
  pointwise [val_main_v114, val_main_v113]

/-- Every entry of the reference's result. -/
theorem reference_at (H : Agrees I x0 x1 x2 x3 x4) (l : Fin 128) :
    val_main_v116 (F := Ideal) x0 x1 x2 x3 x4 (ix3 b (qRow n i) (⟨128 * g.val + l.val, by omega⟩ : Fin 512)) = I.out b n i g l := by
  rw [val_main_v116_apply, val_main_v115_apply, val_main_v112_apply, weight_at, factor, squares, sum_512]
  simp only [rows_at _ _ _ _ H, H.gn, five12]
  rw [Ideal.div_coe (by norm_num)]
  rfl

end Stages

end Cert.Attn.Ref

end
-- ==== Proof.Equal.lean ====
/- The kernel's result and the reference's are one array. -/
module

public import proofs.«01_k».proof.Proof.Finite
public import proofs.«01_k».proof.Proof.RefValue

@[expose] public section

set_option maxRecDepth 16384

noncomputable section

namespace Cert.Attn

open Cert.KernelIdeal Cert.KernelIdeal.Gen Cert.KernelIdeal.Value
open Idealize.ShloMosaic Idealize.ShloMosaic.TcCoe Idealize.SL.Sem

variable (m : (ℓ : Loc nD τ sig) → Buf (Elt Ideal) ℓ) (c : Dev nD)

/-- Of arguments that satisfy the precondition, the reference's result is the kernel's, at every index. -/
theorem results_equal (h : @Cert.Pre_finite.fn finite_facts Ideal _ (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    Cert.ReferenceIdeal.Read.val_main_v116 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = G8 m c := by
  have H := agrees _ _ _ _ _ h
  funext i
  obtain ⟨b, p, k, rfl⟩ : ∃ (b : Fin 2) (p : Fin 16384) (k : Fin 512), i = ix3 b p k :=
    ⟨i 0, i 1, i 2, funext fun a => by match a with | ⟨0, _⟩ => rfl | ⟨1, _⟩ => rfl | ⟨2, _⟩ => rfl⟩
  have hp : p = qRow (⟨p.val / 128, by omega⟩ : Fin 128) ⟨p.val % 128, by omega⟩ := Fin.ext (by simp only [qRow]; omega)
  have hk : k = (⟨128 * (⟨k.val / 128, by omega⟩ : Fin 4).val + (⟨k.val % 128, by omega⟩ : Fin 128).val, by simp only []; omega⟩ : Fin 512) :=
    Fin.ext (by simp only []; omega)
  rw [hp, hk]
  exact (Ref.reference_at b _ _ _ H _).trans (kernel_at m c H b _ _ _ _).symm

end Cert.Attn

end
-- ==== Proof.FfnBlock.lean ====
/- One grid point of the feed-forward kernel, in the vocabulary of the layer: the rows around the point brought together and
   projected, the residual and the modulated norm of every one of them, and, by chunks of 256 hidden columns, the up
   projection, the causal convolution with its gate, and the down projection; what the point stores is one function of what
   it loads. -/
module

public import proofs.«01_k».proof.Proof.Gen.Kernel2Ideal.Value

@[expose] public section

set_option maxRecDepth 16384

noncomputable section

namespace Cert.Ffn

open Cert.Kernel2Ideal Cert.Kernel2Ideal.Gen Cert.Kernel2Ideal.Facts
open Idealize.ShloMosaic Idealize.ShloMosaic.TcCoe Idealize.SL.Sem

variable {F : FTy → Type} [FloatOps F]

/-- A grid point's buffers and what the windows brought into them. -/
structure Point (F : FTy → Type) where
  arg2 : Memref sig .tc .vmem S1x512x512 .bf16
  harg2 : arg2.IsWhole
  arg3 : Memref sig .tc .vmem S1x16x512 .bf16
  harg3 : arg3.IsWhole
  arg4 : Memref sig .tc .vmem S1x16x512 .bf16
  harg4 : arg4.IsWhole
  arg5 : Memref sig .tc .vmem S1x512x512 .bf16
  harg5 : arg5.IsWhole
  arg6 : Memref sig .tc .vmem S1x16x512 .bf16
  harg6 : arg6.IsWhole
  arg7 : Memref sig .tc .vmem S1x16x512 .bf16
  harg7 : arg7.IsWhole
  arg8 : Memref sig .tc .vmem S1x512x1024 .f32
  harg8 : arg8.IsWhole
  arg9 : Memref sig .tc .vmem S1x16x1024 .f32
  harg9 : arg9.IsWhole
  arg10 : Memref sig .tc .vmem S1x16x1024 .f32
  harg10 : arg10.IsWhole
  arg11 : Memref sig .tc .vmem S1024x1024 .bf16
  harg11 : arg11.IsWhole
  arg12 : Memref sig .tc .vmem S1x1x1024 .f32
  harg12 : arg12.IsWhole
  arg13 : Memref sig .tc .vmem S1x1x1024 .f32
  harg13 : arg13.IsWhole
  arg14 : Memref sig .tc .vmem S1x1x1024 .f32
  harg14 : arg14.IsWhole
  arg15 : Memref sig .tc .vmem S1x1024 .f32
  harg15 : arg15.IsWhole
  arg16 : Memref sig .tc .vmem S1024x5632 .bf16
  harg16 : arg16.IsWhole
  arg17 : Memref sig .tc .vmem S3x5632 .f32
  harg17 : arg17.IsWhole
  arg18 : Memref sig .tc .vmem S1x5632 .f32
  harg18 : arg18.IsWhole
  arg19 : Memref sig .tc .vmem S2816x1024 .bf16
  harg19 : arg19.IsWhole
  arg20 : Memref sig .tc .vmem S1x1x1024 .f32
  harg20 : arg20.IsWhole
  arg21 : Memref sig .tc .vmem S1x1024 .f32
  harg21 : arg21.IsWhole
  arg22 : Memref sig .tc .vmem S1x512x1024 .f32
  harg22 : arg22.IsWhole
  arg23 : Memref sig .tc .vmem S544x1024 .bf16
  harg23 : arg23.IsWhole
  arg24 : Memref sig .tc .vmem S512x1024 .f32
  harg24 : arg24.IsWhole
  arg25 : Memref sig .tc .vmem S544x1024 .bf16
  harg25 : arg25.IsWhole
  arg26 : Memref sig .tc .vmem S2x2x544x128 .f32
  harg26 : arg26.IsWhole
  arg27 : Memref sig .tc .vmem S2x2x544x128 .f32
  harg27 : arg27.IsWhole
  arg28 : Memref sig .tc .vmem S2x512x256 .bf16
  harg28 : arg28.IsWhole
  arg29 : Memref sig .tc .vmem S512x1024 .f32
  harg29 : arg29.IsWhole
  arg30 : Memref sig .tc .vmem S8x512x128 .f32
  harg30 : arg30.IsWhole
  x0 : Vec F S1x512x512 .bf16
  x1 : Vec F S1x16x512 .bf16
  x2 : Vec F S1x16x512 .bf16
  x3 : Vec F S1x512x512 .bf16
  x4 : Vec F S1x16x512 .bf16
  x5 : Vec F S1x16x512 .bf16
  x6 : Vec F S1x512x1024 .f32
  x7 : Vec F S1x16x1024 .f32
  x8 : Vec F S1x16x1024 .f32
  x9 : Vec F S1024x1024 .bf16
  x10 : Vec F S1x1x1024 .f32
  x11 : Vec F S1x1x1024 .f32
  x12 : Vec F S1x1x1024 .f32
  x13 : Vec F S1x1024 .f32
  x14 : Vec F S1024x5632 .bf16
  x15 : Vec F S3x5632 .f32
  x16 : Vec F S1x5632 .f32
  x17 : Vec F S2816x1024 .bf16
  x18 : Vec F S1x1x1024 .f32
  x19 : Vec F S1x1024 .f32

/-- The recurrence's rows of the point, as loaded. -/
def Point.rn (P : Point F) : Vec F S1x512x512 .bf16 :=
  View.readAt (Elt F) P.arg2.view (Rect.unit (s := S1x512x512) ![0, 0, 0] S1x512x512.size inb_S1x512x512_S1x512x512_0_0_0).toLoadRect (P.harg2.unread P.x0)

/-- The sixteen rows of the recurrence before, as loaded. -/
def Point.rnPrev (P : Point F) : Vec F S1x16x512 .bf16 :=
  View.readAt (Elt F) P.arg3.view (Rect.unit (s := S1x16x512) ![0, 0, 0] S1x16x512.size inb_S1x16x512_S1x16x512_0_0_0).toLoadRect (P.harg3.unread P.x1)

/-- The sixteen rows of the recurrence after, as loaded. -/
def Point.rnNext (P : Point F) : Vec F S1x16x512 .bf16 :=
  View.readAt (Elt F) P.arg4.view (Rect.unit (s := S1x16x512) ![0, 0, 0] S1x16x512.size inb_S1x16x512_S1x16x512_0_0_0).toLoadRect (P.harg4.unread P.x2)

/-- The attention's rows of the point, as loaded. -/
def Point.an (P : Point F) : Vec F S1x512x512 .bf16 :=
  View.readAt (Elt F) P.arg5.view (Rect.unit (s := S1x512x512) ![0, 0, 0] S1x512x512.size inb_S1x512x512_S1x512x512_0_0_0).toLoadRect (P.harg5.unread P.x3)

/-- The sixteen rows of attention before, as loaded. -/
def Point.anPrev (P : Point F) : Vec F S1x16x512 .bf16 :=
  View.readAt (Elt F) P.arg6.view (Rect.unit (s := S1x16x512) ![0, 0, 0] S1x16x512.size inb_S1x16x512_S1x16x512_0_0_0).toLoadRect (P.harg6.unread P.x4)

/-- The sixteen rows of attention after, as loaded. -/
def Point.anNext (P : Point F) : Vec F S1x16x512 .bf16 :=
  View.readAt (Elt F) P.arg7.view (Rect.unit (s := S1x16x512) ![0, 0, 0] S1x16x512.size inb_S1x16x512_S1x16x512_0_0_0).toLoadRect (P.harg7.unread P.x5)

/-- The residual stream's rows of the point, as loaded. -/
def Point.xOwn (P : Point F) : Vec F S1x512x1024 .f32 :=
  View.readAt (Elt F) P.arg8.view (Rect.unit (s := S1x512x1024) ![0, 0, 0] S1x512x1024.size inb_S1x512x1024_S1x512x1024_0_0_0).toLoadRect (P.harg8.unread P.x6)

/-- The sixteen rows of the residual stream before, as loaded. -/
def Point.xPrev (P : Point F) : Vec F S1x16x1024 .f32 :=
  View.readAt (Elt F) P.arg9.view (Rect.unit (s := S1x16x1024) ![0, 0, 0] S1x16x1024.size inb_S1x16x1024_S1x16x1024_0_0_0).toLoadRect (P.harg9.unread P.x7)

/-- The sixteen rows of the residual stream after, as loaded. -/
def Point.xNext (P : Point F) : Vec F S1x16x1024 .f32 :=
  View.readAt (Elt F) P.arg10.view (Rect.unit (s := S1x16x1024) ![0, 0, 0] S1x16x1024.size inb_S1x16x1024_S1x16x1024_0_0_0).toLoadRect (P.harg10.unread P.x8)

/-- The output projection's weights, as loaded. -/
def Point.wo (P : Point F) : Vec F S1024x1024 .bf16 :=
  View.readAt (Elt F) P.arg11.view (Rect.unit (s := S1024x1024) ![0, 0] S1024x1024.size inb_S1024x1024_S1024x1024_0_0).toLoadRect (P.harg11.unread P.x9)

/-- The mixer's gate, as loaded. -/
def Point.g1 (P : Point F) : Vec F S1x1x1024 .f32 :=
  View.readAt (Elt F) P.arg12.view (Rect.unit (s := S1x1x1024) ![0, 0, 0] S1x1x1024.size inb_S1x1x1024_S1x1x1024_0_0_0).toLoadRect (P.harg12.unread P.x10)

/-- The shift, as loaded. -/
def Point.sh (P : Point F) : Vec F S1x1x1024 .f32 :=
  View.readAt (Elt F) P.arg13.view (Rect.unit (s := S1x1x1024) ![0, 0, 0] S1x1x1024.size inb_S1x1x1024_S1x1x1024_0_0_0).toLoadRect (P.harg13.unread P.x11)

/-- The scale, as loaded. -/
def Point.sc (P : Point F) : Vec F S1x1x1024 .f32 :=
  View.readAt (Elt F) P.arg14.view (Rect.unit (s := S1x1x1024) ![0, 0, 0] S1x1x1024.size inb_S1x1x1024_S1x1x1024_0_0_0).toLoadRect (P.harg14.unread P.x12)

/-- The norm's weights, as loaded. -/
def Point.ng (P : Point F) : Vec F S1x1024 .f32 :=
  View.readAt (Elt F) P.arg15.view (Rect.unit (s := S1x1024) ![0, 0] S1x1024.size inb_S1x1024_S1x1024_0_0).toLoadRect (P.harg15.unread P.x13)

/-- The feed-forward's gate, as loaded. -/
def Point.g2 (P : Point F) : Vec F S1x1x1024 .f32 :=
  View.readAt (Elt F) P.arg20.view (Rect.unit (s := S1x1x1024) ![0, 0, 0] S1x1x1024.size inb_S1x1x1024_S1x1x1024_0_0_0).toLoadRect (P.harg20.unread P.x18)

/-- The final norm's weights, as loaded. -/
def Point.fg (P : Point F) : Vec F S1x1024 .f32 :=
  View.readAt (Elt F) P.arg21.view (Rect.unit (s := S1x1024) ![0, 0] S1x1024.size inb_S1x1024_S1x1024_0_0).toLoadRect (P.harg21.unread P.x19)

/-- A number below eleven, from any number. -/
def ch (j : ℕ) : Fin 11 := ⟨j % 11, Nat.mod_lt _ (by omega)⟩

/-- A chunk lies in the up projection. -/
theorem wuG_inb (j : Fin 11) : ∀ a, (![0, 256 * j.val] : Fin 2 → ℕ) a + S1024x256.size a ≤ S1024x5632.size a := by
  have := j.isLt
  intro a; fin_cases a <;> simp <;> omega

/-- The up projection of the gate, chunk `j`. -/
def Point.wuG (P : Point F) (j : Fin 11) : Vec F S1024x256 .bf16 :=
  View.readAt (Elt F) P.arg16.view (Rect.unit (s := S1024x5632) ![0, 256 * j.val] S1024x256.size (wuG_inb j)).toLoadRect (P.harg16.unread P.x14)

/-- A chunk lies in the up projection. -/
theorem wuV_inb (j : Fin 11) : ∀ a, (![0, 2816 + 256 * j.val] : Fin 2 → ℕ) a + S1024x256.size a ≤ S1024x5632.size a := by
  have := j.isLt
  intro a; fin_cases a <;> simp <;> omega

/-- The up projection of the values, chunk `j`. -/
def Point.wuV (P : Point F) (j : Fin 11) : Vec F S1024x256 .bf16 :=
  View.readAt (Elt F) P.arg16.view (Rect.unit (s := S1024x5632) ![0, 2816 + 256 * j.val] S1024x256.size (wuV_inb j)).toLoadRect (P.harg16.unread P.x14)

/-- A chunk lies in the array. -/
theorem cwG_inb (j : Fin 11) : ∀ a, (![0, 256 * j.val] : Fin 2 → ℕ) a + S3x256.size a ≤ S3x5632.size a := by
  have := j.isLt
  intro a; fin_cases a <;> simp <;> omega

/-- The convolution's taps for the gate, chunk `j`. -/
def Point.cwG (P : Point F) (j : Fin 11) : Vec F S3x256 .f32 :=
  View.readAt (Elt F) P.arg17.view (Rect.unit (s := S3x5632) ![0, 256 * j.val] S3x256.size (cwG_inb j)).toLoadRect (P.harg17.unread P.x15)

/-- A chunk lies in the array. -/
theorem cwV_inb (j : Fin 11) : ∀ a, (![0, 2816 + 256 * j.val] : Fin 2 → ℕ) a + S3x256.size a ≤ S3x5632.size a := by
  have := j.isLt
  intro a; fin_cases a <;> simp <;> omega

/-- The convolution's taps for the values, chunk `j`. -/
def Point.cwV (P : Point F) (j : Fin 11) : Vec F S3x256 .f32 :=
  View.readAt (Elt F) P.arg17.view (Rect.unit (s := S3x5632) ![0, 2816 + 256 * j.val] S3x256.size (cwV_inb j)).toLoadRect (P.harg17.unread P.x15)

/-- A chunk lies in the array. -/
theorem cbG_inb (j : Fin 11) : ∀ a, (![0, 256 * j.val] : Fin 2 → ℕ) a + S1x256.size a ≤ S1x5632.size a := by
  have := j.isLt
  intro a; fin_cases a <;> simp <;> omega

/-- The convolution's bias for the gate, chunk `j`. -/
def Point.cbG (P : Point F) (j : Fin 11) : Vec F S1x256 .f32 :=
  View.readAt (Elt F) P.arg18.view (Rect.unit (s := S1x5632) ![0, 256 * j.val] S1x256.size (cbG_inb j)).toLoadRect (P.harg18.unread P.x16)

/-- A chunk lies in the array. -/
theorem cbV_inb (j : Fin 11) : ∀ a, (![0, 2816 + 256 * j.val] : Fin 2 → ℕ) a + S1x256.size a ≤ S1x5632.size a := by
  have := j.isLt
  intro a; fin_cases a <;> simp <;> omega

/-- The convolution's bias for the values, chunk `j`. -/
def Point.cbV (P : Point F) (j : Fin 11) : Vec F S1x256 .f32 :=
  View.readAt (Elt F) P.arg18.view (Rect.unit (s := S1x5632) ![0, 2816 + 256 * j.val] S1x256.size (cbV_inb j)).toLoadRect (P.harg18.unread P.x16)

/-- A chunk lies in the down projection. -/
theorem wd_inb (j : Fin 11) : ∀ a, (![256 * j.val, 0] : Fin 2 → ℕ) a + S256x1024.size a ≤ S2816x1024.size a := by
  have := j.isLt
  intro a; fin_cases a <;> simp <;> omega

/-- The down projection's rows of chunk `j`. -/
def Point.wd (P : Point F) (j : Fin 11) : Vec F S256x1024 .bf16 :=
  View.readAt (Elt F) P.arg19.view (Rect.unit (s := S2816x1024) ![256 * j.val, 0] S256x1024.size (wd_inb j)).toLoadRect (P.harg19.unread P.x17)

/-- The stores that bring the rows together, last first: recurrence left, attention right; after, own, before. -/
def Point.mixP (P : Point F) : List (View.Piece (Elt F) S544x1024 .bf16) :=
  [⟨Rect.unit (s := S544x1024) ![528, 512] S16x512.size inb_S544x1024_S16x512_528_512, k0_pay6 P.anNext⟩,
   ⟨Rect.unit (s := S544x1024) ![528, 0] S16x512.size inb_S544x1024_S16x512_528_0, k0_pay5 P.rnNext⟩,
   ⟨Rect.unit (s := S544x1024) ![16, 512] S512x512.size inb_S544x1024_S512x512_16_512, k0_pay4 P.an⟩,
   ⟨Rect.unit (s := S544x1024) ![16, 0] S512x512.size inb_S544x1024_S512x512_16_0, k0_pay3 P.rn⟩,
   ⟨Rect.unit (s := S544x1024) ![0, 512] S16x512.size inb_S544x1024_S16x512_0_512, k0_pay2 P.anPrev⟩,
   ⟨Rect.unit (s := S544x1024) ![0, 0] S16x512.size inb_S544x1024_S16x512_0_0, k0_pay1 P.rnPrev⟩]

/-- The rows brought together. -/
def Point.mix (P : Point F) : Vec F S544x1024 .bf16 :=
  P.arg23.view.readCov P.mixP (Rect.unit (s := S544x1024) ![0, 0] S544x1024.size inb_S544x1024_S544x1024_0_0).toLoadRect

/-- The output projection of them. -/
def Point.proj (P : Point F) : FVec F S544x1024 .f32 := k0_pay7 P.mix P.wo

/-- The norm's weights times one plus the scale. -/
def Point.gain (P : Point F) : FVec F S1x1024 .f32 := k0_pay8 P.ng P.sc

/-- The store of the point's own residual rows. -/
def Point.x1P (P : Point F) : List (View.Piece (Elt F) S512x1024 .f32) :=
  [⟨Rect.unit (s := S512x1024) ![0, 0] S512x1024.size inb_S512x1024_S512x1024_0_0, k0_pay10 P.mix P.wo P.xOwn P.g1⟩]

/-- The point's step, as the kernel's number. -/
def step (i : grid0.Coords) : BitVec 32 := BitVec.ofNat 32 (i 1).val

/-- The stores of the modulated rows, last first: after, before, own. -/
def Point.hextP (P : Point F) (i : grid0.Coords) : List (View.Piece (Elt F) S544x1024 .bf16) :=
  [⟨Rect.unit (s := S544x1024) ![528, 0] S16x1024.size inb_S544x1024_S16x1024_528_0, k0_pay16 (step i) P.proj P.gain k0_pay13 P.xNext P.g1 P.sh⟩,
   ⟨Rect.unit (s := S544x1024) ![0, 0] S16x1024.size inb_S544x1024_S16x1024_0_0, k0_pay15 (k0_pay14 (step i) P.proj P.gain P.xPrev P.g1 P.sh)⟩,
   ⟨Rect.unit (s := S544x1024) ![16, 0] S512x1024.size inb_S544x1024_S512x1024_16_0,
     k0_pay12 P.gain (k0_pay9 P.mix P.wo P.xOwn P.g1) (k0_pay11 P.mix P.wo P.xOwn P.g1) P.sh⟩]

/-- The modulated rows. -/
def Point.he (P : Point F) (i : grid0.Coords) : Vec F S544x1024 .bf16 :=
  P.arg25.view.readCov (P.hextP i) (Rect.unit (s := S544x1024) ![0, 0] S544x1024.size inb_S544x1024_S544x1024_0_0).toLoadRect

/-- A slab of 128 columns of a chunk lies in the chunks' scratch. -/
theorem slab_inb (j : Fin 11) (s : Fin 2) : ∀ a, (![j.val % 2, s.val, 0, 0] : Fin 4 → ℕ) a + S1x1x544x128.size a ≤ S2x2x544x128.size a := by
  have := j.isLt; have := s.isLt
  intro a; fin_cases a <;> simp <;> omega

/-- The stores of a chunk's gate columns before the convolution, right slab first. -/
def Point.ugPiece (P : Point F) (i : grid0.Coords) (j : Fin 11) (L : List (View.Piece (Elt F) S2x2x544x128 .f32)) :
    List (View.Piece (Elt F) S2x2x544x128 .f32) :=
  ⟨Rect.unit (s := S2x2x544x128) ![j.val % 2, (1 : Fin 2).val, 0, 0] S1x1x544x128.size (slab_inb j 1), k0_pay21 (k0_pay17 (P.he i) (P.wuG j))⟩ ::
  ⟨Rect.unit (s := S2x2x544x128) ![j.val % 2, (0 : Fin 2).val, 0, 0] S1x1x544x128.size (slab_inb j 0), k0_pay19 (k0_pay17 (P.he i) (P.wuG j))⟩ :: L

/-- All of them up to chunk `n`. -/
def Point.ugP (P : Point F) (i : grid0.Coords) : ℕ → List (View.Piece (Elt F) S2x2x544x128 .f32)
  | 0 => P.ugPiece i 0 []
  | n + 1 => P.ugPiece i (ch (n + 1)) (P.ugP i n)

/-- The stores of a chunk's values columns before the convolution, right slab first. -/
def Point.uvPiece (P : Point F) (i : grid0.Coords) (j : Fin 11) (L : List (View.Piece (Elt F) S2x2x544x128 .f32)) :
    List (View.Piece (Elt F) S2x2x544x128 .f32) :=
  ⟨Rect.unit (s := S2x2x544x128) ![j.val % 2, (1 : Fin 2).val, 0, 0] S1x1x544x128.size (slab_inb j 1), k0_pay22 (P.he i) (P.wuV j)⟩ ::
  ⟨Rect.unit (s := S2x2x544x128) ![j.val % 2, (0 : Fin 2).val, 0, 0] S1x1x544x128.size (slab_inb j 0), k0_pay20 (P.he i) (P.wuV j)⟩ :: L

/-- All of them up to chunk `n`. -/
def Point.uvP (P : Point F) (i : grid0.Coords) : ℕ → List (View.Piece (Elt F) S2x2x544x128 .f32)
  | 0 => P.uvPiece i 0 []
  | n + 1 => P.uvPiece i (ch (n + 1)) (P.uvP i n)

/-- Every second row of a slab, from row `15 + t`, lies in the chunks' scratch. -/
theorem tap_inb (j : Fin 11) (s : Fin 2) (t : Fin 4) : ∀ a, S1x1x256x128.size a = 0 ∨ (![j.val % 2, s.val, 15 + t.val, 0] : Fin 4 → ℕ) a
    + (![1, 1, 2, 1] : Fin 4 → ℕ) a * (S1x1x256x128.size a - 1) < S2x2x544x128.size a := by
  have := j.isLt; have := s.isLt; have := t.isLt
  intro a; refine .inr ?_; fin_cases a <;> simp <;> omega

/-- The chunk in the scratch when chunk `j` is convolved: the one after it, but for the last. -/
def ahead (j : Fin 11) : ℕ := min (j.val + 1) 10

/-- Every second row of a slab of chunk `j`, from row `15 + t`. -/
def Point.ugT (P : Point F) (i : grid0.Coords) (j : Fin 11) (s : Fin 2) (t : Fin 4) : Vec F S1x1x256x128 .f32 :=
  P.arg26.view.readCov (P.ugP i (ahead j)) (⟨![j.val % 2, s.val, 15 + t.val, 0], S1x1x256x128.size, ![1, 1, 2, 1], tap_inb j s t⟩ : LoadRect S2x2x544x128)

/-- Every second row of a slab of chunk `j`, from row `15 + t`. -/
def Point.uvT (P : Point F) (i : grid0.Coords) (j : Fin 11) (s : Fin 2) (t : Fin 4) : Vec F S1x1x256x128 .f32 :=
  P.arg27.view.readCov (P.uvP i (ahead j)) (⟨![j.val % 2, s.val, 15 + t.val, 0], S1x1x256x128.size, ![1, 1, 2, 1], tap_inb j s t⟩ : LoadRect S2x2x544x128)

/-- The gate of a chunk: the convolution, and its product with half of one plus the hyperbolic tangent of its half. -/
def gateOf (cw : Vec F S3x256 .f32) (cb : Vec F S1x256 .f32) (u : Fin 2 → Fin 4 → Vec F S1x1x256x128 .f32) : FVec F S512x256 .f32 :=
  k0_pay42 cw (k0_pay35 cw cb (k0_pay30 (u 0 0)) (k0_pay31 (u 0 1)) (k0_pay32 (u 0 2)) (k0_pay33 (u 0 3)) (k0_pay34 cb))
    (k0_pay36 (u 1 1)) (k0_pay37 (u 1 2)) (k0_pay38 (u 1 3)) (k0_pay39 cb) (k0_pay40 cw cb (u 1 0)) (k0_pay41 cw)

/-- The gate of a chunk times its convolved values, rounded. -/
def actOf (g : FVec F S512x256 .f32) (cw : Vec F S3x256 .f32) (cb : Vec F S1x256 .f32) (u : Fin 2 → Fin 4 → Vec F S1x1x256x128 .f32) :
    FVec F S1x512x256 .bf16 :=
  k0_pay56 g cw (k0_pay49 cw (k0_pay43 (u 0 0)) (k0_pay44 (u 0 1)) (k0_pay45 (u 0 2)) (k0_pay46 (u 0 3)) (k0_pay47 cb) (k0_pay48 cb))
    (k0_pay50 (u 1 1)) (k0_pay51 (u 1 2)) (k0_pay52 (u 1 3)) (k0_pay53 cb) (k0_pay54 cw cb (u 1 0)) (k0_pay55 cw)

/-- The gated values of chunk `j`. -/
def Point.act (P : Point F) (i : grid0.Coords) (j : Fin 11) : FVec F S1x512x256 .bf16 :=
  actOf (gateOf (P.cwG j) (P.cbG j) (P.ugT i j)) (P.cwV j) (P.cbV j) (P.uvT i j)

/-- A chunk lies in the gated values' scratch. -/
theorem act_inb (j : Fin 11) : ∀ a, (![j.val % 2, 0, 0] : Fin 3 → ℕ) a + S1x512x256.size a ≤ S2x512x256.size a := by
  have := j.isLt
  intro a; fin_cases a <;> simp <;> omega

/-- The stores of gated values up to chunk `n`, last first. -/
def Point.actP (P : Point F) (i : grid0.Coords) : ℕ → List (View.Piece (Elt F) S2x512x256 .bf16)
  | 0 => [⟨Rect.unit (s := S2x512x256) ![(0 : Fin 11).val % 2, 0, 0] S1x512x256.size (act_inb 0), P.act i 0⟩]
  | n + 1 => ⟨Rect.unit (s := S2x512x256) ![(ch (n + 1)).val % 2, 0, 0] S1x512x256.size (act_inb (ch (n + 1))), P.act i (ch (n + 1))⟩ :: P.actP i n

/-- The gated values of chunk `j`, as the down projection loads them. -/
def Point.actR (P : Point F) (i : grid0.Coords) (j : Fin 11) : Vec F S1x512x256 .bf16 :=
  P.arg28.view.readCov (P.actP i (ahead j)) (Rect.unit (s := S2x512x256) ![j.val % 2, 0, 0] S1x512x256.size (act_inb j)).toLoadRect

/-- The running sums of the chunks' down projections up to chunk `n`, last first. -/
def Point.accP (P : Point F) (i : grid0.Coords) : ℕ → List (View.Piece (Elt F) S512x1024 .f32)
  | 0 => [⟨Rect.unit (s := S512x1024) ![0, 0] S512x1024.size inb_S512x1024_S512x1024_0_0, k0_pay90 (P.actR i 0) (P.wd 0)⟩]
  | n + 1 => ⟨Rect.unit (s := S512x1024) ![0, 0] S512x1024.size inb_S512x1024_S512x1024_0_0,
      k0_pay125 (P.arg29.view.readCov (P.accP i n) (Rect.unit (s := S512x1024) ![0, 0] S512x1024.size inb_S512x1024_S512x1024_0_0).toLoadRect)
        (P.actR i (ch (n + 1))) (P.wd (ch (n + 1)))⟩ :: P.accP i n

/-- The sum of all chunks: the even rows first, then the odd ones. -/
def Point.mixed (P : Point F) (i : grid0.Coords) : FVec F S512x1024 .f32 :=
  k0_pay320 (P.arg29.view.readCov (P.accP i 9) (Rect.unit (s := S512x1024) ![0, 0] S512x1024.size inb_S512x1024_S512x1024_0_0).toLoadRect)
    (P.actR i 10) (P.wd 10)

/-- A half of the rows' 128 columns lies in the sum. -/
theorem half_slices (s : Fin 8) (p : Fin 2) : S512x1024.Slices ![256 * p.val, 128 * s.val] S256x128 := by
  revert s p; decide

/-- Every second row of a slab lies in the interleaving scratch. -/
theorem row_inb (s : Fin 8) (p : Fin 2) : ∀ a, S1x256x128.size a = 0 ∨ (![s.val, p.val, 0] : Fin 3 → ℕ) a
    + (![1, 2, 1] : Fin 3 → ℕ) a * (S1x256x128.size a - 1) < S8x512x128.size a := by
  have := s.isLt; have := p.isLt
  intro a; refine .inr ?_; fin_cases a <;> simp <;> omega

/-- The sixteen stores that interleave the even and the odd rows, last first. -/
def natP (v : FVec F S512x1024 .f32) : List (View.Piece (Elt F) S8x512x128 .f32) :=
  List.ofFn fun k : Fin 16 =>
    ⟨⟨(⟨![7 - k.val / 2, 1 - k.val % 2, 0], S1x256x128.size, ![1, 2, 1], row_inb ⟨7 - k.val / 2, by omega⟩ ⟨1 - k.val % 2, by omega⟩⟩ : LoadRect S8x512x128), spos_1_2_1⟩,
      shapeCast S1x256x128 (extractStridedSlice S256x128 ![256 * (1 - k.val % 2), 128 * (7 - k.val / 2)] v
        (half_slices ⟨7 - k.val / 2, by omega⟩ ⟨1 - k.val % 2, by omega⟩)) shapeCasts_S256x128_S1x256x128⟩

/-- A slab lies in the interleaving scratch. -/
theorem nat_inb (s : Fin 8) : ∀ a, (![s.val, 0, 0] : Fin 3 → ℕ) a + S1x512x128.size a ≤ S8x512x128.size a := by
  have := s.isLt
  intro a; fin_cases a <;> simp <;> omega

/-- A slab of 128 columns of the sum, in the order of the rows. -/
def Point.nat (P : Point F) (i : grid0.Coords) (s : Fin 8) : Vec F S1x512x128 .f32 :=
  P.arg30.view.readCov (natP (P.mixed i)) (Rect.unit (s := S8x512x128) ![s.val, 0, 0] S1x512x128.size (nat_inb s)).toLoadRect

/-- What the point stores: the residual of the slabs side by side, normed. -/
def Point.out (P : Point F) (i : grid0.Coords) : FVec F S1x512x1024 .f32 :=
  k0_pay343 (k0_pay339 (P.nat i 0)) (k0_pay340 (P.nat i 1)) (k0_pay341 (P.nat i 2)) (k0_pay342 (P.nat i 3)) (P.nat i 4) (P.nat i 5) (P.nat i 6) (P.nat i 7)
    (P.arg24.view.readCov P.x1P (Rect.unit (s := S512x1024) ![0, 0] S512x1024.size inb_S512x1024_S512x1024_0_0).toLoadRect) P.g2 P.fg

end Cert.Ffn

end
-- ==== Proof.FfnCarry.lean ====
/- What a grid point of the feed-forward kernel loads, element by element: the arguments' blocks, and what the point reads back
   from its scratch buffers: the rows brought together, the modulated rows, every second row of a chunk, the gated values, the
   running sum and the interleaved rows. -/
module

public import proofs.«01_k».proof.Proof.FfnBlock
public import Idealize.ShloMosaic.Lib.Pointwise
public import Idealize.ShloMosaic.Lib.WritesUnit
public import Idealize.ShloMosaic.Lib.Pipeline.ValueKit.Tiles

@[expose] public section

set_option maxRecDepth 16384

noncomputable section

namespace Cert.Ffn

open Cert.Kernel2Ideal Cert.Kernel2Ideal.Gen Cert.Kernel2Ideal.Facts
open Idealize.ShloMosaic Idealize.ShloMosaic.TcCoe Idealize.SL.Sem

variable {F : FTy → Type} [FloatOps F]

/-- A load through a unit rectangle of a buffer holding `X` reads `X` at the offset index. -/
theorem readAt_unread {sp : Space} {s : Shape} {e : EltTy} {arg : Memref sig .tc sp s e} (h : arg.IsWhole) (X : Vec F s e)
    (off size : Fin s.rank → ℕ) (inb) (y : (Rect.unit (s := s) off size inb).toLoadRect.shape.Idx) (i : s.Idx)
    (hi : ∀ a, (i a : ℕ) = off a + (y a : ℕ)) :
    View.readAt (Elt F) arg.view (Rect.unit (s := s) off size inb).toLoadRect (h.unread X) y = X i := by
  rw [View.readAt_eq_ld, h.read_unread]
  exact View.ld_unit_apply_of X off size inb y i hi

/-- A load through a unit rectangle of what stores left reads it at the offset index. -/
theorem readCov_at {κ : Kind} {sp : Space} {s : Shape} {e : EltTy} (v : View sig κ sp s e) (L : List (View.Piece (Elt F) s e))
    (off size : Fin s.rank → ℕ) (inb) (y : (Rect.unit (s := s) off size inb).toLoadRect.shape.Idx) (i : s.Idx)
    (hi : ∀ a, (i a : ℕ) = off a + (y a : ℕ)) :
    v.readCov L (Rect.unit (s := s) off size inb).toLoadRect y = v.read (Elt F) (v.writes (Elt F) v.junk L) i := by
  rw [View.readCov_eq_canon', View.read_writes_junk_apply_eq_canon]
  exact congrArg _ (funext fun a => Fin.ext ((Rect.idx_unit_val off size inb y a).trans (hi a).symm))

/-- A load through a strided box of what stores left reads it at the index the box names. -/
theorem readCov_box {κ : Kind} {sp : Space} {s : Shape} {e : EltTy} (v : View sig κ sp s e) (L : List (View.Piece (Elt F) s e))
    (off size stride : Fin s.rank → ℕ) (inb) (y : (⟨off, size, stride, inb⟩ : LoadRect s).shape.Idx) (i : s.Idx)
    (hi : ∀ a, (i a : ℕ) = off a + stride a * (y a : ℕ)) :
    v.readCov L (⟨off, size, stride, inb⟩ : LoadRect s) y = v.read (Elt F) (v.writes (Elt F) v.junk L) i := by
  rw [View.readCov_eq_canon', View.read_writes_junk_apply_eq_canon]
  exact congrArg _ (funext fun a => Fin.ext (hi a).symm)

section Loads

variable (P : Point F)

theorem rn_at (r : Fin 512) (l : Fin 512) : P.rn (ix3 0 r l) = P.x0 (ix3 0 r l) :=
  readAt_unread P.harg2 P.x0 _ _ _ _ _ (by intro a; fin_cases a <;> simp)
theorem rnPrev_at (r : Fin 16) (l : Fin 512) : P.rnPrev (ix3 0 r l) = P.x1 (ix3 0 r l) :=
  readAt_unread P.harg3 P.x1 _ _ _ _ _ (by intro a; fin_cases a <;> simp)
theorem rnNext_at (r : Fin 16) (l : Fin 512) : P.rnNext (ix3 0 r l) = P.x2 (ix3 0 r l) :=
  readAt_unread P.harg4 P.x2 _ _ _ _ _ (by intro a; fin_cases a <;> simp)
theorem an_at (r : Fin 512) (l : Fin 512) : P.an (ix3 0 r l) = P.x3 (ix3 0 r l) :=
  readAt_unread P.harg5 P.x3 _ _ _ _ _ (by intro a; fin_cases a <;> simp)
theorem anPrev_at (r : Fin 16) (l : Fin 512) : P.anPrev (ix3 0 r l) = P.x4 (ix3 0 r l) :=
  readAt_unread P.harg6 P.x4 _ _ _ _ _ (by intro a; fin_cases a <;> simp)
theorem anNext_at (r : Fin 16) (l : Fin 512) : P.anNext (ix3 0 r l) = P.x5 (ix3 0 r l) :=
  readAt_unread P.harg7 P.x5 _ _ _ _ _ (by intro a; fin_cases a <;> simp)
theorem xOwn_at (r : Fin 512) (l : Fin 1024) : P.xOwn (ix3 0 r l) = P.x6 (ix3 0 r l) :=
  readAt_unread P.harg8 P.x6 _ _ _ _ _ (by intro a; fin_cases a <;> simp)
theorem xPrev_at (r : Fin 16) (l : Fin 1024) : P.xPrev (ix3 0 r l) = P.x7 (ix3 0 r l) :=
  readAt_unread P.harg9 P.x7 _ _ _ _ _ (by intro a; fin_cases a <;> simp)
theorem xNext_at (r : Fin 16) (l : Fin 1024) : P.xNext (ix3 0 r l) = P.x8 (ix3 0 r l) :=
  readAt_unread P.harg10 P.x8 _ _ _ _ _ (by intro a; fin_cases a <;> simp)
theorem wo_at (k l : Fin 1024) : P.wo (ix2 k l) = P.x9 (ix2 k l) :=
  readAt_unread P.harg11 P.x9 _ _ _ _ _ (by intro a; fin_cases a <;> simp)
theorem g1_at (l : Fin 1024) : P.g1 (ix3 0 0 l) = P.x10 (ix3 0 0 l) :=
  readAt_unread P.harg12 P.x10 _ _ _ _ _ (by intro a; fin_cases a <;> simp)
theorem sh_at (l : Fin 1024) : P.sh (ix3 0 0 l) = P.x11 (ix3 0 0 l) :=
  readAt_unread P.harg13 P.x11 _ _ _ _ _ (by intro a; fin_cases a <;> simp)
theorem sc_at (l : Fin 1024) : P.sc (ix3 0 0 l) = P.x12 (ix3 0 0 l) :=
  readAt_unread P.harg14 P.x12 _ _ _ _ _ (by intro a; fin_cases a <;> simp)
theorem ng_at (l : Fin 1024) : P.ng (ix2 0 l) = P.x13 (ix2 0 l) :=
  readAt_unread P.harg15 P.x13 _ _ _ _ _ (by intro a; fin_cases a <;> simp)
theorem g2_at (l : Fin 1024) : P.g2 (ix3 0 0 l) = P.x18 (ix3 0 0 l) :=
  readAt_unread P.harg20 P.x18 _ _ _ _ _ (by intro a; fin_cases a <;> simp)
theorem fg_at (l : Fin 1024) : P.fg (ix2 0 l) = P.x19 (ix2 0 l) :=
  readAt_unread P.harg21 P.x19 _ _ _ _ _ (by intro a; fin_cases a <;> simp)

theorem wuG_at (j : Fin 11) (k : Fin 1024) (l : Fin 256) (n : Fin 5632) (hn : n.val = 256 * j.val + l.val) :
    P.wuG j (ix2 k l) = P.x14 (ix2 k n) :=
  readAt_unread P.harg16 P.x14 _ _ _ _ _ (by intro a; fin_cases a <;> simp [hn])
theorem wuV_at (j : Fin 11) (k : Fin 1024) (l : Fin 256) (n : Fin 5632) (hn : n.val = 2816 + 256 * j.val + l.val) :
    P.wuV j (ix2 k l) = P.x14 (ix2 k n) :=
  readAt_unread P.harg16 P.x14 _ _ _ _ _ (by intro a; fin_cases a <;> simp [hn])
theorem cwG_at (j : Fin 11) (k : Fin 3) (l : Fin 256) (n : Fin 5632) (hn : n.val = 256 * j.val + l.val) :
    P.cwG j (ix2 k l) = P.x15 (ix2 k n) :=
  readAt_unread P.harg17 P.x15 _ _ _ _ _ (by intro a; fin_cases a <;> simp [hn])
theorem cwV_at (j : Fin 11) (k : Fin 3) (l : Fin 256) (n : Fin 5632) (hn : n.val = 2816 + 256 * j.val + l.val) :
    P.cwV j (ix2 k l) = P.x15 (ix2 k n) :=
  readAt_unread P.harg17 P.x15 _ _ _ _ _ (by intro a; fin_cases a <;> simp [hn])
theorem cbG_at (j : Fin 11) (l : Fin 256) (n : Fin 5632) (hn : n.val = 256 * j.val + l.val) :
    P.cbG j (ix2 0 l) = P.x16 (ix2 0 n) :=
  readAt_unread P.harg18 P.x16 _ _ _ _ _ (by intro a; fin_cases a <;> simp [hn])
theorem cbV_at (j : Fin 11) (l : Fin 256) (n : Fin 5632) (hn : n.val = 2816 + 256 * j.val + l.val) :
    P.cbV j (ix2 0 l) = P.x16 (ix2 0 n) :=
  readAt_unread P.harg18 P.x16 _ _ _ _ _ (by intro a; fin_cases a <;> simp [hn])
theorem wd_at (j : Fin 11) (k : Fin 256) (l : Fin 1024) (n : Fin 2816) (hn : n.val = 256 * j.val + k.val) :
    P.wd j (ix2 k l) = P.x17 (ix2 n l) :=
  readAt_unread P.harg19 P.x17 _ _ _ _ _ (by intro a; fin_cases a <;> simp [hn])

end Loads

/-- An index inside the newest piece's rectangle reads that piece at the index less the offsets. -/
theorem hit {κ : Kind} {sp : Space} {e : EltTy} {m0 m1 k0 k1 o0 o1 : ℕ} (v : View sig κ sp ⟨2, ![m0, m1]⟩ e) (f : v.ty.Contents (Elt F))
    (inb : ∀ a, (![o0, o1] : Fin 2 → ℕ) a + (![k0, k1] : Fin 2 → ℕ) a ≤ (⟨2, ![m0, m1]⟩ : Shape).size a)
    (w : (⟨2, ![k0, k1]⟩ : Shape).Idx → Elt F e) (L : List (View.Piece (Elt F) ⟨2, ![m0, m1]⟩ e)) (n : Fin m0) (l : Fin m1) (a : Fin k0) (b : Fin k1)
    (h0 : n.val = o0 + a.val) (h1 : l.val = o1 + b.val) :
    v.read (Elt F) (v.writes (Elt F) f (⟨Rect.unit (s := ⟨2, ![m0, m1]⟩) ![o0, o1] ![k0, k1] inb, w⟩ :: L)) (ix2 n l) = w (ix2 a b) :=
  View.read_writes_cons_unit_of_mem v f inb w L (ix2 n l) (ix2 a b) rfl
    (by intro c; fin_cases c <;> simpa)

/-- The same of three axes. -/
theorem hit3 {κ : Kind} {sp : Space} {e : EltTy} {m0 m1 m2 k0 k1 k2 o0 o1 o2 : ℕ} (v : View sig κ sp ⟨3, ![m0, m1, m2]⟩ e)
    (f : v.ty.Contents (Elt F))
    (inb : ∀ a, (![o0, o1, o2] : Fin 3 → ℕ) a + (![k0, k1, k2] : Fin 3 → ℕ) a ≤ (⟨3, ![m0, m1, m2]⟩ : Shape).size a)
    (w : (⟨3, ![k0, k1, k2]⟩ : Shape).Idx → Elt F e) (L : List (View.Piece (Elt F) ⟨3, ![m0, m1, m2]⟩ e)) (n : Fin m0) (l : Fin m1)
    (k : Fin m2) (a : Fin k0) (b : Fin k1) (d : Fin k2) (h0 : n.val = o0 + a.val) (h1 : l.val = o1 + b.val) (h2 : k.val = o2 + d.val) :
    v.read (Elt F) (v.writes (Elt F) f (⟨Rect.unit (s := ⟨3, ![m0, m1, m2]⟩) ![o0, o1, o2] ![k0, k1, k2] inb, w⟩ :: L)) (ix3 n l k)
      = w (ix3 a b d) :=
  View.read_writes_cons_unit_of_mem v f inb w L (ix3 n l k) (ix3 a b d) rfl
    (by intro c; fin_cases c <;> simpa)

/-- A row among sixteen before a point's own 512, those, and sixteen after. -/
def row3 {W : ℕ} {α : Type} (a : Fin 16 → Fin W → α) (o : Fin 512 → Fin W → α) (z : Fin 16 → Fin W → α) (n : Fin 544) (l : Fin W) : α :=
  if h : n.val < 16 then a ⟨n.val, h⟩ l else if h' : n.val < 528 then o ⟨n.val - 16, by omega⟩ l else z ⟨n.val - 528, by omega⟩ l

/-- The rows brought together: the recurrence's columns. -/
theorem mix_left (P : Point F) (n : Fin 544) (k : Fin 1024) (k' : Fin 512) (hk : k.val = k'.val) :
    P.mix (ix2 n k) = row3 (fun r l => P.x1 (ix3 0 r l)) (fun r l => P.x0 (ix3 0 r l)) (fun r l => P.x2 (ix3 0 r l)) n k' := by
  have hk' := k'.isLt
  unfold Point.mix
  refine (readCov_at _ _ _ _ _ _ (ix2 n k) (by intro a; fin_cases a <;> simp)).trans ?_
  unfold Point.mixP row3
  rw [View.read_writes_cons_unit_of_not_mem _ _ _ _ _ _ rfl 1 (.inl (by simp; omega))]
  by_cases h : n.val < 16
  · rw [dif_pos h, View.read_writes_cons_unit_of_not_mem _ _ _ _ _ _ rfl 0 (.inl (by simp; omega)),
      View.read_writes_cons_unit_of_not_mem _ _ _ _ _ _ rfl 0 (.inl (by simp; omega)),
      View.read_writes_cons_unit_of_not_mem _ _ _ _ _ _ rfl 0 (.inl (by simp; omega)),
      View.read_writes_cons_unit_of_not_mem _ _ _ _ _ _ rfl 1 (.inl (by simp; omega))]
    refine (hit _ _ _ _ _ n _ (⟨n.val, h⟩) k' (by simp) (by simpa using hk)).trans ?_
    pointwise [k0_pay1]
    exact rnPrev_at P _ _
  · rw [dif_neg h]
    by_cases h' : n.val < 528
    · rw [dif_pos h', View.read_writes_cons_unit_of_not_mem _ _ _ _ _ _ rfl 0 (.inl (by simp; omega)),
        View.read_writes_cons_unit_of_not_mem _ _ _ _ _ _ rfl 1 (.inl (by simp; omega))]
      refine (hit _ _ _ _ _ n _ (⟨n.val - 16, by omega⟩) k' (by dsimp only; omega) (by simpa using hk)).trans ?_
      pointwise [k0_pay3]
      exact rn_at P _ _
    · rw [dif_neg h']
      refine (hit _ _ _ _ _ n _ (⟨n.val - 528, by omega⟩) k' (by dsimp only; omega) (by simpa using hk)).trans ?_
      pointwise [k0_pay5]
      exact rnNext_at P _ _

/-- The rows brought together: attention's columns. -/
theorem mix_right (P : Point F) (n : Fin 544) (k : Fin 1024) (k' : Fin 512) (hk : k.val = 512 + k'.val) :
    P.mix (ix2 n k) = row3 (fun r l => P.x4 (ix3 0 r l)) (fun r l => P.x3 (ix3 0 r l)) (fun r l => P.x5 (ix3 0 r l)) n k' := by
  have hk' := k'.isLt
  unfold Point.mix
  refine (readCov_at _ _ _ _ _ _ (ix2 n k) (by intro a; fin_cases a <;> simp)).trans ?_
  unfold Point.mixP row3
  by_cases h : n.val < 16
  · rw [dif_pos h, View.read_writes_cons_unit_of_not_mem _ _ _ _ _ _ rfl 0 (.inl (by simp; omega)),
      View.read_writes_cons_unit_of_not_mem _ _ _ _ _ _ rfl 0 (.inl (by simp; omega)),
      View.read_writes_cons_unit_of_not_mem _ _ _ _ _ _ rfl 0 (.inl (by simp; omega)),
      View.read_writes_cons_unit_of_not_mem _ _ _ _ _ _ rfl 0 (.inl (by simp; omega))]
    refine (hit _ _ _ _ _ n _ (⟨n.val, h⟩) k' (by simp) (by simpa using hk)).trans ?_
    pointwise [k0_pay2]
    exact anPrev_at P _ _
  · rw [dif_neg h]
    by_cases h' : n.val < 528
    · rw [dif_pos h', View.read_writes_cons_unit_of_not_mem _ _ _ _ _ _ rfl 0 (.inl (by simp; omega)),
        View.read_writes_cons_unit_of_not_mem _ _ _ _ _ _ rfl 0 (.inl (by simp; omega))]
      refine (hit _ _ _ _ _ n _ (⟨n.val - 16, by omega⟩) k' (by dsimp only; omega) (by simpa using hk)).trans ?_
      pointwise [k0_pay4]
      exact an_at P _ _
    · rw [dif_neg h']
      refine (hit _ _ _ _ _ n _ (⟨n.val - 528, by omega⟩) k' (by dsimp only; omega) (by simpa using hk)).trans ?_
      pointwise [k0_pay6]
      exact anNext_at P _ _

/-- The modulated rows read back: those before the point's own, its own, those after. -/
theorem he_at (P : Point F) (i : grid0.Coords) (n : Fin 544) (k : Fin 1024) :
    P.he i (ix2 n k) = row3
      (fun r l => k0_pay15 (k0_pay14 (step i) P.proj P.gain P.xPrev P.g1 P.sh) (ix2 r l))
      (fun r l => k0_pay12 P.gain (k0_pay9 P.mix P.wo P.xOwn P.g1) (k0_pay11 P.mix P.wo P.xOwn P.g1) P.sh (ix2 r l))
      (fun r l => k0_pay16 (step i) P.proj P.gain k0_pay13 P.xNext P.g1 P.sh (ix2 r l)) n k := by
  unfold Point.he
  refine (readCov_at _ _ _ _ _ _ (ix2 n k) (by intro a; fin_cases a <;> simp)).trans ?_
  unfold Point.hextP row3
  by_cases h : n.val < 16
  · rw [dif_pos h, View.read_writes_cons_unit_of_not_mem _ _ _ _ _ _ rfl 0 (.inl (by simp; omega))]
    exact hit _ _ _ _ _ n _ (⟨n.val, h⟩) k (by simp) (by simp)
  · rw [dif_neg h]
    by_cases h' : n.val < 528
    · rw [dif_pos h', View.read_writes_cons_unit_of_not_mem _ _ _ _ _ _ rfl 0 (.inl (by simp; omega)),
        View.read_writes_cons_unit_of_not_mem _ _ _ _ _ _ rfl 0 (.inr (by simp; omega))]
      exact hit _ _ _ _ _ n _ (⟨n.val - 16, by omega⟩) k (by dsimp only; omega) (by simp)
    · rw [dif_neg h']
      exact hit _ _ _ _ _ n _ (⟨n.val - 528, by omega⟩) k (by dsimp only; omega) (by simp)

/-- The place of a number below eleven among the eleven. -/
theorem ch_of (j : Fin 11) : ch j.val = j := Fin.ext (Nat.mod_eq_of_lt j.isLt)

/-- A column of a chunk by its slab of 128. -/
def slabCol (s : Fin 2) (l : Fin 128) : Fin 256 := ⟨128 * s.val + l.val, by omega⟩

/-- A chunk's columns are where its stores put them. -/
theorem ug_hit (P : Point F) (i : grid0.Coords) (j : Fin 11) (L) {κ : Kind} {sp : Space} (v : View sig κ sp S2x2x544x128 .f32)
    (f : v.ty.Contents (Elt F)) (x : Fin 2) (hx : x.val = j.val % 2) (s : Fin 2) (n : Fin 544) (l : Fin 128) :
    v.read (Elt F) (v.writes (Elt F) f (P.ugPiece i j L)) (ix4 x s n l) = k0_pay17 (P.he i) (P.wuG j) (ix2 n (slabCol s l)) := by
  unfold Point.ugPiece
  have hs : s = 0 ∨ s = 1 := by omega
  rcases hs with rfl | rfl
  · rw [View.read_writes_cons_unit_of_not_mem _ _ _ _ _ _ rfl 1 (.inl (by simp))]
    refine (View.read_writes_cons_unit_of_mem v f _ _ _ _ (ix4 0 0 n l) rfl (by intro a; fin_cases a <;> simp [hx])).trans ?_
    skip
    generalize k0_pay17 (P.he i) (P.wuG j) = y
    unfold k0_pay19
    pointwise [slabCol]
  · refine (View.read_writes_cons_unit_of_mem v f _ _ _ _ (ix4 0 0 n l) rfl (by intro a; fin_cases a <;> simp [hx])).trans ?_
    skip
    generalize k0_pay17 (P.he i) (P.wuG j) = y
    unfold k0_pay21
    pointwise [slabCol]

/-- The stores of a chunk of the other parity leave it alone. -/
theorem ug_miss (P : Point F) (i : grid0.Coords) (j : Fin 11) (L) {κ : Kind} {sp : Space} (v : View sig κ sp S2x2x544x128 .f32)
    (f : v.ty.Contents (Elt F)) (x : Fin 2) (hx : x.val ≠ j.val % 2) (s : Fin 2) (n : Fin 544) (l : Fin 128) :
    v.read (Elt F) (v.writes (Elt F) f (P.ugPiece i j L)) (ix4 x s n l) = v.read (Elt F) (v.writes (Elt F) f L) (ix4 x s n l) := by
  have := x.isLt
  unfold Point.ugPiece
  rw [View.read_writes_cons_unit_of_not_mem _ _ _ _ _ _ rfl 0 (by simp; omega),
    View.read_writes_cons_unit_of_not_mem _ _ _ _ _ _ rfl 0 (by simp; omega)]

/-- After a chunk's stores the list ends with them. -/
theorem ugP_eq (P : Point F) (i : grid0.Coords) (n : ℕ) : ∃ L, P.ugP i n = P.ugPiece i (ch n) L := by
  cases n with
  | zero => exact ⟨[], rfl⟩
  | succ n => exact ⟨_, rfl⟩

/-- Every second row of a slab of a chunk is the chunk's. -/
theorem ugT_at (P : Point F) (i : grid0.Coords) (j : Fin 11) (s : Fin 2) (t : Fin 4) (r : Fin 256) (l : Fin 128) :
    P.ugT i j s t (ix4 0 0 r l) = k0_pay17 (P.he i) (P.wuG j) (ix2 (⟨15 + t.val + 2 * r.val, by omega⟩ : Fin 544) (slabCol s l)) := by
  have hj := j.isLt
  unfold Point.ugT
  refine (readCov_box _ _ _ _ _ _ _ (ix4 (⟨j.val % 2, by omega⟩ : Fin 2) s (⟨15 + t.val + 2 * r.val, by omega⟩ : Fin 544) l)
    (by intro a; fin_cases a <;> simp)).trans ?_
  unfold ahead
  by_cases h : j.val + 1 ≤ 10
  · rw [min_eq_left h]
    have e : P.ugP i (j.val + 1) = P.ugPiece i (ch (j.val + 1)) (P.ugP i j.val) := rfl
    have e2 : (ch (j.val + 1)).val = j.val + 1 := Nat.mod_eq_of_lt (by omega)
    rw [e, ug_miss _ _ _ _ _ _ _ (by rw [e2]; simp; omega)]
    obtain ⟨L, hL⟩ := ugP_eq P i j.val
    rw [hL, ch_of, ug_hit _ _ _ _ _ _ _ rfl]
  · rw [min_eq_right (by omega)]
    have e3 : ch 10 = j := by rw [← ch_of j]; congr 1; omega
    obtain ⟨L, hL⟩ := ugP_eq P i 10
    rw [hL, e3, ug_hit _ _ _ _ _ _ _ rfl]

/-- A chunk's columns are where its stores put them. -/
theorem uv_hit (P : Point F) (i : grid0.Coords) (j : Fin 11) (L) {κ : Kind} {sp : Space} (v : View sig κ sp S2x2x544x128 .f32)
    (f : v.ty.Contents (Elt F)) (x : Fin 2) (hx : x.val = j.val % 2) (s : Fin 2) (n : Fin 544) (l : Fin 128) :
    v.read (Elt F) (v.writes (Elt F) f (P.uvPiece i j L)) (ix4 x s n l) = k0_pay18 (P.he i) (P.wuV j) (ix2 n (slabCol s l)) := by
  unfold Point.uvPiece
  have hs : s = 0 ∨ s = 1 := by omega
  rcases hs with rfl | rfl
  · rw [View.read_writes_cons_unit_of_not_mem _ _ _ _ _ _ rfl 1 (.inl (by simp))]
    refine (View.read_writes_cons_unit_of_mem v f _ _ _ _ (ix4 0 0 n l) rfl (by intro a; fin_cases a <;> simp [hx])).trans ?_
    unfold k0_pay20
    generalize k0_pay18 (P.he i) (P.wuV j) = y

    pointwise [slabCol]
  · refine (View.read_writes_cons_unit_of_mem v f _ _ _ _ (ix4 0 0 n l) rfl (by intro a; fin_cases a <;> simp [hx])).trans ?_
    unfold k0_pay22
    generalize k0_pay18 (P.he i) (P.wuV j) = y

    pointwise [slabCol]

/-- The stores of a chunk of the other parity leave it alone. -/
theorem uv_miss (P : Point F) (i : grid0.Coords) (j : Fin 11) (L) {κ : Kind} {sp : Space} (v : View sig κ sp S2x2x544x128 .f32)
    (f : v.ty.Contents (Elt F)) (x : Fin 2) (hx : x.val ≠ j.val % 2) (s : Fin 2) (n : Fin 544) (l : Fin 128) :
    v.read (Elt F) (v.writes (Elt F) f (P.uvPiece i j L)) (ix4 x s n l) = v.read (Elt F) (v.writes (Elt F) f L) (ix4 x s n l) := by
  have := x.isLt
  unfold Point.uvPiece
  rw [View.read_writes_cons_unit_of_not_mem _ _ _ _ _ _ rfl 0 (by simp; omega),
    View.read_writes_cons_unit_of_not_mem _ _ _ _ _ _ rfl 0 (by simp; omega)]

/-- After a chunk's stores the list ends with them. -/
theorem uvP_eq (P : Point F) (i : grid0.Coords) (n : ℕ) : ∃ L, P.uvP i n = P.uvPiece i (ch n) L := by
  cases n with
  | zero => exact ⟨[], rfl⟩
  | succ n => exact ⟨_, rfl⟩

/-- Every second row of a slab of a chunk is the chunk's. -/
theorem uvT_at (P : Point F) (i : grid0.Coords) (j : Fin 11) (s : Fin 2) (t : Fin 4) (r : Fin 256) (l : Fin 128) :
    P.uvT i j s t (ix4 0 0 r l) = k0_pay18 (P.he i) (P.wuV j) (ix2 (⟨15 + t.val + 2 * r.val, by omega⟩ : Fin 544) (slabCol s l)) := by
  have hj := j.isLt
  unfold Point.uvT
  refine (readCov_box _ _ _ _ _ _ _ (ix4 (⟨j.val % 2, by omega⟩ : Fin 2) s (⟨15 + t.val + 2 * r.val, by omega⟩ : Fin 544) l)
    (by intro a; fin_cases a <;> simp)).trans ?_
  unfold ahead
  by_cases h : j.val + 1 ≤ 10
  · rw [min_eq_left h]
    have e : P.uvP i (j.val + 1) = P.uvPiece i (ch (j.val + 1)) (P.uvP i j.val) := rfl
    have e2 : (ch (j.val + 1)).val = j.val + 1 := Nat.mod_eq_of_lt (by omega)
    rw [e, uv_miss _ _ _ _ _ _ _ (by rw [e2]; simp; omega)]
    obtain ⟨L, hL⟩ := uvP_eq P i j.val
    rw [hL, ch_of, uv_hit _ _ _ _ _ _ _ rfl]
  · rw [min_eq_right (by omega)]
    have e3 : ch 10 = j := by rw [← ch_of j]; congr 1; omega
    obtain ⟨L, hL⟩ := uvP_eq P i 10
    rw [hL, e3, uv_hit _ _ _ _ _ _ _ rfl]

/-- After a chunk's store of gated values the list ends with it. -/
theorem actP_eq (P : Point F) (i : grid0.Coords) (n : ℕ) :
    ∃ L, P.actP i n = ⟨Rect.unit (s := S2x512x256) ![(ch n).val % 2, 0, 0] S1x512x256.size (act_inb (ch n)), P.act i (ch n)⟩ :: L := by
  cases n with
  | zero => exact ⟨[], rfl⟩
  | succ n => exact ⟨_, rfl⟩

/-- The gated values of a chunk as the down projection loads them are the chunk's. -/
theorem actR_at (P : Point F) (i : grid0.Coords) (j : Fin 11) (r : Fin 512) (l : Fin 256) :
    P.actR i j (ix3 0 r l) = P.act i j (ix3 0 r l) := by
  have hj := j.isLt
  unfold Point.actR
  refine (readCov_at _ _ _ _ _ _ (ix3 (⟨j.val % 2, by omega⟩ : Fin 2) r l) (by intro a; fin_cases a <;> simp)).trans ?_
  unfold ahead
  by_cases h : j.val + 1 ≤ 10
  · rw [min_eq_left h]
    have e2 : (ch (j.val + 1)).val = j.val + 1 := Nat.mod_eq_of_lt (by omega)
    have e : P.actP i (j.val + 1) = ⟨Rect.unit (s := S2x512x256) ![(ch (j.val + 1)).val % 2, 0, 0] S1x512x256.size
      (act_inb (ch (j.val + 1))), P.act i (ch (j.val + 1))⟩ :: P.actP i j.val := rfl
    rw [e, View.read_writes_cons_unit_of_not_mem _ _ _ _ _ _ rfl 0 (by rw [e2]; simp; omega)]
    obtain ⟨L, hL⟩ := actP_eq P i j.val
    rw [hL, ch_of]
    exact hit3 _ _ _ _ _ _ r l 0 r l (by simp) (by simp) (by simp)
  · rw [min_eq_right (by omega)]
    have e3 : ch 10 = j := by rw [← ch_of j]; congr 1; omega
    obtain ⟨L, hL⟩ := actP_eq P i 10
    rw [hL, e3]
    exact hit3 _ _ _ _ _ _ r l 0 r l (by simp) (by simp) (by simp)

/-- The running sum after chunk `n`. -/
def Point.accV (P : Point F) (i : grid0.Coords) : ℕ → Vec F S512x1024 .f32
  | 0 => k0_pay90 (P.actR i 0) (P.wd 0)
  | n + 1 => k0_pay125 (P.accV i n) (P.actR i (ch (n + 1))) (P.wd (ch (n + 1)))

/-- It is what the buffer reads. -/
theorem acc_read (P : Point F) (i : grid0.Coords) (n : ℕ) :
    P.arg29.view.readCov (P.accP i n) (Rect.unit (s := S512x1024) ![0, 0] S512x1024.size inb_S512x1024_S512x1024_0_0).toLoadRect = P.accV i n := by
  induction n with
  | zero => exact View.readCov_cons_toLoadRect _ _ _ _
  | succ n ih =>
    refine (View.readCov_cons_toLoadRect _ _ _ _).trans ?_
    rw [ih]
    rfl

/-- The residual rows of the point, read back. -/
theorem x1_read (P : Point F) :
    P.arg24.view.readCov P.x1P (Rect.unit (s := S512x1024) ![0, 0] S512x1024.size inb_S512x1024_S512x1024_0_0).toLoadRect
      = k0_pay10 P.mix P.wo P.xOwn P.g1 :=
  View.readCov_cons_toLoadRect _ _ _ _

/-- Where the sum keeps row `r` of a point: the even rows first, then the odd ones. -/
def split (r : Fin 512) : Fin 512 := ⟨256 * (r.val % 2) + r.val / 2, by omega⟩

/-- One of the interleaving stores: every second row of a slab is the half's row. -/
theorem nat_piece (v : FVec F S512x1024 .f32) (σ : Fin 8) (π : Fin 2) (b : Fin 256) (d : Fin 128) (n : Fin 512) (k : Fin 1024)
    (hn : n.val = 256 * π.val + b.val) (hk : k.val = 128 * σ.val + d.val) :
    shapeCast S1x256x128 (extractStridedSlice S256x128 ![256 * π.val, 128 * σ.val] v (half_slices σ π)) shapeCasts_S256x128_S1x256x128 (ix3 0 b d)
      = v (ix2 n k) := by
  pointwise
  exact congrArg v (congrArg₂ ix2 (Fin.ext hn.symm) (Fin.ext hk.symm))

/-- The interleaved rows, read back. -/
theorem nat_at (P : Point F) (i : grid0.Coords) (s : Fin 8) (r : Fin 512) (l : Fin 128) (n : Fin 1024) (hn : n.val = 128 * s.val + l.val) :
    P.nat i s (ix3 0 r l) = P.mixed i (ix2 (split r) n) := by
  unfold Point.nat
  generalize P.mixed i = v
  refine (readCov_at _ _ _ _ _ _ (ix3 s r l) (by intro a; fin_cases a <;> simp)).trans ?_
  rw [View.read_writes_junk_apply_eq_canon]
  have hG := View.canon_apply_of_pieces (S := S8x512x128) (Val := Elt F) (e := .f32)
    (fun y => v (ix2 (split (y 1)) (⟨128 * (y 0).val + (y 2).val, by
      have h0 : (y 0).val < 8 := (y 0).isLt
      have h2 : (y 2).val < 128 := (y 2).isLt
      omega⟩ : Fin 1024))) (natP v) ?_ (ix3 s r l) ?_
  · rw [hG]
    exact congrArg v (congrArg (ix2 (split r)) (Fin.ext hn.symm))
  · intro p hp x
    obtain ⟨k, rfl⟩ := List.mem_ofFn.mp hp
    obtain ⟨a, b, d, rfl⟩ : ∃ (a : Fin 1) (b : Fin 256) (d : Fin 128), x = ix3 a b d :=
      ⟨x 0, x 1, x 2, funext fun q => by match q with | ⟨0, _⟩ => rfl | ⟨1, _⟩ => rfl | ⟨2, _⟩ => rfl⟩
    have ha : a = 0 := by omega
    subst ha
    dsimp only
    refine nat_piece v ⟨7 - k.val / 2, by omega⟩ ⟨1 - k.val % 2, by omega⟩ b d _ _ ?_ ?_
    · show 256 * ((1 - k.val % 2 + 2 * b.val) % 2) + (1 - k.val % 2 + 2 * b.val) / 2 = _
      simp only []
      omega
    · show 128 * (7 - k.val / 2 + 1 * 0) + (0 + 1 * d.val) = _
      simp
  · refine ⟨_, List.mem_ofFn.mpr ⟨⟨15 - 2 * s.val - r.val % 2, by omega⟩, rfl⟩, ?_⟩
    refine (LoadRect.mem_set _).mpr fun a => ?_
    have hs := s.isLt
    match a with
    | ⟨0, _⟩ => exact ⟨0, Nat.one_pos, by show s.val = 7 - (15 - 2 * s.val - r.val % 2) / 2 + 1 * 0; omega⟩
    | ⟨1, _⟩ => exact ⟨r.val / 2, by show r.val / 2 < 256; omega, by show r.val = 1 - (15 - 2 * s.val - r.val % 2) % 2 + 2 * (r.val / 2); omega⟩
    | ⟨2, _⟩ => exact ⟨l.val, l.isLt, by show l.val = 0 + 1 * l.val; omega⟩

end Cert.Ffn

end
-- ==== Proof.FfnSpec.lean ====
/- What the feed-forward call computes, as a function of the extended reals the arguments hold: the mixer's output projection and
   gated residual, the modulated norm, the up projection, the convolution over three neighbouring rows, the gate, the down
   projection with its gated residual, and the final norm. -/
module

public import proofs.«01_k».proof.Proof.FfnCarry

@[expose] public section

set_option maxRecDepth 16384

noncomputable section

namespace Cert.Ffn

open Idealize.ShloMosaic

/-- The arguments' extended reals: the mixer's two halves, the residual stream, the projection, the modulation's four parts, the
    norms' weights, the up projection, the convolution and the down projection. -/
structure Inputs where
  r : Fin 2 → Fin 16384 → Fin 512 → EReal
  a : Fin 2 → Fin 16384 → Fin 512 → EReal
  x : Fin 2 → Fin 16384 → Fin 1024 → EReal
  wo : Fin 1024 → Fin 1024 → EReal
  g1 : Fin 2 → Fin 1024 → EReal
  sh : Fin 2 → Fin 1024 → EReal
  sc : Fin 2 → Fin 1024 → EReal
  g2 : Fin 2 → Fin 1024 → EReal
  ng : Fin 1024 → EReal
  wu : Fin 1024 → Fin 5632 → EReal
  cw : Fin 3 → Fin 5632 → EReal
  cb : Fin 5632 → EReal
  wd : Fin 2816 → Fin 1024 → EReal
  fg : Fin 1024 → EReal

/-- The factor that brings a row to unit mean square. -/
def rms (v : Fin 1024 → EReal) : EReal :=
  Ideal.rsqrt (Ideal.div (∑ k, v k * v k) (Ideal.ofBits .f32 0x44800000#32) + Ideal.ofBits .f32 0x358637BD#32)

/-- The gate's function of a convolved value. -/
def silu (x : EReal) : EReal := x * Ideal.div (Ideal.ofBits .f32 0x3F800000#32) (Ideal.ofBits .f32 0x3F800000#32 + Ideal.exp (-x))

/-- The same by the hyperbolic tangent of the half. -/
def siluT (x : EReal) : EReal :=
  Ideal.ofBits .f32 0x3F000000#32 * x * Ideal.tanh (Ideal.ofBits .f32 0x3F000000#32 * x) + Ideal.ofBits .f32 0x3F000000#32 * x

/-- A column of the gate's half of the hidden columns. -/
def gCol (c : Fin 2816) : Fin 5632 := ⟨c.val, by omega⟩

/-- A column of the values' half. -/
def vCol (c : Fin 2816) : Fin 5632 := ⟨2816 + c.val, by omega⟩

namespace Inputs

variable (I : Inputs)

/-- The mixer's halves side by side. -/
def mix (b : Fin 2) (p : Fin 16384) (k : Fin 1024) : EReal :=
  if h : k.val < 512 then I.r b p ⟨k.val, h⟩ else I.a b p ⟨k.val - 512, by omega⟩

/-- The residual stream after the mixer. -/
def x1 (b : Fin 2) (p : Fin 16384) (k : Fin 1024) : EReal := I.x b p k + I.g1 b k * ∑ j, I.mix b p j * I.wo j k

/-- The modulated norm of it. -/
def h (b : Fin 2) (p : Fin 16384) (k : Fin 1024) : EReal :=
  I.x1 b p k * rms (I.x1 b p) * (I.ng k * (Ideal.ofBits .f32 0x3F800000#32 + I.sc b k)) + I.sh b k

/-- The up projection of it. -/
def u (b : Fin 2) (p : Fin 16384) (c : Fin 5632) : EReal := ∑ k, I.h b p k * I.wu k c

/-- The modulated norm by the row after, zero off the sequence. -/
def hz (b : Fin 2) (q : ℕ) (k : Fin 1024) : EReal := if h : 1 ≤ q ∧ q ≤ 16384 then I.h b ⟨q - 1, by omega⟩ k else 0

/-- The up projection by the row after, zero off the sequence. -/
def uz (b : Fin 2) (q : ℕ) (c : Fin 5632) : EReal := if h : 1 ≤ q ∧ q ≤ 16384 then I.u b ⟨q - 1, by omega⟩ c else 0

/-- Off the sequence the up projection of zero is zero. -/
theorem uz_sum (b : Fin 2) (q : ℕ) (c : Fin 5632) : ∑ k, I.hz b q k * I.wu k c = I.uz b q c := by
  unfold hz uz
  split
  · rfl
  · simp

/-- The convolution over a row and its two neighbours. -/
def conv (b : Fin 2) (p : Fin 16384) (c : Fin 5632) : EReal :=
  I.cb c + I.uz b p.val c * I.cw 0 c + I.uz b (p.val + 1) c * I.cw 1 c + I.uz b (p.val + 2) c * I.cw 2 c

/-- The gated values. -/
def act (b : Fin 2) (p : Fin 16384) (c : Fin 2816) : EReal := silu (I.conv b p (gCol c)) * I.conv b p (vCol c)

/-- The residual stream after the feed-forward. -/
def y (b : Fin 2) (p : Fin 16384) (k : Fin 1024) : EReal := I.x1 b p k + I.g2 b k * ∑ c, I.act b p c * I.wd c k

/-- The final norm of it. -/
def out (b : Fin 2) (p : Fin 16384) (k : Fin 1024) : EReal := I.y b p k * rms (I.y b p) * I.fg k

end Inputs

/-- The numbers that eleven arrays hold. -/
def inputs (x0 x1 : (⟨3, ![2, 16384, 512]⟩ : Shape).Idx → EReal) (x2 : (⟨3, ![2, 16384, 1024]⟩ : Shape).Idx → EReal)
    (x3 : (⟨2, ![1024, 1024]⟩ : Shape).Idx → EReal) (x4 : (⟨3, ![8, 1, 6144]⟩ : Shape).Idx → EReal)
    (x5 : (⟨2, ![1, 1024]⟩ : Shape).Idx → EReal) (x6 : (⟨2, ![1024, 5632]⟩ : Shape).Idx → EReal)
    (x7 : (⟨2, ![3, 5632]⟩ : Shape).Idx → EReal) (x8 : (⟨2, ![1, 5632]⟩ : Shape).Idx → EReal)
    (x9 : (⟨2, ![2816, 1024]⟩ : Shape).Idx → EReal) (x10 : (⟨2, ![1, 1024]⟩ : Shape).Idx → EReal) : Inputs where
  r b p k := x0 (ix3 b p k)
  a b p k := x1 (ix3 b p k)
  x b p k := x2 (ix3 b p k)
  wo j k := x3 (ix2 j k)
  g1 b k := x4 (ix3 (⟨b.val, by omega⟩ : Fin 8) 0 (⟨2048 + k.val, by omega⟩ : Fin 6144))
  sh b k := x4 (ix3 (⟨b.val, by omega⟩ : Fin 8) 0 (⟨3072 + k.val, by omega⟩ : Fin 6144))
  sc b k := x4 (ix3 (⟨b.val, by omega⟩ : Fin 8) 0 (⟨4096 + k.val, by omega⟩ : Fin 6144))
  g2 b k := x4 (ix3 (⟨b.val, by omega⟩ : Fin 8) 0 (⟨5120 + k.val, by omega⟩ : Fin 6144))
  ng k := x5 (ix2 0 k)
  wu k c := x6 (ix2 k c)
  cw t c := x7 (ix2 t c)
  cb c := x8 (ix2 0 c)
  wd c k := x9 (ix2 c k)
  fg k := x10 (ix2 0 k)

/-- A sum over the hidden columns, by chunks of 256. -/
theorem chunk_sum (f : Fin 2816 → EReal) : ∑ c, f c = ∑ j : Fin 11, ∑ k : Fin 256, f ⟨256 * j.val + k.val, by omega⟩ := by
  rw [← Fintype.sum_prod_type' (f := fun (j : Fin 11) (k : Fin 256) => f ⟨256 * j.val + k.val, by omega⟩)]
  refine (Equiv.sum_comp (finProdFinEquiv (m := 11) (n := 256)) f).symm.trans (Finset.sum_congr rfl fun x _ => congrArg f (Fin.ext ?_))
  simp [finProdFinEquiv]
  ring

end Cert.Ffn

end
-- ==== Proof.FfnTile.lean ====
/- A grid point's value over the extended reals: the rows around it, from the numbers the point loads. -/
module

public import proofs.«01_k».proof.Proof.FfnSpec
public import proofs.«01_k».proof.Proof.Bias

@[expose] public section

set_option maxRecDepth 16384

noncomputable section

namespace Cert.Ffn

open Cert.Kernel2Ideal Cert.Kernel2Ideal.Gen Cert.Kernel2Ideal.Facts
open Cert.Attn (select_if)
open Idealize.ShloMosaic Idealize.ShloMosaic.TcCoe Idealize.SL.Sem

/-- The output projection, entry by entry. -/
theorem pay7_at (v : Vec Ideal S544x1024 .bf16) (w : Vec Ideal S1024x1024 .bf16) (n : Fin 544) (k : Fin 1024) :
    k0_pay7 v w (ix2 n k) = ∑ j : Fin 1024, (v (ix2 n j) : EReal) * w (ix2 j k) := by
  pointwise [k0_pay7]

/-- The gain, entry by entry. -/
theorem pay8_at (v : Vec Ideal S1x1024 .f32) (w : Vec Ideal S1x1x1024 .f32) (k : Fin 1024) :
    k0_pay8 v w (ix2 0 k) = (v (ix2 0 k) : EReal) * (Ideal.ofBits .f32 0x3F800000#32 + w (ix3 0 0 k)) := by
  pointwise [k0_pay8]

/-- The residual rows, entry by entry. -/
theorem pay9_at (v : Vec Ideal S544x1024 .bf16) (w : Vec Ideal S1024x1024 .bf16) (x : Vec Ideal S1x512x1024 .f32) (g : Vec Ideal S1x1x1024 .f32)
    (r : Fin 512) (k : Fin 1024) :
    k0_pay9 v w x g (ix2 r k) = (x (ix3 0 r k) : EReal) + g (ix3 0 0 k) * k0_pay7 v w (ix2 (⟨16 + r.val, by omega⟩ : Fin 544) k) := by
  unfold k0_pay9
  generalize k0_pay7 v w = y
  pointwise

/-- The residual rows' norm factor. -/
theorem pay11_at (v : Vec Ideal S544x1024 .bf16) (w : Vec Ideal S1024x1024 .bf16) (x : Vec Ideal S1x512x1024 .f32) (g : Vec Ideal S1x1x1024 .f32)
    (r : Fin 512) (k : Fin 1024) : k0_pay11 v w x g (ix2 r k) = rms (fun j => k0_pay9 v w x g (ix2 r j)) := by
  unfold k0_pay11
  generalize k0_pay9 v w x g = y
  pointwise
  rfl

/-- The modulated rows. -/
theorem pay12_at (v : FVec Ideal S1x1024 .f32) (y z : FVec Ideal S512x1024 .f32) (s : Vec Ideal S1x1x1024 .f32) (r : Fin 512) (k : Fin 1024) :
    k0_pay12 v y z s (ix2 r k) = (y (ix2 r k) : EReal) * z (ix2 r k) * v (ix2 0 k) + s (ix3 0 0 k) := by
  pointwise [k0_pay12]

/-- The first step, as a bit. -/
theorem first_word : ∀ s : Fin 32, Scalar.cmpi .sgt (BitVec.ofNat 32 s.val) 0#32 = if 0 < s.val then 1#1 else 0#1 := by decide

/-- The last step, as a bit. -/
theorem last_word : ∀ s : Fin 32, Scalar.cmpi .slt (BitVec.ofNat 32 s.val) 31#32 = if s.val < 31 then 1#1 else 0#1 := by decide

/-- The modulated rows before, zero at the first step. -/
theorem pay14_at (w : Fin 32) (y : FVec Ideal S544x1024 .f32) (v : FVec Ideal S1x1024 .f32) (x : Vec Ideal S1x16x1024 .f32)
    (g s : Vec Ideal S1x1x1024 .f32) (r : Fin 16) (k : Fin 1024) :
    k0_pay15 (k0_pay14 (BitVec.ofNat 32 w.val) y v x g s) (ix2 r k)
      = if 0 < w.val then ((x (ix3 0 r k) : EReal) + g (ix3 0 0 k) * y (ix2 (⟨r.val, by omega⟩ : Fin 544) k))
          * rms (fun j : Fin 1024 => (x (ix3 0 r j) : EReal) + g (ix3 0 0 j) * y (ix2 (⟨r.val, by omega⟩ : Fin 544) j)) * v (ix2 0 k) + s (ix3 0 0 k) else 0 := by
  have e := first_word w
  have z : (k0_pay13 (F := Ideal) (ix2 r k) : EReal) = 0 := by pointwise [k0_pay13]
  pointwise [k0_pay15, k0_pay14]
  rw [e, select_if, z]
  rfl

/-- The modulated rows after, zero at the last step. -/
theorem pay16_at (w : Fin 32) (y : FVec Ideal S544x1024 .f32) (v : FVec Ideal S1x1024 .f32) (x : Vec Ideal S1x16x1024 .f32)
    (g s : Vec Ideal S1x1x1024 .f32) (r : Fin 16) (k : Fin 1024) :
    k0_pay16 (BitVec.ofNat 32 w.val) y v k0_pay13 x g s (ix2 r k)
      = if w.val < 31 then ((x (ix3 0 r k) : EReal) + g (ix3 0 0 k) * y (ix2 (⟨528 + r.val, by omega⟩ : Fin 544) k))
          * rms (fun j : Fin 1024 => (x (ix3 0 r j) : EReal) + g (ix3 0 0 j) * y (ix2 (⟨528 + r.val, by omega⟩ : Fin 544) j)) * v (ix2 0 k) + s (ix3 0 0 k) else 0 := by
  have e := last_word w
  pointwise [k0_pay16, k0_pay13]
  rw [e, select_if]
  rfl

/-- The up projection of a chunk. -/
theorem pay17_at (v : Vec Ideal S544x1024 .bf16) (w : Vec Ideal S1024x256 .bf16) (n : Fin 544) (k : Fin 256) :
    k0_pay17 v w (ix2 n k) = ∑ j : Fin 1024, (v (ix2 n j) : EReal) * w (ix2 j k) := by
  pointwise [k0_pay17]

/-- The same for the values. -/
theorem pay18_at (v : Vec Ideal S544x1024 .bf16) (w : Vec Ideal S1024x256 .bf16) (n : Fin 544) (k : Fin 256) :
    k0_pay18 v w (ix2 n k) = ∑ j : Fin 1024, (v (ix2 n j) : EReal) * w (ix2 j k) := by
  pointwise [k0_pay18]

/-- A chunk's down projection. -/
theorem pay90_at (v : Vec Ideal S1x512x256 .bf16) (w : Vec Ideal S256x1024 .bf16) (r : Fin 512) (k : Fin 1024) :
    k0_pay90 v w (ix2 r k) = ∑ j : Fin 256, (v (ix3 0 r j) : EReal) * w (ix2 j k) := by
  pointwise [k0_pay90]

/-- The running sum with a chunk's down projection added. -/
theorem pay125_at (a : Vec Ideal S512x1024 .f32) (v : Vec Ideal S1x512x256 .bf16) (w : Vec Ideal S256x1024 .bf16) (r : Fin 512) (k : Fin 1024) :
    k0_pay125 a v w (ix2 r k) = (a (ix2 r k) : EReal) + ∑ j : Fin 256, (v (ix3 0 r j) : EReal) * w (ix2 j k) := by
  pointwise [k0_pay125]

/-- The last chunk's. -/
theorem pay320_at (a : Vec Ideal S512x1024 .f32) (v : Vec Ideal S1x512x256 .bf16) (w : Vec Ideal S256x1024 .bf16) (r : Fin 512) (k : Fin 1024) :
    k0_pay320 a v w (ix2 r k) = (a (ix2 r k) : EReal) + ∑ j : Fin 256, (v (ix3 0 r j) : EReal) * w (ix2 j k) := by
  pointwise [k0_pay320]

/-- The convolution at a row of the chunk, from the three rows of its taps. -/
def tap (cw : Vec Ideal S3x256 .f32) (cb : Vec Ideal S1x256 .f32) (u : Fin 2 → Fin 4 → Vec Ideal S1x1x256x128 .f32) (π : Fin 2) (s : Fin 2)
    (r : Fin 256) (l : Fin 128) : EReal :=
  (cb (ix2 0 (slabCol s l)) : EReal) + u s ⟨π.val, by omega⟩ (ix4 0 0 r l) * cw (ix2 0 (slabCol s l))
    + u s ⟨π.val + 1, by omega⟩ (ix4 0 0 r l) * cw (ix2 1 (slabCol s l)) + u s ⟨π.val + 2, by omega⟩ (ix4 0 0 r l) * cw (ix2 2 (slabCol s l))

theorem gate_00 (cw : Vec Ideal S3x256 .f32) (cb : Vec Ideal S1x256 .f32) (u : Fin 2 → Fin 4 → Vec Ideal S1x1x256x128 .f32) (r : Fin 256)
    (l : Fin 128) :
    gateOf cw cb u (ix2 (⟨r.val, by omega⟩ : Fin 512) (⟨l.val, by omega⟩ : Fin 256)) = siluT (tap cw cb u 0 0 r l) := by
  have e : slabCol 0 l = (⟨l.val, by omega⟩ : Fin 256) := Fin.ext (by simp [slabCol])
  have e0 : u 0 ⟨(0 : Fin 2).val, by simp⟩ = u 0 0 := rfl
  have e1 : u 0 ⟨(0 : Fin 2).val + 1, by simp⟩ = u 0 1 := rfl
  have e2 : u 0 ⟨(0 : Fin 2).val + 2, by simp⟩ = u 0 2 := rfl
  unfold gateOf siluT tap
  rw [e, e0, e1, e2]
  generalize u 0 0 = u00
  generalize u 0 1 = u01
  generalize u 0 2 = u02
  generalize u 0 3 = u03
  generalize u 1 0 = u10
  generalize u 1 1 = u11
  generalize u 1 2 = u12
  generalize u 1 3 = u13
  pointwise [k0_pay30, k0_pay31, k0_pay32, k0_pay33, k0_pay34, k0_pay35, k0_pay36, k0_pay37, k0_pay38, k0_pay39, k0_pay40, k0_pay41, k0_pay42]

theorem act_00 (g : FVec Ideal S512x256 .f32) (cw : Vec Ideal S3x256 .f32) (cb : Vec Ideal S1x256 .f32) (u : Fin 2 → Fin 4 → Vec Ideal S1x1x256x128 .f32) (r : Fin 256)
    (l : Fin 128) :
    actOf g cw cb u (ix3 0 (⟨r.val, by omega⟩ : Fin 512) (⟨l.val, by omega⟩ : Fin 256)) = (g (ix2 (⟨r.val, by omega⟩ : Fin 512) (⟨l.val, by omega⟩ : Fin 256)) : EReal) * tap cw cb u 0 0 r l := by
  have e : slabCol 0 l = (⟨l.val, by omega⟩ : Fin 256) := Fin.ext (by simp [slabCol])
  have e0 : u 0 ⟨(0 : Fin 2).val, by simp⟩ = u 0 0 := rfl
  have e1 : u 0 ⟨(0 : Fin 2).val + 1, by simp⟩ = u 0 1 := rfl
  have e2 : u 0 ⟨(0 : Fin 2).val + 2, by simp⟩ = u 0 2 := rfl
  unfold actOf tap
  rw [e, e0, e1, e2]
  generalize u 0 0 = u00
  generalize u 0 1 = u01
  generalize u 0 2 = u02
  generalize u 0 3 = u03
  generalize u 1 0 = u10
  generalize u 1 1 = u11
  generalize u 1 2 = u12
  generalize u 1 3 = u13
  pointwise [k0_pay43, k0_pay44, k0_pay45, k0_pay46, k0_pay47, k0_pay48, k0_pay49, k0_pay50, k0_pay51, k0_pay52, k0_pay53, k0_pay54, k0_pay55, k0_pay56]

theorem gate_01 (cw : Vec Ideal S3x256 .f32) (cb : Vec Ideal S1x256 .f32) (u : Fin 2 → Fin 4 → Vec Ideal S1x1x256x128 .f32) (r : Fin 256)
    (l : Fin 128) :
    gateOf cw cb u (ix2 (⟨r.val, by omega⟩ : Fin 512) (⟨128 + l.val, by omega⟩ : Fin 256)) = siluT (tap cw cb u 0 1 r l) := by
  have e : slabCol 1 l = (⟨128 + l.val, by omega⟩ : Fin 256) := Fin.ext (by simp [slabCol])
  have e0 : u 1 ⟨(0 : Fin 2).val, by simp⟩ = u 1 0 := rfl
  have e1 : u 1 ⟨(0 : Fin 2).val + 1, by simp⟩ = u 1 1 := rfl
  have e2 : u 1 ⟨(0 : Fin 2).val + 2, by simp⟩ = u 1 2 := rfl
  unfold gateOf siluT tap
  rw [e, e0, e1, e2]
  generalize u 0 0 = u00
  generalize u 0 1 = u01
  generalize u 0 2 = u02
  generalize u 0 3 = u03
  generalize u 1 0 = u10
  generalize u 1 1 = u11
  generalize u 1 2 = u12
  generalize u 1 3 = u13
  pointwise [k0_pay30, k0_pay31, k0_pay32, k0_pay33, k0_pay34, k0_pay35, k0_pay36, k0_pay37, k0_pay38, k0_pay39, k0_pay40, k0_pay41, k0_pay42]

theorem act_01 (g : FVec Ideal S512x256 .f32) (cw : Vec Ideal S3x256 .f32) (cb : Vec Ideal S1x256 .f32) (u : Fin 2 → Fin 4 → Vec Ideal S1x1x256x128 .f32) (r : Fin 256)
    (l : Fin 128) :
    actOf g cw cb u (ix3 0 (⟨r.val, by omega⟩ : Fin 512) (⟨128 + l.val, by omega⟩ : Fin 256)) = (g (ix2 (⟨r.val, by omega⟩ : Fin 512) (⟨128 + l.val, by omega⟩ : Fin 256)) : EReal) * tap cw cb u 0 1 r l := by
  have e : slabCol 1 l = (⟨128 + l.val, by omega⟩ : Fin 256) := Fin.ext (by simp [slabCol])
  have e0 : u 1 ⟨(0 : Fin 2).val, by simp⟩ = u 1 0 := rfl
  have e1 : u 1 ⟨(0 : Fin 2).val + 1, by simp⟩ = u 1 1 := rfl
  have e2 : u 1 ⟨(0 : Fin 2).val + 2, by simp⟩ = u 1 2 := rfl
  unfold actOf tap
  rw [e, e0, e1, e2]
  generalize u 0 0 = u00
  generalize u 0 1 = u01
  generalize u 0 2 = u02
  generalize u 0 3 = u03
  generalize u 1 0 = u10
  generalize u 1 1 = u11
  generalize u 1 2 = u12
  generalize u 1 3 = u13
  pointwise [k0_pay43, k0_pay44, k0_pay45, k0_pay46, k0_pay47, k0_pay48, k0_pay49, k0_pay50, k0_pay51, k0_pay52, k0_pay53, k0_pay54, k0_pay55, k0_pay56]

theorem gate_10 (cw : Vec Ideal S3x256 .f32) (cb : Vec Ideal S1x256 .f32) (u : Fin 2 → Fin 4 → Vec Ideal S1x1x256x128 .f32) (r : Fin 256)
    (l : Fin 128) :
    gateOf cw cb u (ix2 (⟨256 + r.val, by omega⟩ : Fin 512) (⟨l.val, by omega⟩ : Fin 256)) = siluT (tap cw cb u 1 0 r l) := by
  have e : slabCol 0 l = (⟨l.val, by omega⟩ : Fin 256) := Fin.ext (by simp [slabCol])
  have e0 : u 0 ⟨(1 : Fin 2).val, by simp⟩ = u 0 1 := rfl
  have e1 : u 0 ⟨(1 : Fin 2).val + 1, by simp⟩ = u 0 2 := rfl
  have e2 : u 0 ⟨(1 : Fin 2).val + 2, by simp⟩ = u 0 3 := rfl
  unfold gateOf siluT tap
  rw [e, e0, e1, e2]
  generalize u 0 0 = u00
  generalize u 0 1 = u01
  generalize u 0 2 = u02
  generalize u 0 3 = u03
  generalize u 1 0 = u10
  generalize u 1 1 = u11
  generalize u 1 2 = u12
  generalize u 1 3 = u13
  pointwise [k0_pay30, k0_pay31, k0_pay32, k0_pay33, k0_pay34, k0_pay35, k0_pay36, k0_pay37, k0_pay38, k0_pay39, k0_pay40, k0_pay41, k0_pay42]

theorem act_10 (g : FVec Ideal S512x256 .f32) (cw : Vec Ideal S3x256 .f32) (cb : Vec Ideal S1x256 .f32) (u : Fin 2 → Fin 4 → Vec Ideal S1x1x256x128 .f32) (r : Fin 256)
    (l : Fin 128) :
    actOf g cw cb u (ix3 0 (⟨256 + r.val, by omega⟩ : Fin 512) (⟨l.val, by omega⟩ : Fin 256)) = (g (ix2 (⟨256 + r.val, by omega⟩ : Fin 512) (⟨l.val, by omega⟩ : Fin 256)) : EReal) * tap cw cb u 1 0 r l := by
  have e : slabCol 0 l = (⟨l.val, by omega⟩ : Fin 256) := Fin.ext (by simp [slabCol])
  have e0 : u 0 ⟨(1 : Fin 2).val, by simp⟩ = u 0 1 := rfl
  have e1 : u 0 ⟨(1 : Fin 2).val + 1, by simp⟩ = u 0 2 := rfl
  have e2 : u 0 ⟨(1 : Fin 2).val + 2, by simp⟩ = u 0 3 := rfl
  unfold actOf tap
  rw [e, e0, e1, e2]
  generalize u 0 0 = u00
  generalize u 0 1 = u01
  generalize u 0 2 = u02
  generalize u 0 3 = u03
  generalize u 1 0 = u10
  generalize u 1 1 = u11
  generalize u 1 2 = u12
  generalize u 1 3 = u13
  pointwise [k0_pay43, k0_pay44, k0_pay45, k0_pay46, k0_pay47, k0_pay48, k0_pay49, k0_pay50, k0_pay51, k0_pay52, k0_pay53, k0_pay54, k0_pay55, k0_pay56]

theorem gate_11 (cw : Vec Ideal S3x256 .f32) (cb : Vec Ideal S1x256 .f32) (u : Fin 2 → Fin 4 → Vec Ideal S1x1x256x128 .f32) (r : Fin 256)
    (l : Fin 128) :
    gateOf cw cb u (ix2 (⟨256 + r.val, by omega⟩ : Fin 512) (⟨128 + l.val, by omega⟩ : Fin 256)) = siluT (tap cw cb u 1 1 r l) := by
  have e : slabCol 1 l = (⟨128 + l.val, by omega⟩ : Fin 256) := Fin.ext (by simp [slabCol])
  have e0 : u 1 ⟨(1 : Fin 2).val, by simp⟩ = u 1 1 := rfl
  have e1 : u 1 ⟨(1 : Fin 2).val + 1, by simp⟩ = u 1 2 := rfl
  have e2 : u 1 ⟨(1 : Fin 2).val + 2, by simp⟩ = u 1 3 := rfl
  unfold gateOf siluT tap
  rw [e, e0, e1, e2]
  generalize u 0 0 = u00
  generalize u 0 1 = u01
  generalize u 0 2 = u02
  generalize u 0 3 = u03
  generalize u 1 0 = u10
  generalize u 1 1 = u11
  generalize u 1 2 = u12
  generalize u 1 3 = u13
  pointwise [k0_pay30, k0_pay31, k0_pay32, k0_pay33, k0_pay34, k0_pay35, k0_pay36, k0_pay37, k0_pay38, k0_pay39, k0_pay40, k0_pay41, k0_pay42]

theorem act_11 (g : FVec Ideal S512x256 .f32) (cw : Vec Ideal S3x256 .f32) (cb : Vec Ideal S1x256 .f32) (u : Fin 2 → Fin 4 → Vec Ideal S1x1x256x128 .f32) (r : Fin 256)
    (l : Fin 128) :
    actOf g cw cb u (ix3 0 (⟨256 + r.val, by omega⟩ : Fin 512) (⟨128 + l.val, by omega⟩ : Fin 256)) = (g (ix2 (⟨256 + r.val, by omega⟩ : Fin 512) (⟨128 + l.val, by omega⟩ : Fin 256)) : EReal) * tap cw cb u 1 1 r l := by
  have e : slabCol 1 l = (⟨128 + l.val, by omega⟩ : Fin 256) := Fin.ext (by simp [slabCol])
  have e0 : u 1 ⟨(1 : Fin 2).val, by simp⟩ = u 1 1 := rfl
  have e1 : u 1 ⟨(1 : Fin 2).val + 1, by simp⟩ = u 1 2 := rfl
  have e2 : u 1 ⟨(1 : Fin 2).val + 2, by simp⟩ = u 1 3 := rfl
  unfold actOf tap
  rw [e, e0, e1, e2]
  generalize u 0 0 = u00
  generalize u 0 1 = u01
  generalize u 0 2 = u02
  generalize u 0 3 = u03
  generalize u 1 0 = u10
  generalize u 1 1 = u11
  generalize u 1 2 = u12
  generalize u 1 3 = u13
  pointwise [k0_pay43, k0_pay44, k0_pay45, k0_pay46, k0_pay47, k0_pay48, k0_pay49, k0_pay50, k0_pay51, k0_pay52, k0_pay53, k0_pay54, k0_pay55, k0_pay56]

/-- The gate at a row of a half and a column of a slab. -/
theorem gate_at (cw : Vec Ideal S3x256 .f32) (cb : Vec Ideal S1x256 .f32) (u : Fin 2 → Fin 4 → Vec Ideal S1x1x256x128 .f32) (π s : Fin 2)
    (r : Fin 256) (l : Fin 128) : gateOf cw cb u (ix2 (⟨256 * π.val + r.val, by omega⟩ : Fin 512) (slabCol s l)) = siluT (tap cw cb u π s r l) := by
  have hp : π = 0 ∨ π = 1 := by omega
  have hs : s = 0 ∨ s = 1 := by omega
  rcases hp with rfl | rfl <;> rcases hs with rfl | rfl
  · rw [← gate_00]; congr 2 <;> exact Fin.ext (by simp [slabCol])
  · rw [← gate_01]; congr 2 <;> exact Fin.ext (by simp [slabCol])
  · rw [← gate_10]; congr 2 <;> exact Fin.ext (by simp [slabCol])
  · rw [← gate_11]; congr 2 <;> exact Fin.ext (by simp [slabCol])

/-- The gated values there. -/
theorem act_at (g : FVec Ideal S512x256 .f32) (cw : Vec Ideal S3x256 .f32) (cb : Vec Ideal S1x256 .f32) (u : Fin 2 → Fin 4 → Vec Ideal S1x1x256x128 .f32)
    (π s : Fin 2) (r : Fin 256) (l : Fin 128) :
    actOf g cw cb u (ix3 0 (⟨256 * π.val + r.val, by omega⟩ : Fin 512) (slabCol s l))
      = (g (ix2 (⟨256 * π.val + r.val, by omega⟩ : Fin 512) (slabCol s l)) : EReal) * tap cw cb u π s r l := by
  have hp : π = 0 ∨ π = 1 := by omega
  have hs : s = 0 ∨ s = 1 := by omega
  have a0 : (⟨256 * (0 : Fin 2).val + r.val, by simp; omega⟩ : Fin 512) = ⟨r.val, by omega⟩ := Fin.ext (by simp)
  have a1 : (⟨256 * (1 : Fin 2).val + r.val, by simp; omega⟩ : Fin 512) = ⟨256 + r.val, by omega⟩ := Fin.ext (by simp)
  have b0 : slabCol 0 l = (⟨l.val, by omega⟩ : Fin 256) := Fin.ext (by simp [slabCol])
  have b1 : slabCol 1 l = (⟨128 + l.val, by omega⟩ : Fin 256) := Fin.ext (by simp [slabCol])
  rcases hp with rfl | rfl <;> rcases hs with rfl | rfl
  · rw [a0, b0]; exact act_00 g cw cb u r l
  · rw [a0, b1]; exact act_01 g cw cb u r l
  · rw [a1, b0]; exact act_10 g cw cb u r l
  · rw [a1, b1]; exact act_11 g cw cb u r l

/-- What the point stores, from the rows in order. -/
theorem store_at (n : Fin 8 → Vec Ideal S1x512x128 .f32) (x : Vec Ideal S512x1024 .f32) (g : Vec Ideal S1x1x1024 .f32) (f : Vec Ideal S1x1024 .f32)
    (r : Fin 512) (M : Fin 1024 → EReal) (hM : ∀ (s : Fin 8) (l : Fin 128) (k : Fin 1024), k.val = 128 * s.val + l.val → n s (ix3 0 r l) = M k)
    (k : Fin 1024) :
    k0_pay343 (k0_pay339 (n 0)) (k0_pay340 (n 1)) (k0_pay341 (n 2)) (k0_pay342 (n 3)) (n 4) (n 5) (n 6) (n 7) x g f (ix3 0 r k)
      = ((x (ix2 r k) : EReal) + g (ix3 0 0 k) * M k) * rms (fun j => (x (ix2 r j) : EReal) + g (ix3 0 0 j) * M j) * f (ix2 0 k) := by
  have h0 := hM 0
  have h1 := hM 1
  have h2 := hM 2
  have h3 := hM 3
  have h4 := hM 4
  have h5 := hM 5
  have h6 := hM 6
  have h7 := hM 7
  generalize n 0 = n0 at *
  generalize n 1 = n1 at *
  generalize n 2 = n2 at *
  generalize n 3 = n3 at *
  generalize n 4 = n4 at *
  generalize n 5 = n5 at *
  generalize n 6 = n6 at *
  generalize n 7 = n7 at *
  pointwise [k0_pay343, k0_pay339, k0_pay340, k0_pay341, k0_pay342]
  have hc : ∀ k : Fin 1024, (if h : k.val < 128 then n0 (ix3 0 r ⟨k.val, h⟩)
      else if h : k.val - 128 < 128 then n1 (ix3 0 r ⟨k.val - 128, h⟩)
      else if h : k.val - 128 - 128 < 128 then n2 (ix3 0 r ⟨k.val - 128 - 128, h⟩)
      else if h : k.val - 128 - 128 - 128 < 128 then n3 (ix3 0 r ⟨k.val - 128 - 128 - 128, h⟩)
      else if h : k.val - 128 - 128 - 128 - 128 < 128 then n4 (ix3 0 r ⟨k.val - 128 - 128 - 128 - 128, h⟩)
      else if h : k.val - 128 - 128 - 128 - 128 - 128 < 128 then n5 (ix3 0 r ⟨k.val - 128 - 128 - 128 - 128 - 128, h⟩)
      else if h : k.val - 128 - 128 - 128 - 128 - 128 - 128 < 128 then n6 (ix3 0 r ⟨k.val - 128 - 128 - 128 - 128 - 128 - 128, h⟩)
      else n7 (ix3 0 r ⟨k.val - 128 - 128 - 128 - 128 - 128 - 128 - 128, by omega⟩)) = M k := by
    intro k
    split_ifs
    · exact h0 _ _ (by simp)
    · exact h1 _ _ (by simp; omega)
    · exact h2 _ _ (by simp; omega)
    · exact h3 _ _ (by simp; omega)
    · exact h4 _ _ (by simp; omega)
    · exact h5 _ _ (by simp; omega)
    · exact h6 _ _ (by simp; omega)
    · exact h7 _ _ (by simp; omega)
  simp only [hc]
  rfl

end Cert.Ffn

end
-- ==== Proof.FfnPoint.lean ====
/- A grid point's result: from the arguments' numbers around its rows, the feed-forward of its rows. -/
module

public import proofs.«01_k».proof.Proof.FfnTile

@[expose] public section

set_option maxRecDepth 16384

noncomputable section

namespace Cert.Ffn

open Cert.Kernel2Ideal Cert.Kernel2Ideal.Gen Cert.Kernel2Ideal.Facts
open Idealize.ShloMosaic Idealize.ShloMosaic.TcCoe Idealize.SL.Sem

/-- A point's blocks hold the arguments' numbers of step `s` of sequence `b`, sixteen rows on each side included. -/
structure Holds (I : Inputs) (b : Fin 2) (s : Fin 32) (P : Point Ideal) : Prop where
  r : ∀ (n : Fin 544) (p : Fin 16384) k, p.val + 16 = 512 * s.val + n.val →
    row3 (fun r l => P.x1 (ix3 0 r l)) (fun r l => P.x0 (ix3 0 r l)) (fun r l => P.x2 (ix3 0 r l)) n k = I.r b p k
  a : ∀ (n : Fin 544) (p : Fin 16384) k, p.val + 16 = 512 * s.val + n.val →
    row3 (fun r l => P.x4 (ix3 0 r l)) (fun r l => P.x3 (ix3 0 r l)) (fun r l => P.x5 (ix3 0 r l)) n k = I.a b p k
  x : ∀ (n : Fin 544) (p : Fin 16384) k, p.val + 16 = 512 * s.val + n.val →
    row3 (fun r l => P.x7 (ix3 0 r l)) (fun r l => P.x6 (ix3 0 r l)) (fun r l => P.x8 (ix3 0 r l)) n k = I.x b p k
  wo : ∀ j k, P.x9 (ix2 j k) = I.wo j k
  g1 : ∀ k, P.x10 (ix3 0 0 k) = I.g1 b k
  sh : ∀ k, P.x11 (ix3 0 0 k) = I.sh b k
  sc : ∀ k, P.x12 (ix3 0 0 k) = I.sc b k
  ng : ∀ k, P.x13 (ix2 0 k) = I.ng k
  wu : ∀ k c, P.x14 (ix2 k c) = I.wu k c
  cw : ∀ t c, P.x15 (ix2 t c) = I.cw t c
  cb : ∀ c, P.x16 (ix2 0 c) = I.cb c
  wd : ∀ c k, P.x17 (ix2 c k) = I.wd c k
  g2 : ∀ k, P.x18 (ix3 0 0 k) = I.g2 b k
  fg : ∀ k, P.x19 (ix2 0 k) = I.fg k

/-- A row of the sum is a row of one of its halves. -/
theorem half_row (n : Fin 512) : ∃ (π : Fin 2) (r : Fin 256), n = ⟨256 * π.val + r.val, by omega⟩ :=
  ⟨⟨n.val / 256, by omega⟩, ⟨n.val % 256, by omega⟩, Fin.ext (by simp; omega)⟩

/-- A column of a chunk is a column of one of its slabs. -/
theorem slab_col (k : Fin 256) : ∃ (σ : Fin 2) (l : Fin 128), k = slabCol σ l :=
  ⟨⟨k.val / 128, by omega⟩, ⟨k.val % 128, by omega⟩, Fin.ext (by simp [slabCol]; omega)⟩

namespace Holds

variable {I : Inputs} {b : Fin 2} {s : Fin 32} {P : Point Ideal} (H : Holds I b s P) (i : grid0.Coords) (hi : (i 1).val = s.val)
include H

/-- The rows brought together are the mixer's halves side by side. -/
theorem mix (n : Fin 544) (p : Fin 16384) (k : Fin 1024) (hp : p.val + 16 = 512 * s.val + n.val) : P.mix (ix2 n k) = I.mix b p k := by
  unfold Inputs.mix
  by_cases h : k.val < 512
  · rw [dif_pos h, mix_left P n k ⟨k.val, h⟩ rfl, H.r n p _ hp]
  · rw [dif_neg h, mix_right P n k ⟨k.val - 512, by omega⟩ (by simp; omega), H.a n p _ hp]

/-- Their output projection. -/
theorem proj (n : Fin 544) (p : Fin 16384) (k : Fin 1024) (hp : p.val + 16 = 512 * s.val + n.val) :
    k0_pay7 P.mix P.wo (ix2 n k) = ∑ j, I.mix b p j * I.wo j k := by
  rw [pay7_at]
  exact Finset.sum_congr rfl fun j _ => by rw [H.mix n p j hp, wo_at, H.wo]

/-- The gain of a column. -/
theorem gain (k : Fin 1024) : P.gain (ix2 0 k) = I.ng k * (Ideal.ofBits .f32 0x3F800000#32 + I.sc b k) := by
  unfold Point.gain
  rw [pay8_at, ng_at, sc_at, H.ng, H.sc]

/-- The point's own rows after the mixer. -/
theorem own (r : Fin 512) (p : Fin 16384) (k : Fin 1024) (hp : p.val = 512 * s.val + r.val) :
    k0_pay9 P.mix P.wo P.xOwn P.g1 (ix2 r k) = I.x1 b p k := by
  have hx := H.x ⟨16 + r.val, by omega⟩ p k (by simp; omega)
  unfold row3 at hx
  rw [dif_neg (by simp), dif_pos (by simp; omega)] at hx
  have e : (⟨(⟨16 + r.val, by omega⟩ : Fin 544).val - 16, by simp⟩ : Fin 512) = r := Fin.ext (by simp)
  rw [e] at hx
  beta_reduce at hx
  rw [pay9_at, xOwn_at, g1_at, H.g1, H.proj _ p k (by simp; omega), hx]
  rfl

include hi in
/-- The modulated rows the point keeps: those of the sequence, and zero off it. -/
theorem he (n : Fin 544) (q : ℕ) (k : Fin 1024) (hn : 15 ≤ n.val) (hn' : n.val ≤ 528) (hq : q + 15 = 512 * s.val + n.val) :
    P.he i (ix2 n k) = I.hz b q k := by
  have hs := s.isLt
  have hstep : step i = BitVec.ofNat 32 s.val := by unfold step; rw [hi]
  rw [he_at, hstep]
  unfold row3
  by_cases h : n.val < 16
  · rw [dif_pos h]
    beta_reduce
    rw [pay14_at s]
    by_cases h0 : 0 < s.val
    · have hp : (⟨q - 1, by omega⟩ : Fin 16384).val + 16 = 512 * s.val + n.val := by simp; omega
      have hx := fun k => H.x n ⟨q - 1, by omega⟩ k hp
      unfold row3 at hx
      simp only [dif_pos h] at hx
      rw [if_pos h0]
      unfold Inputs.hz
      rw [dif_pos (by omega)]
      have e : ∀ j : Fin 1024, P.xPrev (ix3 0 ⟨n.val, h⟩ j) + P.g1 (ix3 0 0 j) * P.proj (ix2 (⟨(⟨n.val, h⟩ : Fin 16).val, by simp⟩ : Fin 544) j)
          = I.x1 b ⟨q - 1, by omega⟩ j := fun j => by
        unfold Point.proj
        rw [xPrev_at, g1_at, hx, H.g1]
        rw [H.proj _ ⟨q - 1, by omega⟩ j hp]
        rfl
      simp only [e]
      rw [H.gain, sh_at, H.sh]
      rfl
    · rw [if_neg h0]
      unfold Inputs.hz
      rw [dif_neg (by omega)]
  · rw [dif_neg h]
    by_cases h' : n.val < 528
    · rw [dif_pos h']
      beta_reduce
      rw [pay12_at, pay11_at]
      have hp : (⟨q - 1, by omega⟩ : Fin 16384).val = 512 * s.val + (⟨n.val - 16, by omega⟩ : Fin 512).val := by simp; omega
      unfold Inputs.hz
      rw [dif_pos (by omega)]
      have e := fun k => H.own ⟨n.val - 16, by omega⟩ ⟨q - 1, by omega⟩ k hp
      simp only [e]
      rw [H.gain, sh_at, H.sh]
      rfl
    · rw [dif_neg h']
      beta_reduce
      rw [pay16_at s]
      by_cases h0 : s.val < 31
      · have hp : (⟨q - 1, by omega⟩ : Fin 16384).val + 16 = 512 * s.val + n.val := by simp; omega
        have hx := fun k => H.x n ⟨q - 1, by omega⟩ k hp
        unfold row3 at hx
        simp only [dif_neg h, dif_neg h'] at hx
        rw [if_pos h0]
        unfold Inputs.hz
        rw [dif_pos (by omega)]
        have en : (⟨528 + (⟨n.val - 528, by omega⟩ : Fin 16).val, by simp; omega⟩ : Fin 544) = n := Fin.ext (by simp; omega)
        have e : ∀ j : Fin 1024, P.xNext (ix3 0 ⟨n.val - 528, by omega⟩ j) + P.g1 (ix3 0 0 j)
            * P.proj (ix2 (⟨528 + (⟨n.val - 528, by omega⟩ : Fin 16).val, by simp; omega⟩ : Fin 544) j) = I.x1 b ⟨q - 1, by omega⟩ j := fun j => by
          unfold Point.proj
          rw [xNext_at, g1_at, hx, H.g1, en]
          rw [H.proj _ ⟨q - 1, by omega⟩ j hp]
          rfl
        simp only [e]
        rw [H.gain, sh_at, H.sh]
        rfl
      · rw [if_neg h0]
        unfold Inputs.hz
        rw [dif_neg (by omega)]

include hi in
/-- Every second row of a slab of the gate's columns. -/
theorem ug (j : Fin 11) (σ : Fin 2) (t : Fin 4) (r : Fin 256) (l : Fin 128) (c : Fin 5632) (hc : c.val = 256 * j.val + (slabCol σ l).val) :
    P.ugT i j σ t (ix4 0 0 r l) = I.uz b (512 * s.val + t.val + 2 * r.val) c := by
  rw [ugT_at, pay17_at, ← I.uz_sum]
  exact Finset.sum_congr rfl fun k _ => by
    rw [H.he i hi _ (512 * s.val + t.val + 2 * r.val) k (by simp; omega) (by simp; omega) (by simp; omega), wuG_at P j k (slabCol σ l) c hc, H.wu]

include hi in
/-- The same of the values' columns. -/
theorem uv (j : Fin 11) (σ : Fin 2) (t : Fin 4) (r : Fin 256) (l : Fin 128) (c : Fin 5632) (hc : c.val = 2816 + 256 * j.val + (slabCol σ l).val) :
    P.uvT i j σ t (ix4 0 0 r l) = I.uz b (512 * s.val + t.val + 2 * r.val) c := by
  rw [uvT_at, pay18_at, ← I.uz_sum]
  exact Finset.sum_congr rfl fun k _ => by
    rw [H.he i hi _ (512 * s.val + t.val + 2 * r.val) k (by simp; omega) (by simp; omega) (by simp; omega), wuV_at P j k (slabCol σ l) c hc, H.wu]

include hi in
/-- The gate's convolution at a row and column of a chunk. -/
theorem tapG (j : Fin 11) (π σ : Fin 2) (r : Fin 256) (l : Fin 128) (p : Fin 16384) (hp : p.val = 512 * s.val + 2 * r.val + π.val) (c : Fin 5632)
    (hc : c.val = 256 * j.val + (slabCol σ l).val) : tap (P.cwG j) (P.cbG j) (P.ugT i j) π σ r l = I.conv b p c := by
  unfold tap Inputs.conv
  rw [H.ug i hi j σ _ r l c hc, H.ug i hi j σ _ r l c hc, H.ug i hi j σ _ r l c hc, cbG_at P j _ c hc, cwG_at P j _ _ c hc, cwG_at P j _ _ c hc,
    cwG_at P j _ _ c hc, H.cb, H.cw, H.cw, H.cw]
  have e0 : 512 * s.val + π.val + 2 * r.val = p.val := by omega
  have e1 : 512 * s.val + (π.val + 1) + 2 * r.val = p.val + 1 := by omega
  have e2 : 512 * s.val + (π.val + 2) + 2 * r.val = p.val + 2 := by omega
  dsimp only
  rw [e0, e1, e2]

include hi in
/-- The values' convolution. -/
theorem tapV (j : Fin 11) (π σ : Fin 2) (r : Fin 256) (l : Fin 128) (p : Fin 16384) (hp : p.val = 512 * s.val + 2 * r.val + π.val) (c : Fin 5632)
    (hc : c.val = 2816 + 256 * j.val + (slabCol σ l).val) : tap (P.cwV j) (P.cbV j) (P.uvT i j) π σ r l = I.conv b p c := by
  unfold tap Inputs.conv
  rw [H.uv i hi j σ _ r l c hc, H.uv i hi j σ _ r l c hc, H.uv i hi j σ _ r l c hc, cbV_at P j _ c hc, cwV_at P j _ _ c hc, cwV_at P j _ _ c hc,
    cwV_at P j _ _ c hc, H.cb, H.cw, H.cw, H.cw]
  have e0 : 512 * s.val + π.val + 2 * r.val = p.val := by omega
  have e1 : 512 * s.val + (π.val + 1) + 2 * r.val = p.val + 1 := by omega
  have e2 : 512 * s.val + (π.val + 2) + 2 * r.val = p.val + 2 := by omega
  dsimp only
  rw [e0, e1, e2]

variable (hT : ∀ p c, siluT (I.conv b p (gCol c)) = silu (I.conv b p (gCol c)))

include hi hT in
/-- The gated values of a chunk. -/
theorem act (j : Fin 11) (n : Fin 512) (k : Fin 256) (p : Fin 16384) (hp : p.val = 512 * s.val + 2 * (n.val % 256) + n.val / 256) (c : Fin 2816)
    (hc : c.val = 256 * j.val + k.val) : P.actR i j (ix3 0 n k) = I.act b p c := by
  obtain ⟨π, r, rfl⟩ := half_row n
  obtain ⟨σ, l, rfl⟩ := slab_col k
  have hp' : p.val = 512 * s.val + 2 * r.val + π.val := by
    have := r.isLt; have := π.isLt
    dsimp only at hp
    omega
  rw [actR_at]
  unfold Point.act
  rw [act_at, gate_at, H.tapG i hi j π σ r l p hp' (gCol c) (by simp only [gCol]; omega),
    H.tapV i hi j π σ r l p hp' (vCol c) (by simp only [vCol]; omega), hT]
  rfl

include hi hT in
/-- A chunk's part of the down projection. -/
theorem part (j : Fin 11) (n : Fin 512) (k : Fin 1024) (p : Fin 16384) (hp : p.val = 512 * s.val + 2 * (n.val % 256) + n.val / 256) :
    ∑ l : Fin 256, (P.actR i j (ix3 0 n l) : EReal) * P.wd j (ix2 l k)
      = ∑ l : Fin 256, I.act b p ⟨256 * j.val + l.val, by omega⟩ * I.wd ⟨256 * j.val + l.val, by omega⟩ k :=
  Finset.sum_congr rfl fun l _ => by
    rw [H.act i hi hT j n l p hp ⟨256 * j.val + l.val, by omega⟩ rfl, wd_at P j l k ⟨256 * j.val + l.val, by omega⟩ rfl, H.wd]

include hi hT in
/-- The running sum after some chunks. -/
theorem acc (m : ℕ) (hm : m < 11) (n : Fin 512) (k : Fin 1024) (p : Fin 16384) (hp : p.val = 512 * s.val + 2 * (n.val % 256) + n.val / 256) :
    P.accV i m (ix2 n k) = ∑ j ∈ Finset.range (m + 1), ∑ l : Fin 256, I.act b p ⟨256 * (ch j).val + l.val, by omega⟩ * I.wd ⟨256 * (ch j).val + l.val, by omega⟩ k := by
  induction m with
  | zero =>
    unfold Point.accV
    rw [pay90_at, H.part i hi hT 0 n k p hp, Finset.sum_range_one]
    rfl
  | succ m ih =>
    unfold Point.accV
    rw [pay125_at, H.part i hi hT _ n k p hp, ih (by omega), Finset.sum_range_succ _ (m + 1)]

include hi hT in
/-- The down projection. -/
theorem mixed (n : Fin 512) (k : Fin 1024) (p : Fin 16384) (hp : p.val = 512 * s.val + 2 * (n.val % 256) + n.val / 256) :
    P.mixed i (ix2 n k) = ∑ c, I.act b p c * I.wd c k := by
  unfold Point.mixed
  rw [acc_read, pay320_at, H.part i hi hT 10 n k p hp, H.acc i hi hT 9 (by omega) n k p hp, chunk_sum, Fin.sum_univ_castSucc (n := 10)]
  refine congrArg₂ (· + ·) ?_ rfl
  rw [Finset.sum_range]
  refine Finset.sum_congr rfl fun j _ => ?_
  have e : ch j.val = j.castSucc := ch_of j.castSucc
  have h : ∀ q : Fin 11, q = j.castSucc → ∑ l : Fin 256, I.act b p ⟨256 * q.val + l.val, by omega⟩ * I.wd ⟨256 * q.val + l.val, by omega⟩ k
      = ∑ l : Fin 256, I.act b p ⟨256 * j.castSucc.val + l.val, by omega⟩ * I.wd ⟨256 * j.castSucc.val + l.val, by omega⟩ k := by
    rintro _ rfl
    rfl
  exact h _ e

include hi hT in
/-- The point's result is the rows of the feed-forward. -/
theorem out (r : Fin 512) (k : Fin 1024) (p : Fin 16384) (hp : p.val = 512 * s.val + r.val) : P.out i (ix3 0 r k) = I.out b p k := by
  unfold Point.out
  rw [store_at (P.nat i) _ P.g2 P.fg r (fun k => ∑ c, I.act b p c * I.wd c k) (fun σ l k hk => by
    rw [nat_at P i σ r l k hk, H.mixed i hi hT _ k p (by simp only [split]; omega)]) k, x1_read]
  have e : ∀ k, k0_pay10 P.mix P.wo P.xOwn P.g1 (ix2 r k) = I.x1 b p k := fun k => by
    rw [← H.own r p k hp]
    unfold k0_pay10
    generalize k0_pay9 P.mix P.wo P.xOwn P.g1 = y
    pointwise
  simp only [e, g2_at, fg_at, H.g2, H.fg]
  rfl

end Holds

end Cert.Ffn

end
-- ==== Proof.FfnPieces.lean ====
/- A grid point's one store into its output, as the function of what the point loads. -/
module

public import proofs.«01_k».proof.Proof.FfnBlock

@[expose] public section

set_option maxRecDepth 65536

noncomputable section

namespace Cert.Ffn

open Cert.Kernel2Ideal Cert.Kernel2Ideal.Gen Cert.Kernel2Ideal.Facts
open Idealize.ShloMosaic Idealize.ShloMosaic.TcCoe Idealize.SL.Sem

variable {F : FTy → Type} [FloatOps F]

/-- A point stores its output once, whole. -/
theorem pieces (c : Dev nD) (i : grid0.Coords) (P : Point F) :
    (kernelRun0_A c i P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.arg15 P.harg15 P.arg16 P.harg16 P.arg17 P.harg17 P.arg18 P.harg18 P.arg19 P.harg19 P.arg20 P.harg20 P.arg21 P.harg21 P.arg22 P.harg22 P.arg23 P.harg23 P.arg24 P.harg24 P.arg25 P.harg25 P.arg26 P.harg26 P.arg27 P.harg27 P.arg28 P.harg28 P.arg29 P.harg29 P.arg30 P.harg30 P.x0 P.x1 P.x2 P.x3 P.x4 P.x5 P.x6 P.x7 P.x8 P.x9 P.x10 P.x11 P.x12 P.x13 P.x14 P.x15 P.x16 P.x17 P.x18 P.x19).1
      = [⟨Rect.unit (s := S1x512x1024) ![0, 0, 0] S1x512x1024.size inb_S1x512x1024_S1x512x1024_0_0_0, P.out i⟩] := by
  sl_kernel_rfl

end Cert.Ffn

end
-- ==== Proof.FfnBlocks.lean ====
/- What the windows bring to a grid point, in the coordinates of the arrays: the rows of the step with sixteen on each side, the
   modulation's four parts and the weights whole. -/
module

public import proofs.«01_k».proof.Proof.FfnPoint
public import proofs.«01_k».proof.Proof.FfnPieces
public import proofs.«01_k».proof.Proof.Gen.Kernel2Ideal.Value
public import Idealize.ShloMosaic.Lib.Claim
public import Idealize.ShloMosaic.Lib.StableHlo.ReadAt

@[expose] public section

set_option maxRecDepth 16384

noncomputable section

namespace Cert.Ffn

open Cert.Kernel2Ideal Cert.Kernel2Ideal.Gen Cert.Kernel2Ideal.Facts Cert.Kernel2Ideal.Value
open Idealize.ShloMosaic Idealize.ShloMosaic.TcCoe Idealize.SL.Sem

variable {F : FTy → Type} [FloatOps F]
variable (m : (ℓ : Loc nD τ sig) → Buf (Elt F) ℓ)

/-- The points are the two sequences' thirty-two steps. -/
theorem point_lt (t : Fin cfg0.N) : t.val < 64 := lt_of_lt_of_eq t.isLt N_0

/-- The second coordinate of a point is its step. -/
theorem step_of : ∀ t : Fin cfg0.N, (grid0.coords t 1 : ℕ) = t.val % 32 := (by decide +kernel : ∀ t : Fin grid0.N, _)

theorem place0 : ∀ t : Fin cfg0.N, win0_0.index t = ![t.val / 32, t.val % 32, 0] := (by decide +kernel : ∀ t : Fin grid0.N, _)

/-- A point's own rows of the recurrence's half. -/
theorem blk0 (c : Dev nD) (t : Fin cfg0.N) (r : Fin 512) (l : Fin 512) (b : Fin 2) (p : Fin 16384) (hb : b.val = t.val / 32)
    (hp : p.val = 512 * (t.val % 32) + r.val) : iblk m c 0 t (ix3 0 r l) = m ((c : Thread nD τ).loc main_arg0) (ix3 b p l) := by
  show V m c main_arg0 (((cfg0.win 0).blk t).view.emb (ix3 0 r l)) = _
  rw [V_main_arg0]
  have e := place0 t
  refine congrArg _ (funext fun a => Fin.ext ?_)
  match a with
  | ⟨0, _⟩ => show win0_0.index t (0 : Fin 3) * 1 + 1 * 0 = b.val; rw [e]; simp [hb]
  | ⟨1, _⟩ => show win0_0.index t (1 : Fin 3) * 512 + 1 * r.val = p.val; rw [e, hp]; show (t.val % 32) * 512 + 1 * r.val = _; omega
  | ⟨2, _⟩ => show win0_0.index t (2 : Fin 3) * 512 + 1 * l.val = l.val; rw [e]; simp

theorem place1 : ∀ t : Fin cfg0.N, win0_1.index t = ![t.val / 32, 32 * (t.val % 32) - 1, 0] := (by decide +kernel : ∀ t : Fin grid0.N, _)

/-- The sixteen rows before of the recurrence's half. -/
theorem blk1 (c : Dev nD) (t : Fin cfg0.N) (r : Fin 16) (l : Fin 512) (b : Fin 2) (p : Fin 16384) (hb : b.val = t.val / 32)
    (hp : p.val = 16 * (32 * (t.val % 32) - 1) + r.val) : iblk m c 1 t (ix3 0 r l) = m ((c : Thread nD τ).loc main_arg0) (ix3 b p l) := by
  show V m c main_arg0 (((cfg0.win 1).blk t).view.emb (ix3 0 r l)) = _
  rw [V_main_arg0]
  have e := place1 t
  refine congrArg _ (funext fun a => Fin.ext ?_)
  match a with
  | ⟨0, _⟩ => show win0_1.index t (0 : Fin 3) * 1 + 1 * 0 = b.val; rw [e]; simp [hb]
  | ⟨1, _⟩ => show win0_1.index t (1 : Fin 3) * 16 + 1 * r.val = p.val; rw [e, hp]; show (32 * (t.val % 32) - 1) * 16 + 1 * r.val = _; omega
  | ⟨2, _⟩ => show win0_1.index t (2 : Fin 3) * 512 + 1 * l.val = l.val; rw [e]; simp

theorem place2 : ∀ t : Fin cfg0.N, win0_2.index t = ![t.val / 32, min (32 * (t.val % 32 + 1)) 1023, 0] := (by decide +kernel : ∀ t : Fin grid0.N, _)

/-- The sixteen rows after of the recurrence's half. -/
theorem blk2 (c : Dev nD) (t : Fin cfg0.N) (r : Fin 16) (l : Fin 512) (b : Fin 2) (p : Fin 16384) (hb : b.val = t.val / 32)
    (hp : p.val = 16 * (min (32 * (t.val % 32 + 1)) 1023) + r.val) : iblk m c 2 t (ix3 0 r l) = m ((c : Thread nD τ).loc main_arg0) (ix3 b p l) := by
  show V m c main_arg0 (((cfg0.win 2).blk t).view.emb (ix3 0 r l)) = _
  rw [V_main_arg0]
  have e := place2 t
  refine congrArg _ (funext fun a => Fin.ext ?_)
  match a with
  | ⟨0, _⟩ => show win0_2.index t (0 : Fin 3) * 1 + 1 * 0 = b.val; rw [e]; simp [hb]
  | ⟨1, _⟩ => show win0_2.index t (1 : Fin 3) * 16 + 1 * r.val = p.val; rw [e, hp]; show (min (32 * (t.val % 32 + 1)) 1023) * 16 + 1 * r.val = _; omega
  | ⟨2, _⟩ => show win0_2.index t (2 : Fin 3) * 512 + 1 * l.val = l.val; rw [e]; simp

/-- The rows of the recurrence's half around a point. -/
theorem around0 (c : Dev nD) (t : Fin cfg0.N) (b : Fin 2) (s : Fin 32) (ht : t.val = 32 * b.val + s.val) (n : Fin 544) (p : Fin 16384) (k : Fin 512)
    (hp : p.val + 16 = 512 * s.val + n.val) :
    row3 (fun r l => iblk m c 1 t (ix3 0 r l)) (fun r l => iblk m c 0 t (ix3 0 r l)) (fun r l => iblk m c 2 t (ix3 0 r l)) n k
      = m ((c : Thread nD τ).loc main_arg0) (ix3 b p k) := by
  have hs := s.isLt; have hn := n.isLt; have hpl := p.isLt
  unfold row3
  by_cases h : n.val < 16
  · rw [dif_pos h]
    exact blk1 m c t ⟨n.val, h⟩ k b p (by omega) (by dsimp only; omega)
  · rw [dif_neg h]
    by_cases h' : n.val < 528
    · rw [dif_pos h']
      exact blk0 m c t ⟨n.val - 16, by omega⟩ k b p (by omega) (by dsimp only; omega)
    · rw [dif_neg h']
      exact blk2 m c t ⟨n.val - 528, by omega⟩ k b p (by omega) (by dsimp only; omega)

theorem place3 : ∀ t : Fin cfg0.N, win0_3.index t = ![t.val / 32, t.val % 32, 0] := (by decide +kernel : ∀ t : Fin grid0.N, _)

/-- A point's own rows of the attention's half. -/
theorem blk3 (c : Dev nD) (t : Fin cfg0.N) (r : Fin 512) (l : Fin 512) (b : Fin 2) (p : Fin 16384) (hb : b.val = t.val / 32)
    (hp : p.val = 512 * (t.val % 32) + r.val) : iblk m c 3 t (ix3 0 r l) = m ((c : Thread nD τ).loc main_arg1) (ix3 b p l) := by
  show V m c main_arg1 (((cfg0.win 3).blk t).view.emb (ix3 0 r l)) = _
  rw [V_main_arg1]
  have e := place3 t
  refine congrArg _ (funext fun a => Fin.ext ?_)
  match a with
  | ⟨0, _⟩ => show win0_3.index t (0 : Fin 3) * 1 + 1 * 0 = b.val; rw [e]; simp [hb]
  | ⟨1, _⟩ => show win0_3.index t (1 : Fin 3) * 512 + 1 * r.val = p.val; rw [e, hp]; show (t.val % 32) * 512 + 1 * r.val = _; omega
  | ⟨2, _⟩ => show win0_3.index t (2 : Fin 3) * 512 + 1 * l.val = l.val; rw [e]; simp

theorem place4 : ∀ t : Fin cfg0.N, win0_4.index t = ![t.val / 32, 32 * (t.val % 32) - 1, 0] := (by decide +kernel : ∀ t : Fin grid0.N, _)

/-- The sixteen rows before of the attention's half. -/
theorem blk4 (c : Dev nD) (t : Fin cfg0.N) (r : Fin 16) (l : Fin 512) (b : Fin 2) (p : Fin 16384) (hb : b.val = t.val / 32)
    (hp : p.val = 16 * (32 * (t.val % 32) - 1) + r.val) : iblk m c 4 t (ix3 0 r l) = m ((c : Thread nD τ).loc main_arg1) (ix3 b p l) := by
  show V m c main_arg1 (((cfg0.win 4).blk t).view.emb (ix3 0 r l)) = _
  rw [V_main_arg1]
  have e := place4 t
  refine congrArg _ (funext fun a => Fin.ext ?_)
  match a with
  | ⟨0, _⟩ => show win0_4.index t (0 : Fin 3) * 1 + 1 * 0 = b.val; rw [e]; simp [hb]
  | ⟨1, _⟩ => show win0_4.index t (1 : Fin 3) * 16 + 1 * r.val = p.val; rw [e, hp]; show (32 * (t.val % 32) - 1) * 16 + 1 * r.val = _; omega
  | ⟨2, _⟩ => show win0_4.index t (2 : Fin 3) * 512 + 1 * l.val = l.val; rw [e]; simp

theorem place5 : ∀ t : Fin cfg0.N, win0_5.index t = ![t.val / 32, min (32 * (t.val % 32 + 1)) 1023, 0] := (by decide +kernel : ∀ t : Fin grid0.N, _)

/-- The sixteen rows after of the attention's half. -/
theorem blk5 (c : Dev nD) (t : Fin cfg0.N) (r : Fin 16) (l : Fin 512) (b : Fin 2) (p : Fin 16384) (hb : b.val = t.val / 32)
    (hp : p.val = 16 * (min (32 * (t.val % 32 + 1)) 1023) + r.val) : iblk m c 5 t (ix3 0 r l) = m ((c : Thread nD τ).loc main_arg1) (ix3 b p l) := by
  show V m c main_arg1 (((cfg0.win 5).blk t).view.emb (ix3 0 r l)) = _
  rw [V_main_arg1]
  have e := place5 t
  refine congrArg _ (funext fun a => Fin.ext ?_)
  match a with
  | ⟨0, _⟩ => show win0_5.index t (0 : Fin 3) * 1 + 1 * 0 = b.val; rw [e]; simp [hb]
  | ⟨1, _⟩ => show win0_5.index t (1 : Fin 3) * 16 + 1 * r.val = p.val; rw [e, hp]; show (min (32 * (t.val % 32 + 1)) 1023) * 16 + 1 * r.val = _; omega
  | ⟨2, _⟩ => show win0_5.index t (2 : Fin 3) * 512 + 1 * l.val = l.val; rw [e]; simp

/-- The rows of the attention's half around a point. -/
theorem around1 (c : Dev nD) (t : Fin cfg0.N) (b : Fin 2) (s : Fin 32) (ht : t.val = 32 * b.val + s.val) (n : Fin 544) (p : Fin 16384) (k : Fin 512)
    (hp : p.val + 16 = 512 * s.val + n.val) :
    row3 (fun r l => iblk m c 4 t (ix3 0 r l)) (fun r l => iblk m c 3 t (ix3 0 r l)) (fun r l => iblk m c 5 t (ix3 0 r l)) n k
      = m ((c : Thread nD τ).loc main_arg1) (ix3 b p k) := by
  have hs := s.isLt; have hn := n.isLt; have hpl := p.isLt
  unfold row3
  by_cases h : n.val < 16
  · rw [dif_pos h]
    exact blk4 m c t ⟨n.val, h⟩ k b p (by omega) (by dsimp only; omega)
  · rw [dif_neg h]
    by_cases h' : n.val < 528
    · rw [dif_pos h']
      exact blk3 m c t ⟨n.val - 16, by omega⟩ k b p (by omega) (by dsimp only; omega)
    · rw [dif_neg h']
      exact blk5 m c t ⟨n.val - 528, by omega⟩ k b p (by omega) (by dsimp only; omega)

theorem place6 : ∀ t : Fin cfg0.N, win0_6.index t = ![t.val / 32, t.val % 32, 0] := (by decide +kernel : ∀ t : Fin grid0.N, _)

/-- A point's own rows of the residual stream. -/
theorem blk6 (c : Dev nD) (t : Fin cfg0.N) (r : Fin 512) (l : Fin 1024) (b : Fin 2) (p : Fin 16384) (hb : b.val = t.val / 32)
    (hp : p.val = 512 * (t.val % 32) + r.val) : iblk m c 6 t (ix3 0 r l) = m ((c : Thread nD τ).loc main_arg2) (ix3 b p l) := by
  show V m c main_arg2 (((cfg0.win 6).blk t).view.emb (ix3 0 r l)) = _
  rw [V_main_arg2]
  have e := place6 t
  refine congrArg _ (funext fun a => Fin.ext ?_)
  match a with
  | ⟨0, _⟩ => show win0_6.index t (0 : Fin 3) * 1 + 1 * 0 = b.val; rw [e]; simp [hb]
  | ⟨1, _⟩ => show win0_6.index t (1 : Fin 3) * 512 + 1 * r.val = p.val; rw [e, hp]; show (t.val % 32) * 512 + 1 * r.val = _; omega
  | ⟨2, _⟩ => show win0_6.index t (2 : Fin 3) * 1024 + 1 * l.val = l.val; rw [e]; simp

theorem place7 : ∀ t : Fin cfg0.N, win0_7.index t = ![t.val / 32, 32 * (t.val % 32) - 1, 0] := (by decide +kernel : ∀ t : Fin grid0.N, _)

/-- The sixteen rows before of the residual stream. -/
theorem blk7 (c : Dev nD) (t : Fin cfg0.N) (r : Fin 16) (l : Fin 1024) (b : Fin 2) (p : Fin 16384) (hb : b.val = t.val / 32)
    (hp : p.val = 16 * (32 * (t.val % 32) - 1) + r.val) : iblk m c 7 t (ix3 0 r l) = m ((c : Thread nD τ).loc main_arg2) (ix3 b p l) := by
  show V m c main_arg2 (((cfg0.win 7).blk t).view.emb (ix3 0 r l)) = _
  rw [V_main_arg2]
  have e := place7 t
  refine congrArg _ (funext fun a => Fin.ext ?_)
  match a with
  | ⟨0, _⟩ => show win0_7.index t (0 : Fin 3) * 1 + 1 * 0 = b.val; rw [e]; simp [hb]
  | ⟨1, _⟩ => show win0_7.index t (1 : Fin 3) * 16 + 1 * r.val = p.val; rw [e, hp]; show (32 * (t.val % 32) - 1) * 16 + 1 * r.val = _; omega
  | ⟨2, _⟩ => show win0_7.index t (2 : Fin 3) * 1024 + 1 * l.val = l.val; rw [e]; simp

theorem place8 : ∀ t : Fin cfg0.N, win0_8.index t = ![t.val / 32, min (32 * (t.val % 32 + 1)) 1023, 0] := (by decide +kernel : ∀ t : Fin grid0.N, _)

/-- The sixteen rows after of the residual stream. -/
theorem blk8 (c : Dev nD) (t : Fin cfg0.N) (r : Fin 16) (l : Fin 1024) (b : Fin 2) (p : Fin 16384) (hb : b.val = t.val / 32)
    (hp : p.val = 16 * (min (32 * (t.val % 32 + 1)) 1023) + r.val) : iblk m c 8 t (ix3 0 r l) = m ((c : Thread nD τ).loc main_arg2) (ix3 b p l) := by
  show V m c main_arg2 (((cfg0.win 8).blk t).view.emb (ix3 0 r l)) = _
  rw [V_main_arg2]
  have e := place8 t
  refine congrArg _ (funext fun a => Fin.ext ?_)
  match a with
  | ⟨0, _⟩ => show win0_8.index t (0 : Fin 3) * 1 + 1 * 0 = b.val; rw [e]; simp [hb]
  | ⟨1, _⟩ => show win0_8.index t (1 : Fin 3) * 16 + 1 * r.val = p.val; rw [e, hp]; show (min (32 * (t.val % 32 + 1)) 1023) * 16 + 1 * r.val = _; omega
  | ⟨2, _⟩ => show win0_8.index t (2 : Fin 3) * 1024 + 1 * l.val = l.val; rw [e]; simp

/-- The rows of the residual stream around a point. -/
theorem around2 (c : Dev nD) (t : Fin cfg0.N) (b : Fin 2) (s : Fin 32) (ht : t.val = 32 * b.val + s.val) (n : Fin 544) (p : Fin 16384) (k : Fin 1024)
    (hp : p.val + 16 = 512 * s.val + n.val) :
    row3 (fun r l => iblk m c 7 t (ix3 0 r l)) (fun r l => iblk m c 6 t (ix3 0 r l)) (fun r l => iblk m c 8 t (ix3 0 r l)) n k
      = m ((c : Thread nD τ).loc main_arg2) (ix3 b p k) := by
  have hs := s.isLt; have hn := n.isLt; have hpl := p.isLt
  unfold row3
  by_cases h : n.val < 16
  · rw [dif_pos h]
    exact blk7 m c t ⟨n.val, h⟩ k b p (by omega) (by dsimp only; omega)
  · rw [dif_neg h]
    by_cases h' : n.val < 528
    · rw [dif_pos h']
      exact blk6 m c t ⟨n.val - 16, by omega⟩ k b p (by omega) (by dsimp only; omega)
    · rw [dif_neg h']
      exact blk8 m c t ⟨n.val - 528, by omega⟩ k b p (by omega) (by dsimp only; omega)

theorem place10 : ∀ t : Fin cfg0.N, win0_10.index t = ![t.val / 32, 0, 2] := (by decide +kernel : ∀ t : Fin grid0.N, _)

/-- The mixer's gate of the point's sequence. -/
theorem blk10 (c : Dev nD) (t : Fin cfg0.N) (b : Fin 2) (k : Fin 1024) (hb : b.val = t.val / 32) :
    iblk m c 10 t (ix3 0 0 k) = m ((c : Thread nD τ).loc main_arg4) (ix3 (⟨b.val, by omega⟩ : Fin 8) 0 (⟨2048 + k.val, by omega⟩ : Fin 6144)) := by
  show V m c main_arg4 (((cfg0.win 10).blk t).view.emb (ix3 0 0 k)) = _
  rw [V_main_arg4]
  have e := place10 t
  refine congrArg _ (funext fun a => Fin.ext ?_)
  match a with
  | ⟨0, _⟩ => show win0_10.index t (0 : Fin 3) * 1 + 1 * 0 = b.val; rw [e]; simp [hb]
  | ⟨1, _⟩ => show win0_10.index t (1 : Fin 3) * 1 + 1 * 0 = 0; rw [e]; simp
  | ⟨2, _⟩ => show win0_10.index t (2 : Fin 3) * 1024 + 1 * k.val = 2048 + k.val; rw [e]; simp

theorem place11 : ∀ t : Fin cfg0.N, win0_11.index t = ![t.val / 32, 0, 3] := (by decide +kernel : ∀ t : Fin grid0.N, _)

/-- The shift of the point's sequence. -/
theorem blk11 (c : Dev nD) (t : Fin cfg0.N) (b : Fin 2) (k : Fin 1024) (hb : b.val = t.val / 32) :
    iblk m c 11 t (ix3 0 0 k) = m ((c : Thread nD τ).loc main_arg4) (ix3 (⟨b.val, by omega⟩ : Fin 8) 0 (⟨3072 + k.val, by omega⟩ : Fin 6144)) := by
  show V m c main_arg4 (((cfg0.win 11).blk t).view.emb (ix3 0 0 k)) = _
  rw [V_main_arg4]
  have e := place11 t
  refine congrArg _ (funext fun a => Fin.ext ?_)
  match a with
  | ⟨0, _⟩ => show win0_11.index t (0 : Fin 3) * 1 + 1 * 0 = b.val; rw [e]; simp [hb]
  | ⟨1, _⟩ => show win0_11.index t (1 : Fin 3) * 1 + 1 * 0 = 0; rw [e]; simp
  | ⟨2, _⟩ => show win0_11.index t (2 : Fin 3) * 1024 + 1 * k.val = 3072 + k.val; rw [e]; simp

theorem place12 : ∀ t : Fin cfg0.N, win0_12.index t = ![t.val / 32, 0, 4] := (by decide +kernel : ∀ t : Fin grid0.N, _)

/-- The scale of the point's sequence. -/
theorem blk12 (c : Dev nD) (t : Fin cfg0.N) (b : Fin 2) (k : Fin 1024) (hb : b.val = t.val / 32) :
    iblk m c 12 t (ix3 0 0 k) = m ((c : Thread nD τ).loc main_arg4) (ix3 (⟨b.val, by omega⟩ : Fin 8) 0 (⟨4096 + k.val, by omega⟩ : Fin 6144)) := by
  show V m c main_arg4 (((cfg0.win 12).blk t).view.emb (ix3 0 0 k)) = _
  rw [V_main_arg4]
  have e := place12 t
  refine congrArg _ (funext fun a => Fin.ext ?_)
  match a with
  | ⟨0, _⟩ => show win0_12.index t (0 : Fin 3) * 1 + 1 * 0 = b.val; rw [e]; simp [hb]
  | ⟨1, _⟩ => show win0_12.index t (1 : Fin 3) * 1 + 1 * 0 = 0; rw [e]; simp
  | ⟨2, _⟩ => show win0_12.index t (2 : Fin 3) * 1024 + 1 * k.val = 4096 + k.val; rw [e]; simp

theorem place18 : ∀ t : Fin cfg0.N, win0_18.index t = ![t.val / 32, 0, 5] := (by decide +kernel : ∀ t : Fin grid0.N, _)

/-- The feed-forward's gate of the point's sequence. -/
theorem blk18 (c : Dev nD) (t : Fin cfg0.N) (b : Fin 2) (k : Fin 1024) (hb : b.val = t.val / 32) :
    iblk m c 18 t (ix3 0 0 k) = m ((c : Thread nD τ).loc main_arg4) (ix3 (⟨b.val, by omega⟩ : Fin 8) 0 (⟨5120 + k.val, by omega⟩ : Fin 6144)) := by
  show V m c main_arg4 (((cfg0.win 18).blk t).view.emb (ix3 0 0 k)) = _
  rw [V_main_arg4]
  have e := place18 t
  refine congrArg _ (funext fun a => Fin.ext ?_)
  match a with
  | ⟨0, _⟩ => show win0_18.index t (0 : Fin 3) * 1 + 1 * 0 = b.val; rw [e]; simp [hb]
  | ⟨1, _⟩ => show win0_18.index t (1 : Fin 3) * 1 + 1 * 0 = 0; rw [e]; simp
  | ⟨2, _⟩ => show win0_18.index t (2 : Fin 3) * 1024 + 1 * k.val = 5120 + k.val; rw [e]; simp

theorem place9 : ∀ t : Fin cfg0.N, win0_9.index t = ![0, 0] := (by decide +kernel : ∀ t : Fin grid0.N, _)

/-- The output projection, whole at every point. -/
theorem blk9 (c : Dev nD) (t : Fin cfg0.N) (j : Fin 1024) (k : Fin 1024) :
    iblk m c 9 t (ix2 j k) = m ((c : Thread nD τ).loc main_arg3) (ix2 j k) := by
  show V m c main_arg3 (((cfg0.win 9).blk t).view.emb (ix2 j k)) = _
  rw [V_main_arg3]
  have e := place9 t
  refine congrArg _ (funext fun a => Fin.ext ?_)
  match a with
  | ⟨0, _⟩ => show win0_9.index t (0 : Fin 2) * 1024 + 1 * j.val = j.val; rw [e]; simp
  | ⟨1, _⟩ => show win0_9.index t (1 : Fin 2) * 1024 + 1 * k.val = k.val; rw [e]; simp

theorem place13 : ∀ t : Fin cfg0.N, win0_13.index t = ![0, 0] := (by decide +kernel : ∀ t : Fin grid0.N, _)

/-- The first norm's weights, whole at every point. -/
theorem blk13 (c : Dev nD) (t : Fin cfg0.N) (j : Fin 1) (k : Fin 1024) :
    iblk m c 13 t (ix2 j k) = m ((c : Thread nD τ).loc main_arg5) (ix2 j k) := by
  show V m c main_arg5 (((cfg0.win 13).blk t).view.emb (ix2 j k)) = _
  rw [V_main_arg5]
  have e := place13 t
  refine congrArg _ (funext fun a => Fin.ext ?_)
  match a with
  | ⟨0, _⟩ => show win0_13.index t (0 : Fin 2) * 1 + 1 * j.val = j.val; rw [e]; simp
  | ⟨1, _⟩ => show win0_13.index t (1 : Fin 2) * 1024 + 1 * k.val = k.val; rw [e]; simp

theorem place14 : ∀ t : Fin cfg0.N, win0_14.index t = ![0, 0] := (by decide +kernel : ∀ t : Fin grid0.N, _)

/-- The up projection, whole at every point. -/
theorem blk14 (c : Dev nD) (t : Fin cfg0.N) (j : Fin 1024) (k : Fin 5632) :
    iblk m c 14 t (ix2 j k) = m ((c : Thread nD τ).loc main_arg6) (ix2 j k) := by
  show V m c main_arg6 (((cfg0.win 14).blk t).view.emb (ix2 j k)) = _
  rw [V_main_arg6]
  have e := place14 t
  refine congrArg _ (funext fun a => Fin.ext ?_)
  match a with
  | ⟨0, _⟩ => show win0_14.index t (0 : Fin 2) * 1024 + 1 * j.val = j.val; rw [e]; simp
  | ⟨1, _⟩ => show win0_14.index t (1 : Fin 2) * 5632 + 1 * k.val = k.val; rw [e]; simp

theorem place15 : ∀ t : Fin cfg0.N, win0_15.index t = ![0, 0] := (by decide +kernel : ∀ t : Fin grid0.N, _)

/-- The convolution's taps, whole at every point. -/
theorem blk15 (c : Dev nD) (t : Fin cfg0.N) (j : Fin 3) (k : Fin 5632) :
    iblk m c 15 t (ix2 j k) = m ((c : Thread nD τ).loc main_arg7) (ix2 j k) := by
  show V m c main_arg7 (((cfg0.win 15).blk t).view.emb (ix2 j k)) = _
  rw [V_main_arg7]
  have e := place15 t
  refine congrArg _ (funext fun a => Fin.ext ?_)
  match a with
  | ⟨0, _⟩ => show win0_15.index t (0 : Fin 2) * 3 + 1 * j.val = j.val; rw [e]; simp
  | ⟨1, _⟩ => show win0_15.index t (1 : Fin 2) * 5632 + 1 * k.val = k.val; rw [e]; simp

theorem place16 : ∀ t : Fin cfg0.N, win0_16.index t = ![0, 0] := (by decide +kernel : ∀ t : Fin grid0.N, _)

/-- The convolution's bias, whole at every point. -/
theorem blk16 (c : Dev nD) (t : Fin cfg0.N) (j : Fin 1) (k : Fin 5632) :
    iblk m c 16 t (ix2 j k) = m ((c : Thread nD τ).loc main_arg8) (ix2 j k) := by
  show V m c main_arg8 (((cfg0.win 16).blk t).view.emb (ix2 j k)) = _
  rw [V_main_arg8]
  have e := place16 t
  refine congrArg _ (funext fun a => Fin.ext ?_)
  match a with
  | ⟨0, _⟩ => show win0_16.index t (0 : Fin 2) * 1 + 1 * j.val = j.val; rw [e]; simp
  | ⟨1, _⟩ => show win0_16.index t (1 : Fin 2) * 5632 + 1 * k.val = k.val; rw [e]; simp

theorem place17 : ∀ t : Fin cfg0.N, win0_17.index t = ![0, 0] := (by decide +kernel : ∀ t : Fin grid0.N, _)

/-- The down projection, whole at every point. -/
theorem blk17 (c : Dev nD) (t : Fin cfg0.N) (j : Fin 2816) (k : Fin 1024) :
    iblk m c 17 t (ix2 j k) = m ((c : Thread nD τ).loc main_arg9) (ix2 j k) := by
  show V m c main_arg9 (((cfg0.win 17).blk t).view.emb (ix2 j k)) = _
  rw [V_main_arg9]
  have e := place17 t
  refine congrArg _ (funext fun a => Fin.ext ?_)
  match a with
  | ⟨0, _⟩ => show win0_17.index t (0 : Fin 2) * 2816 + 1 * j.val = j.val; rw [e]; simp
  | ⟨1, _⟩ => show win0_17.index t (1 : Fin 2) * 1024 + 1 * k.val = k.val; rw [e]; simp

theorem place19 : ∀ t : Fin cfg0.N, win0_19.index t = ![0, 0] := (by decide +kernel : ∀ t : Fin grid0.N, _)

/-- The final norm's weights, whole at every point. -/
theorem blk19 (c : Dev nD) (t : Fin cfg0.N) (j : Fin 1) (k : Fin 1024) :
    iblk m c 19 t (ix2 j k) = m ((c : Thread nD τ).loc main_arg10) (ix2 j k) := by
  show V m c main_arg10 (((cfg0.win 19).blk t).view.emb (ix2 j k)) = _
  rw [V_main_arg10]
  have e := place19 t
  refine congrArg _ (funext fun a => Fin.ext ?_)
  match a with
  | ⟨0, _⟩ => show win0_19.index t (0 : Fin 2) * 1 + 1 * j.val = j.val; rw [e]; simp
  | ⟨1, _⟩ => show win0_19.index t (1 : Fin 2) * 1024 + 1 * k.val = k.val; rw [e]; simp

/-- A point of the run with the blocks the windows bring it. -/
def pointAt (c : Dev nD) (t : Fin cfg0.N) : Point F where
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := ms0_7 t
  harg9 := hs0_7 t
  arg10 := ms0_8 t
  harg10 := hs0_8 t
  arg11 := ms0_9 t
  harg11 := hs0_9 t
  arg12 := ms0_10 t
  harg12 := hs0_10 t
  arg13 := ms0_11 t
  harg13 := hs0_11 t
  arg14 := ms0_12 t
  harg14 := hs0_12 t
  arg15 := ms0_13 t
  harg15 := hs0_13 t
  arg16 := ms0_14 t
  harg16 := hs0_14 t
  arg17 := ms0_15 t
  harg17 := hs0_15 t
  arg18 := ms0_16 t
  harg18 := hs0_16 t
  arg19 := ms0_17 t
  harg19 := hs0_17 t
  arg20 := ms0_18 t
  harg20 := hs0_18 t
  arg21 := ms0_19 t
  harg21 := hs0_19 t
  arg22 := ms0_20 t
  harg22 := hs0_20 t
  arg23 := scM0_0
  harg23 := Memref.isWhole_whole _
  arg24 := scM0_1
  harg24 := Memref.isWhole_whole _
  arg25 := scM0_2
  harg25 := Memref.isWhole_whole _
  arg26 := scM0_3
  harg26 := Memref.isWhole_whole _
  arg27 := scM0_4
  harg27 := Memref.isWhole_whole _
  arg28 := scM0_5
  harg28 := Memref.isWhole_whole _
  arg29 := scM0_6
  harg29 := Memref.isWhole_whole _
  arg30 := scM0_7
  harg30 := Memref.isWhole_whole _
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t
  x17 := iblk m c 17 t
  x18 := iblk m c 18 t
  x19 := iblk m c 19 t

theorem place20 : ∀ t : Fin cfg0.N, win0_20.index t = ![t.val / 32, t.val % 32, 0] := (by decide +kernel : ∀ t : Fin grid0.N, _)

/-- Every point writes its block back. -/
theorem flushes : ∀ t : Fin cfg0.N, (cfg0.win 20).flush t = true := (by decide +kernel : ∀ t : Fin grid0.N, _)

/-- The kernel's result at a row: what the row's point computes. -/
theorem result_at (c : Dev nD) (b : Fin 2) (s : Fin 32) (t : Fin cfg0.N) (ht : t.val = 32 * b.val + s.val) (r : Fin 512) (k : Fin 1024) (p : Fin 16384)
    (hp : p.val = 512 * s.val + r.val) :
    (dats m 0 c).arrAt 20 cfg0.N (ix3 b p k) = (pointAt m c t).out (grid0.coords t) (ix3 0 r k) := by
  have hf := flushes t
  have h := congrFun (blocks20 m c t hf) (ix3 0 r k)
  rw [flushed20_A] at h
  have e := place20 t
  have hi : ((cfg0.win 20).blk t).view.emb (ix3 0 r k) = (ix3 b p k : S2x16384x1024.Idx) := by
    funext a
    apply Fin.ext
    match a with
    | ⟨0, _⟩ => show win0_20.index t (0 : Fin 3) * 1 + 1 * 0 = b.val; rw [e]; show t.val / 32 * 1 + 1 * 0 = _; omega
    | ⟨1, _⟩ => show win0_20.index t (1 : Fin 3) * 512 + 1 * r.val = p.val; rw [e, hp]; show t.val % 32 * 512 + 1 * r.val = _; omega
    | ⟨2, _⟩ => show win0_20.index t (2 : Fin 3) * 1024 + 1 * k.val = k.val; rw [e]; simp
  have h1 : ((cfg0.win 20).blk t).view.read (Elt F) ((dats m 0 c).arrAt 20 cfg0.N) (ix3 0 r k) = (dats m 0 c).arrAt 20 cfg0.N (ix3 b p k) := by
    rw [← hi]
    rfl
  rw [← h1]
  refine h.trans ?_
  have hx : (cfg0.win 20).xinj (grid0.coords t) (ix3 0 r k) = (ix3 0 r k : S1x512x1024.Idx) :=
    funext fun a => Fin.ext (by match a with | ⟨0, _⟩ => rfl | ⟨1, _⟩ => rfl | ⟨2, _⟩ => rfl)
  show out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) ((cfg0.win 20).xinj (grid0.coords t) (ix3 0 r k)) = _
  rw [hx]
  unfold out0_A_20
  have hq := pieces c (grid0.coords t) (pointAt m c t)
  have hr := congrArg (fun L => VO0_20.read (Elt F) (VO0_20.writes (Elt F) VO0_20.junk L) (ix3 0 r k)) hq
  refine Eq.trans hr ?_
  exact hit3 VO0_20 VO0_20.junk _ ((pointAt m c t).out (grid0.coords t)) [] 0 r k 0 r k rfl (by simp) (by simp)

end Cert.Ffn

end
-- ==== Proof.FfnFinite.lean ====
/- The precondition read back: the numbers before the gate are real numbers, so that the hyperbolic tangent's form of the gate is the
   reference's. -/
module

public import proofs.«01_k».proof.Pre_finite2
public import proofs.«01_k».proof.Proof.FfnSpec
public import proofs.«01_k».proof.Proof.Finite
public import Idealize.ShloMosaic.Lib.ReduceAll
public import Idealize.ShloMosaic.Lib.Pointwise

@[expose] public section

set_option maxRecDepth 16384

noncomputable section

namespace Cert.Ffn

open Cert.Pre_finite2
open Cert.Attn (real_of_all)
open Idealize.ShloMosaic

/-- The relations between shapes that the precondition's operations take. -/
theorem finite_facts : Cert.Pre_finite2.Facts where
  bitsLt_bf16_f32 := by decide
  bcast_S_S2x16384x512 := by decide
  reducesTo_S2x16384x512_S_d0_1_2 := by decide
  h_S_ := by decide
  bcast_S_S2x16384x1024 := by decide
  reducesTo_S2x16384x1024_S_d0_1_2 := by decide
  bcast_S_S1024x1024 := by decide
  reducesTo_S1024x1024_S_d0_1 := by decide
  slices_S8x1x6144_S2x1x3072_0_0_2048 := by decide
  bcast_S_S2x1x3072 := by decide
  reducesTo_S2x1x3072_S_d0_1_2 := by decide
  bcast_S_S1x1024 := by decide
  reducesTo_S1x1024_S_d0_1 := by decide
  slices_S1024x5632_S1024x2816_0_0 := by decide
  bcast_S_S1024x2816 := by decide
  reducesTo_S1024x2816_S_d0_1 := by decide
  slices_S3x5632_S3x2816_0_0 := by decide
  bcast_S_S3x2816 := by decide
  reducesTo_S3x2816_S_d0_1 := by decide
  slices_S1x5632_S1x2816_0_0 := by decide
  bcast_S_S1x2816 := by decide
  reducesTo_S1x2816_S_d0_1 := by decide

/-- An extended real that is a real number. -/
def IsReal (a : EReal) : Prop := ∃ v : ℝ, a = (v : EReal)

theorem IsReal.add {a b : EReal} (ha : IsReal a) (hb : IsReal b) : IsReal (a + b) := by
  obtain ⟨v, rfl⟩ := ha
  obtain ⟨w, rfl⟩ := hb
  exact ⟨v + w, (EReal.coe_add v w).symm⟩

theorem IsReal.mul {a b : EReal} (ha : IsReal a) (hb : IsReal b) : IsReal (a * b) := by
  obtain ⟨v, rfl⟩ := ha
  obtain ⟨w, rfl⟩ := hb
  exact ⟨v * w, (EReal.coe_mul v w).symm⟩

/-- Sums of real numbers are their sums. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) {f : ι → EReal} (h : ∀ i, IsReal (f i)) : IsReal (∑ i ∈ s, f i) := by
  choose g hg using h
  exact ⟨∑ i ∈ s, g i, by rw [← coe_sum]; exact Finset.sum_congr rfl fun i _ => hg i⟩

theorem IsReal.zero : IsReal 0 := ⟨0, rfl⟩

theorem IsReal.one : IsReal (Ideal.ofBits .f32 0x3F800000#32) := ⟨1, Ideal.ofBits_one_f32⟩

/-- The pattern of 1024. -/
theorem ofBits_1024 : Ideal.ofBits .f32 0x44800000#32 = ((1024 : ℝ) : EReal) := by
  simp [Ideal.ofBits, Ideal.ieee, -EReal.coe_mul]; norm_num

/-- The pattern of a half. -/
theorem ofBits_half : Ideal.ofBits .f32 0x3F000000#32 = ((1 / 2 : ℝ) : EReal) := by
  simp [Ideal.ofBits, Ideal.ieee, -EReal.coe_mul]; norm_num

/-- The norm's small number is a positive real number. -/
theorem ofBits_eps : ∃ e : ℝ, 0 < e ∧ Ideal.ofBits .f32 0x358637BD#32 = (e : EReal) := by
  refine ⟨8796093 * (2 ^ 43)⁻¹, by positivity, ?_⟩
  simp [Ideal.ofBits, Ideal.ieee, -EReal.coe_mul]

/-- The norm's factor of real numbers is a real number. -/
theorem IsReal.rms {v : Fin 1024 → EReal} (h : ∀ k, IsReal (v k)) : IsReal (rms v) := by
  choose g hg using h
  obtain ⟨e, he, hb⟩ := ofBits_eps
  have hs : ∑ k, v k * v k = ((∑ k, g k * g k : ℝ) : EReal) := by
    rw [← coe_sum]
    exact Finset.sum_congr rfl fun k _ => by rw [hg, EReal.coe_mul]
  have hp : 0 ≤ ∑ k, g k * g k := Finset.sum_nonneg fun k _ => mul_self_nonneg _
  unfold Cert.Ffn.rms
  rw [hs, ofBits_1024, hb, Ideal.div_coe (by norm_num), ← EReal.coe_mul, ← EReal.coe_add, Ideal.rsqrt_coe]
  have : 0 < (∑ k, g k * g k) * (1 / 1024) + e := by positivity
  rw [if_neg (not_lt.2 this.le), if_neg this.ne']
  exact ⟨_, rfl⟩

/-- Of a real number, the gate by the hyperbolic tangent is the gate. -/
theorem silu_tanh {a : EReal} (h : IsReal a) : siluT a = silu a := by
  obtain ⟨x, rfl⟩ := h
  unfold siluT silu
  rw [ofBits_half, Ideal.ofBits_one_f32, ← EReal.coe_mul, Ideal.tanh_coe, ← EReal.coe_mul, ← EReal.coe_add, ← EReal.coe_neg, Ideal.exp_coe,
    ← EReal.coe_one, ← EReal.coe_add, Ideal.div_coe (by positivity), ← EReal.coe_mul,
    ← EReal.coe_mul]
  refine congrArg _ ?_
  have hE : Real.exp (-x) = Real.exp (-(1 / 2 * x)) * Real.exp (-(1 / 2 * x)) := by rw [← Real.exp_add]; congr 1; ring
  rw [Real.tanh_eq_sinh_div_cosh, Real.sinh_eq, Real.cosh_eq, hE]
  have h1 : Real.exp (1 / 2 * x) * Real.exp (-(1 / 2 * x)) = 1 := by rw [← Real.exp_add]; simp
  have p1 := Real.exp_pos (1 / 2 * x)
  have p2 := Real.exp_pos (-(1 / 2 * x))
  generalize Real.exp (1 / 2 * x) = u at *
  generalize Real.exp (-(1 / 2 * x)) = w at *
  field_simp
  have : w ≠ 0 := p2.ne'
  have hu : u = 1 / w := by field_simp; exact h1
  subst hu
  field_simp
  ring

/-- What the gate depends on is real. -/
structure Finite (I : Inputs) : Prop where
  r : ∀ b p k, IsReal (I.r b p k)
  a : ∀ b p k, IsReal (I.a b p k)
  x : ∀ b p k, IsReal (I.x b p k)
  wo : ∀ j k, IsReal (I.wo j k)
  g1 : ∀ b k, IsReal (I.g1 b k)
  sh : ∀ b k, IsReal (I.sh b k)
  sc : ∀ b k, IsReal (I.sc b k)
  ng : ∀ k, IsReal (I.ng k)
  wu : ∀ k c, IsReal (I.wu k (gCol c))
  cw : ∀ t c, IsReal (I.cw t (gCol c))
  cb : ∀ c, IsReal (I.cb (gCol c))

namespace Finite

variable {I : Inputs} (H : Finite I)
include H

theorem mix (b : Fin 2) (p : Fin 16384) (k : Fin 1024) : IsReal (I.mix b p k) := by
  unfold Inputs.mix
  split
  · exact H.r _ _ _
  · exact H.a _ _ _

theorem x1 (b : Fin 2) (p : Fin 16384) (k : Fin 1024) : IsReal (I.x1 b p k) :=
  (H.x b p k).add ((H.g1 b k).mul (IsReal.sum _ fun j => (H.mix b p j).mul (H.wo j k)))

theorem h (b : Fin 2) (p : Fin 16384) (k : Fin 1024) : IsReal (I.h b p k) :=
  (((H.x1 b p k).mul (IsReal.rms fun k => H.x1 b p k)).mul ((H.ng k).mul (IsReal.one.add (H.sc b k)))).add (H.sh b k)

theorem uz (b : Fin 2) (q : ℕ) (c : Fin 2816) : IsReal (I.uz b q (gCol c)) := by
  unfold Inputs.uz
  split
  · exact IsReal.sum _ fun k => (H.h b _ k).mul (H.wu k c)
  · exact IsReal.zero

theorem conv (b : Fin 2) (p : Fin 16384) (c : Fin 2816) : IsReal (I.conv b p (gCol c)) :=
  (((H.cb c).add ((H.uz b _ c).mul (H.cw 0 c))).add ((H.uz b _ c).mul (H.cw 1 c))).add ((H.uz b _ c).mul (H.cw 2 c))

end Finite

/-- A number that is its real part is real. -/
theorem IsReal.of {a : EReal} (h : ((a.toReal : ℝ) : EReal) = a) : IsReal a := ⟨a.toReal, h.symm⟩

variable (x0 x1 : FVec Ideal S2x16384x512 .bf16) (x2 : FVec Ideal S2x16384x1024 .f32) (x3 : FVec Ideal S1024x1024 .bf16)
  (x4 : FVec Ideal S8x1x6144 .f32) (x5 : FVec Ideal S1x1024 .f32) (x6 : FVec Ideal S1024x5632 .bf16) (x7 : FVec Ideal S3x5632 .f32)
  (x8 : FVec Ideal S1x5632 .f32) (x9 : FVec Ideal S2816x1024 .bf16) (x10 : FVec Ideal S1x1024 .f32)

/-- Arguments that satisfy the precondition hold real numbers there. -/
theorem finite_of (h : @Cert.Pre_finite2.fn finite_facts Ideal _ x0 x1 x2 x3 x4 x5 x6 x7 x8 x9 x10 = fun _ => 1#1) :
    Finite (inputs x0 x1 x2 x3 x4 x5 x6 x7 x8 x9 x10) := by
  letI := finite_facts
  have s4 : ∀ (hs : S8x1x6144.Slices ![0, 0, 2048] S2x1x3072) (b : Fin 2) (l : Fin 3072), extractStridedSlice S2x1x3072 ![0, 0, 2048] x4 hs (ix3 b 0 l)
      = x4 (ix3 (⟨b.val, by omega⟩ : Fin 8) 0 (⟨2048 + l.val, by omega⟩ : Fin 6144)) := fun hs b l => by pointwise []
  have s6 : ∀ (hs : S1024x5632.Slices ![0, 0] S1024x2816) (k : Fin 1024) (l : Fin 2816), extractStridedSlice S1024x2816 ![0, 0] x6 hs (ix2 k l)
      = x6 (ix2 k (gCol l)) := fun hs k l => by unfold gCol; pointwise []
  have s7 : ∀ (hs : S3x5632.Slices ![0, 0] S3x2816) (k : Fin 3) (l : Fin 2816), extractStridedSlice S3x2816 ![0, 0] x7 hs (ix2 k l)
      = x7 (ix2 k (gCol l)) := fun hs k l => by unfold gCol; pointwise []
  have s8 : ∀ (hs : S1x5632.Slices ![0, 0] S1x2816) (l : Fin 2816), extractStridedSlice S1x2816 ![0, 0] x8 hs (ix2 0 l)
      = x8 (ix2 0 (gCol l)) := fun hs l => by unfold gCol; pointwise []
  have h0 := congrFun h (Shape.Idx.first Facts.h_S_)
  unfold Cert.Pre_finite2.fn Cert.Pre_finite2.fn_part1 Cert.Pre_finite2.fn_part2 at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  have r0 := real_of_all _ _ (fun _ => rfl) _ _ _ _ h0
  have r1 := real_of_all _ _ (fun _ => rfl) _ _ _ _ h1
  have r2 := real_of_all _ _ (fun _ => rfl) _ _ _ _ h2
  have r3 := real_of_all _ _ (fun _ => rfl) _ _ _ _ h3
  have r4 := real_of_all _ _ (fun _ => rfl) _ _ _ _ h4
  have r5 := real_of_all _ _ (fun _ => rfl) _ _ _ _ h5
  have r6 := real_of_all _ _ (fun _ => rfl) _ _ _ _ h6
  have r7 := real_of_all _ _ (fun _ => rfl) _ _ _ _ h7
  have r8 := real_of_all _ _ (fun _ => rfl) _ _ _ _ h8
  have q4 : ∀ (b : Fin 2) (l : Fin 3072), IsReal (x4 (ix3 (⟨b.val, by omega⟩ : Fin 8) 0 (⟨2048 + l.val, by omega⟩ : Fin 6144))) := fun b l => by
    rw [← s4 Facts.slices_S8x1x6144_S2x1x3072_0_0_2048]
    exact .of (r4 _)
  exact {
    r := fun b p k => .of (r0 (ix3 b p k))
    a := fun b p k => .of (r1 (ix3 b p k))
    x := fun b p k => .of (r2 (ix3 b p k))
    wo := fun j k => .of (r3 (ix2 j k))
    g1 := fun b k => q4 b ⟨k.val, by omega⟩
    sh := fun b k => by
      have := q4 b ⟨1024 + k.val, by omega⟩
      have e : (⟨2048 + (⟨1024 + k.val, by omega⟩ : Fin 3072).val, by simp; omega⟩ : Fin 6144) = ⟨3072 + k.val, by omega⟩ := Fin.ext (by simp; omega)
      rw [e] at this
      exact this
    sc := fun b k => by
      have := q4 b ⟨2048 + k.val, by omega⟩
      have e : (⟨2048 + (⟨2048 + k.val, by omega⟩ : Fin 3072).val, by simp; omega⟩ : Fin 6144) = ⟨4096 + k.val, by omega⟩ := Fin.ext (by simp; omega)
      rw [e] at this
      exact this
    ng := fun k => .of (r5 (ix2 0 k))
    wu := fun k c => by
      show IsReal (x6 (ix2 k (gCol c)))
      rw [← s6 Facts.slices_S1024x5632_S1024x2816_0_0]
      exact .of (r6 _)
    cw := fun t c => by
      show IsReal (x7 (ix2 t (gCol c)))
      rw [← s7 Facts.slices_S3x5632_S3x2816_0_0]
      exact .of (r7 _)
    cb := fun c => by
      show IsReal (x8 (ix2 0 (gCol c)))
      rw [← s8 Facts.slices_S1x5632_S1x2816_0_0]
      exact .of (r8 _) }

end Cert.Ffn

end
-- ==== Proof.FfnRef.lean ====
/- The reference over the extended reals: the feed-forward in plain mathematics. -/
module

public import proofs.«01_k».proof.Proof.FfnSpec
public import proofs.«01_k».proof.Proof.Gen.Reference2Ideal.Read

@[expose] public section

set_option maxRecDepth 16384

noncomputable section

namespace Cert.Ffn.Ref

open Cert.Reference2Ideal Cert.Reference2Ideal.Gen Cert.Reference2Ideal.Read
open Idealize.ShloMosaic Idealize.ShloMosaic.TcCoe Idealize.SL.Sem

variable (x0 : (⟨S2x16384x512, .bf16⟩ : BufTy).Contents (Elt Ideal)) (x1 : (⟨S2x16384x512, .bf16⟩ : BufTy).Contents (Elt Ideal)) (x2 : (⟨S2x16384x1024, .f32⟩ : BufTy).Contents (Elt Ideal)) (x3 : (⟨S1024x1024, .bf16⟩ : BufTy).Contents (Elt Ideal)) (x4 : (⟨S8x1x6144, .f32⟩ : BufTy).Contents (Elt Ideal)) (x5 : (⟨S1x1024, .f32⟩ : BufTy).Contents (Elt Ideal)) (x6 : (⟨S1024x5632, .bf16⟩ : BufTy).Contents (Elt Ideal)) (x7 : (⟨S3x5632, .f32⟩ : BufTy).Contents (Elt Ideal)) (x8 : (⟨S1x5632, .f32⟩ : BufTy).Contents (Elt Ideal)) (x9 : (⟨S2816x1024, .bf16⟩ : BufTy).Contents (Elt Ideal)) (x10 : (⟨S1x1024, .f32⟩ : BufTy).Contents (Elt Ideal))

/-- The pattern of one is one. -/
theorem one32 : Ideal.ofBits .f32 0x3F800000#32 = 1 := Ideal.ofBits_one_f32

/-- The mixer's halves side by side. -/
theorem mix_at (b : Fin 2) (p : Fin 16384) (k : Fin 1024) : val_main_v7 (F := Ideal) x0 x1 (ix3 b p k) = (inputs x0 x1 x2 x3 x4 x5 x6 x7 x8 x9 x10).mix b p k := by
  pointwise [val_main_v7]
  rfl

/-- The residual stream after the mixer. -/
theorem x1_at (b : Fin 2) (p : Fin 16384) (k : Fin 1024) : val_main_v13 (F := Ideal) x0 x1 x2 x3 x4 (ix3 b p k) = (inputs x0 x1 x2 x3 x4 x5 x6 x7 x8 x9 x10).x1 b p k := by
  have h := mix_at x0 x1 x2 x3 x4 x5 x6 x7 x8 x9 x10 b p
  unfold val_main_v13 val_main_v12 val_main_v10 val_main_v8
  generalize val_main_v7 (F := Ideal) x0 x1 = y at h ⊢
  pointwise [val_main_v11, val_main_v9, val_main_v3, val_main_v0]
  simp only [h]
  rfl

/-- The modulated norm of it. -/
theorem h_at (b : Fin 2) (p : Fin 16384) (k : Fin 1024) : val_main_v32 (F := Ideal) x0 x1 x2 x3 x4 x5 (ix3 b p k) = (inputs x0 x1 x2 x3 x4 x5 x6 x7 x8 x9 x10).h b p k := by
  have h := x1_at x0 x1 x2 x3 x4 x5 x6 x7 x8 x9 x10 b p
  unfold val_main_v32 val_main_v30 val_main_v26 val_main_v23 val_main_v22 val_main_v21 val_main_v20 val_main_v18 val_main_v16 val_main_v15 val_main_v14
  generalize val_main_v13 (F := Ideal) x0 x1 x2 x3 x4 = y at h ⊢
  pointwise [val_main_v17, val_main_v19, val_main_v24, val_main_v25, val_main_v27, val_main_v28, val_main_v29, val_main_v31, val_main_v4, val_main_v5, val_main_v0, val_main_cst, val_main_cst_0, val_main_cst_1, val_main_cst_2]
  simp only [h]
  unfold Inputs.h
  rw [one32]
  exact congrArg₂ (· + ·) (mul_assoc _ _ _) rfl

/-- The up projection of it. -/
theorem u_at (b : Fin 2) (p : Fin 16384) (c : Fin 5632) : val_main_v34 (F := Ideal) x0 x1 x2 x3 x4 x5 x6 (ix3 b p c) = (inputs x0 x1 x2 x3 x4 x5 x6 x7 x8 x9 x10).u b p c := by
  have h := h_at x0 x1 x2 x3 x4 x5 x6 x7 x8 x9 x10 b p
  unfold val_main_v34
  generalize val_main_v32 (F := Ideal) x0 x1 x2 x3 x4 x5 = y at h ⊢
  pointwise [val_main_v33]
  simp only [h]
  rfl

/-- With a row of zeros on each side. -/
theorem uz_at (b : Fin 2) (q : Fin 16386) (c : Fin 5632) : val_main_v36 (F := Ideal) x0 x1 x2 x3 x4 x5 x6 (ix3 b q c) = (inputs x0 x1 x2 x3 x4 x5 x6 x7 x8 x9 x10).uz b q.val c := by
  have h := u_at x0 x1 x2 x3 x4 x5 x6 x7 x8 x9 x10 b
  unfold val_main_v36
  generalize val_main_v34 (F := Ideal) x0 x1 x2 x3 x4 x5 x6 = y at h ⊢
  pointwise [val_main_call0_v0, val_main_c]
  simp only [h]
  unfold Inputs.uz
  have hq := q.isLt
  by_cases h : 1 ≤ q.val ∧ q.val ≤ 16384
  · rw [dif_pos h, dif_pos (by omega)]
  · rw [dif_neg h, dif_neg (by omega)]
    show (((0#32 : BitVec 32).toInt : ℝ) : EReal) = 0
    simp

/-- The convolution over a row and its two neighbours. -/
theorem conv_at (b : Fin 2) (p : Fin 16384) (c : Fin 5632) : val_main_v59 (F := Ideal) x0 x1 x2 x3 x4 x5 x6 x7 x8 (ix3 b p c) = (inputs x0 x1 x2 x3 x4 x5 x6 x7 x8 x9 x10).conv b p c := by
  have h := uz_at x0 x1 x2 x3 x4 x5 x6 x7 x8 x9 x10 b
  unfold val_main_v59 val_main_v58 val_main_v53 val_main_v52 val_main_v51 val_main_v46 val_main_v45 val_main_v42 val_main_v37
  generalize val_main_v36 (F := Ideal) x0 x1 x2 x3 x4 x5 x6 = y at h ⊢
  pointwise [val_main_v57, val_main_v56, val_main_v55, val_main_v54, val_main_v50, val_main_v49, val_main_v48, val_main_v47, val_main_v44, val_main_v43, val_main_v41, val_main_v40, val_main_v39, val_main_v38, val_main_v35]
  simp only [h]
  unfold Inputs.conv
  rw [Nat.add_comm 1 p.val, Nat.add_comm 2 p.val]
  rfl

/-- The gated values. -/
theorem act_at (b : Fin 2) (p : Fin 16384) (c : Fin 2816) : val_main_v63 (F := Ideal) x0 x1 x2 x3 x4 x5 x6 x7 x8 (ix3 b p c) = (inputs x0 x1 x2 x3 x4 x5 x6 x7 x8 x9 x10).act b p c := by
  have h := conv_at x0 x1 x2 x3 x4 x5 x6 x7 x8 x9 x10 b p
  unfold val_main_v63 val_main_v62 val_main_v61 val_main_call1_v5 val_main_call1_v3 val_main_call1_v1 val_main_call1_v0 val_main_v60
  generalize val_main_v59 (F := Ideal) x0 x1 x2 x3 x4 x5 x6 x7 x8 = y at h ⊢
  pointwise [val_main_call1_v2, val_main_call1_v4, val_main_call1_cst, val_main_call1_cst_0]
  simp only [h]
  unfold Inputs.act silu
  rw [one32]
  rfl

/-- The residual stream after the feed-forward. -/
theorem y_at (b : Fin 2) (p : Fin 16384) (k : Fin 1024) : val_main_v68 (F := Ideal) x0 x1 x2 x3 x4 x5 x6 x7 x8 x9 (ix3 b p k) = (inputs x0 x1 x2 x3 x4 x5 x6 x7 x8 x9 x10).y b p k := by
  have h := act_at x0 x1 x2 x3 x4 x5 x6 x7 x8 x9 x10 b p
  have h1 := x1_at x0 x1 x2 x3 x4 x5 x6 x7 x8 x9 x10 b p
  unfold val_main_v68 val_main_v67 val_main_v65
  generalize val_main_v63 (F := Ideal) x0 x1 x2 x3 x4 x5 x6 x7 x8 = y at h ⊢
  generalize val_main_v13 (F := Ideal) x0 x1 x2 x3 x4 = z at h1 ⊢
  pointwise [val_main_v66, val_main_v64, val_main_v6, val_main_v0]
  simp only [h, h1]
  rfl

/-- The reference's result. -/
theorem reference_at (b : Fin 2) (p : Fin 16384) (k : Fin 1024) : val_main_v81 (F := Ideal) x0 x1 x2 x3 x4 x5 x6 x7 x8 x9 x10 (ix3 b p k) = (inputs x0 x1 x2 x3 x4 x5 x6 x7 x8 x9 x10).out b p k := by
  have h := y_at x0 x1 x2 x3 x4 x5 x6 x7 x8 x9 x10 b p
  unfold val_main_v81 val_main_v78 val_main_v77 val_main_v76 val_main_v75 val_main_v73 val_main_v71 val_main_v70 val_main_v69
  generalize val_main_v68 (F := Ideal) x0 x1 x2 x3 x4 x5 x6 x7 x8 x9 = y at h ⊢
  pointwise [val_main_v72, val_main_v74, val_main_v79, val_main_v80, val_main_cst_3, val_main_cst_4, val_main_cst_5]
  simp only [h]
  rfl

end Cert.Ffn.Ref

end
-- ==== Proof.FfnEqual.lean ====
/- The kernel's result and the reference's are one array. -/
module

public import proofs.«01_k».proof.Proof.FfnBlocks
public import proofs.«01_k».proof.Proof.FfnFinite
public import proofs.«01_k».proof.Proof.FfnRef

@[expose] public section

set_option maxRecDepth 16384

noncomputable section

namespace Cert.Ffn

open Cert.Kernel2Ideal Cert.Kernel2Ideal.Gen Cert.Kernel2Ideal.Value
open Idealize.ShloMosaic Idealize.ShloMosaic.TcCoe Idealize.SL.Sem

variable (m : (ℓ : Loc nD τ sig) → Buf (Elt Ideal) ℓ) (c : Dev nD)

/-- The arguments' numbers. -/
def numbers : Inputs := inputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- A point's blocks hold the arguments' numbers of its step and sequence. -/
theorem holds_at (b : Fin 2) (s : Fin 32) (t : Fin cfg0.N) (ht : t.val = 32 * b.val + s.val) : Holds (numbers m c) b s (pointAt m c t) where
  r n p k hp := around0 m c t b s ht n p k hp
  a n p k hp := around1 m c t b s ht n p k hp
  x n p k hp := around2 m c t b s ht n p k hp
  wo j k := blk9 m c t j k
  g1 k := blk10 m c t b k (by omega)
  sh k := blk11 m c t b k (by omega)
  sc k := blk12 m c t b k (by omega)
  ng k := blk13 m c t 0 k
  wu k n := blk14 m c t k n
  cw j n := blk15 m c t j n
  cb n := blk16 m c t 0 n
  wd n k := blk17 m c t n k
  g2 k := blk18 m c t b k (by omega)
  fg k := blk19 m c t 0 k

/-- Every entry of the kernel's result. -/
theorem kernel_at (H : Finite (numbers m c)) (b : Fin 2) (p : Fin 16384) (k : Fin 1024) :
    (dats m 0 c).arrAt 20 cfg0.N (ix3 b p k) = (numbers m c).out b p k := by
  have ht : 32 * b.val + p.val / 512 < cfg0.N := lt_of_lt_of_eq (by omega) N_0.symm
  have hs : p.val / 512 < 32 := by omega
  have hr : p.val % 512 < 512 := by omega
  rw [result_at m c b ⟨p.val / 512, hs⟩ ⟨32 * b.val + p.val / 512, ht⟩ rfl ⟨p.val % 512, hr⟩ k p (by dsimp only; omega)]
  refine (holds_at m c b ⟨p.val / 512, hs⟩ ⟨32 * b.val + p.val / 512, ht⟩ rfl).out _ ?_ (fun q n => silu_tanh (H.conv b q n)) _ k p (by dsimp only; omega)
  rw [step_of]
  dsimp only
  omega

/-- Of arguments that satisfy the precondition, the reference's result is the kernel's, at every index. -/
theorem results_equal (h : @Cert.Pre_finite2.fn finite_facts Ideal _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = fun _ => 1#1) :
    Cert.Reference2Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = (dats m 0 c).arrAt 20 cfg0.N := by
  have H : Finite (numbers m c) := finite_of _ _ _ _ _ _ _ _ _ _ _ h
  funext i
  obtain ⟨b, p, k, rfl⟩ : ∃ (b : Fin 2) (p : Fin 16384) (k : Fin 1024), i = ix3 b p k :=
    ⟨i 0, i 1, i 2, funext fun a => by match a with | ⟨0, _⟩ => rfl | ⟨1, _⟩ => rfl | ⟨2, _⟩ => rfl⟩
  exact (Ref.reference_at _ _ _ _ _ _ _ _ _ _ _ b p k).trans (kernel_at m c H b p k).symm

end Cert.Ffn

end
-- ==== Proof.Mod.lean ====
/- The modulation call and its reference, entry by entry: of each conditioning vector the silu, its products with the modulation's
   weights summed, and the bias. -/
module

public import proofs.«01_k».proof.Proof.FfnSpec
public import proofs.«01_k».proof.Proof.Gen.Kernel3Ideal.Value
public import proofs.«01_k».proof.Proof.Gen.Reference3Ideal.Read
public import Idealize.ShloMosaic.Lib.Claim
public import Idealize.ShloMosaic.Lib.Pointwise
public import Idealize.ShloMosaic.Lib.StableHlo.ReadAt

@[expose] public section

set_option maxRecDepth 16384

noncomputable section

namespace Cert.Mod

open Cert.Ffn (silu)
open Idealize.ShloMosaic

/-- The conditioning vectors as the call lays them out: the samples', the context's, and five of zeros. -/
def cond (x : Fin 2 → Fin 1024 → EReal) (y : Fin 1024 → EReal) (b : Fin 8) (k : Fin 1024) : EReal :=
  if h : b.val < 2 then x ⟨b.val, h⟩ k else if b.val = 2 then y k else 0

/-- An entry of a vector's modulation. -/
def out (v : Fin 1024 → EReal) (w : Fin 1024 → Fin 6144 → EReal) (z : Fin 6144 → EReal) (n : Fin 6144) : EReal :=
  (∑ k, silu (v k) * w k n) + z n

/-- The silu of zero is zero. -/
theorem silu_zero : silu 0 = 0 := by unfold silu; exact zero_mul _

/-- A row of zeros has the bias. -/
theorem out_zero (w : Fin 1024 → Fin 6144 → EReal) (z : Fin 6144 → EReal) (n : Fin 6144) : out (fun _ => 0) w z n = 0 + z n := by
  unfold out
  simp only [silu_zero, zero_mul, Finset.sum_const_zero]

end Cert.Mod

namespace Cert.Mod.Ref

open Cert.Reference3Ideal Cert.Reference3Ideal.Gen Cert.Reference3Ideal.Read
open Cert.Ffn (silu)
open Idealize.ShloMosaic Idealize.ShloMosaic.TcCoe Idealize.SL.Sem

variable (x0 : (⟨S2x1024, .f32⟩ : BufTy).Contents (Elt Ideal)) (x1 : (⟨S1024, .f32⟩ : BufTy).Contents (Elt Ideal)) (x2 : (⟨S1024x6144, .f32⟩ : BufTy).Contents (Elt Ideal)) (x3 : (⟨S6144, .f32⟩ : BufTy).Contents (Elt Ideal))

/-- The samples' rows. -/
theorem v4_at (b : Fin 2) (n : Fin 6144) : val_main_v4 (F := Ideal) x0 x2 x3 (ix2 b n)
    = out (fun k => x0 (ix2 b k)) (fun k n => x2 (ix2 k n)) (fun n => x3 (ix1 n)) n := by
  pointwise [val_main_v4, val_main_v1, val_main_v3, val_main_v2, val_main_v0, val_main_call0_v5, val_main_call0_v4, val_main_call0_v3, val_main_call0_v2, val_main_call0_v1, val_main_call0_v0, val_main_call0_cst, val_main_call0_cst_0]
  unfold out silu
  rw [Ideal.ofBits_one_f32]

/-- The context's row. -/
theorem v9_at (n : Fin 6144) : val_main_v9 (F := Ideal) x1 x2 x3 (ix2 0 n)
    = out (fun k => x1 (ix1 k)) (fun k n => x2 (ix2 k n)) (fun n => x3 (ix1 n)) n := by
  pointwise [val_main_v9, val_main_v7, val_main_v8, val_main_v6, val_main_v5, val_main_call1_v5, val_main_call1_v4, val_main_call1_v3, val_main_call1_v2, val_main_call1_v1, val_main_call1_v0, val_main_call1_cst, val_main_call1_cst_0]
  unfold out silu
  rw [Ideal.ofBits_one_f32]

/-- The rows of the vectors of zeros. -/
theorem v15_at (b : Fin 5) (n : Fin 6144) : val_main_v15 (F := Ideal) x2 x3 (ix2 b n)
    = out (fun _ => 0) (fun k n => x2 (ix2 k n)) (fun n => x3 (ix1 n)) n := by
  pointwise [val_main_v15, val_main_v12, val_main_v14, val_main_v13, val_main_v11, val_main_v10, val_main_cst, val_main_call2_v5, val_main_call2_v4, val_main_call2_v3, val_main_call2_v2, val_main_call2_v1, val_main_call2_v0, val_main_call2_cst, val_main_call2_cst_0]
  unfold out silu
  rw [Ideal.ofBits_one_f32]

/-- The reference's result. -/
theorem reference_at (b : Fin 8) (n : Fin 6144) : val_main_v16 (F := Ideal) x0 x1 x2 x3 (ix2 b n)
    = out (cond (fun b k => x0 (ix2 b k)) (fun k => x1 (ix1 k)) b) (fun k n => x2 (ix2 k n)) (fun n => x3 (ix1 n)) n := by
  have h4 := v4_at x0 x2 x3
  have h9 := v9_at x1 x2 x3
  have h15 := v15_at x2 x3
  unfold val_main_v16
  generalize val_main_v4 (F := Ideal) x0 x2 x3 = y4 at h4 ⊢
  generalize val_main_v9 (F := Ideal) x1 x2 x3 = y9 at h9 ⊢
  generalize val_main_v15 (F := Ideal) x2 x3 = y15 at h15 ⊢
  pointwise []
  unfold cond
  by_cases h : b.val < 2
  · simp only [dif_pos h]
    exact h4 _ n
  · by_cases h' : b.val = 2
    · simp only [dif_neg h, if_pos h']
      rw [dif_pos (by omega)]
      rw [← h9 n]
      exact congrArg y9 (congrArg (fun q => ix2 q n) (Subsingleton.elim _ _))
    · simp only [dif_neg h, if_neg h']
      rw [dif_neg (by omega)]
      exact h15 _ n

end Cert.Mod.Ref

namespace Cert.Mod

open Cert.Kernel3Ideal Cert.Kernel3Ideal.Gen Cert.Kernel3Ideal.Facts Cert.Kernel3Ideal.Value
open Cert.Ffn (silu)
open Idealize.ShloMosaic Idealize.ShloMosaic.TcCoe Idealize.SL.Sem

/-- The logistic of a number is the quotient that the silu takes. -/
theorem silu_logistic (a : EReal) : a * Ideal.logistic a = silu a := by
  unfold silu
  rw [Ideal.ofBits_one_f32]
  rfl

/-- What a point stores, entry by entry. -/
theorem pay_at (x0 : Vec Ideal S1024x8 .f32) (x1 : Vec Ideal S1024x768 .f32) (x2 : Vec Ideal S1x768 .f32) (b : Fin 8) (n : Fin 768) :
    k0_pay1 x0 x1 x2 (ix2 b n) = (if b.val < 3 then ∑ k : Fin 1024, silu (x0 (ix2 k b)) * x1 (ix2 k n) else (0 : EReal)) + x2 (ix2 0 n) := by
  pointwise [k0_pay1]
  refine congrArg (· + _) ?_
  simp only [silu_logistic]
  have hc : ∀ q : Fin 8, ∑ k : Fin 1024, x1 (ix2 k n) * silu (x0 (ix2 k q)) = ∑ k : Fin 1024, silu (x0 (ix2 k q)) * x1 (ix2 k n) :=
    fun q => Finset.sum_congr rfl fun k _ => mul_comm (x1 (ix2 k n) : EReal) _
  by_cases h0 : b.val < 1
  · rw [dif_pos h0, if_pos (by omega)]
    obtain rfl : b = 0 := Fin.ext (by show b.val = 0; omega)
    exact hc 0
  · rw [dif_neg h0]
    by_cases h1 : b.val - 1 < 1
    · rw [dif_pos h1, if_pos (by omega)]
      obtain rfl : b = 1 := Fin.ext (by show b.val = 1; omega)
      exact hc 1
    · rw [dif_neg h1]
      by_cases h2 : b.val - 1 - 1 < 1
      · rw [dif_pos h2, if_pos (by omega)]
        obtain rfl : b = 2 := Fin.ext (by show b.val = 2; omega)
        exact hc 2
      · rw [dif_neg h2, if_neg (by omega)]

variable (m : (ℓ : Loc nD τ sig) → Buf (Elt Ideal) ℓ) (c : Dev nD)

/-- The conditioning vectors as the call receives them, laid out by columns. -/
theorem cond_at (k : Fin 1024) (b : Fin 8) : V m c main_v3 (ix2 k b)
    = cond (fun b k => m ((c : Thread nD τ).loc main_arg0) (ix2 b k)) (fun k => m ((c : Thread nD τ).loc main_arg1) (ix1 k)) b k := by
  unfold cond
  after_reads_at
  by_cases h : b.val < 2
  · simp only [dif_pos h]
    after_reads_at
  · by_cases h' : b.val = 2
    · simp only [dif_neg h, if_pos h']
      rw [dif_pos (by omega)]
      after_reads_at
    · simp only [dif_neg h, if_neg h']
      rw [dif_neg (by omega)]
      after_reads_at

/-- The bias as the call receives it. -/
theorem bias_at (n : Fin 6144) : V m c main_v4 (ix2 0 n) = m ((c : Thread nD τ).loc main_arg3) (ix1 n) := by
  after_reads_at

theorem place0 : ∀ t : Fin cfg0.N, win0_0.index t = ![0, 0] := (by decide +kernel : ∀ t : Fin grid0.N, _)

theorem place1 : ∀ t : Fin cfg0.N, win0_1.index t = ![0, t.val] := (by decide +kernel : ∀ t : Fin grid0.N, _)

theorem place2 : ∀ t : Fin cfg0.N, win0_2.index t = ![0, t.val] := (by decide +kernel : ∀ t : Fin grid0.N, _)

theorem place3 : ∀ t : Fin cfg0.N, win0_3.index t = ![0, t.val] := (by decide +kernel : ∀ t : Fin grid0.N, _)

/-- Every point writes its block back. -/
theorem flushes : ∀ t : Fin cfg0.N, (cfg0.win 3).flush t = true := (by decide +kernel : ∀ t : Fin grid0.N, _)

/-- A point receives the conditioning vectors whole. -/
theorem blk0 (t : Fin cfg0.N) (k : Fin 1024) (b : Fin 8) : iblk m c 0 t (ix2 k b) = V m c main_v3 (ix2 k b) := by
  show V m c main_v3 (((cfg0.win 0).blk t).view.emb (ix2 k b)) = _
  have e := place0 t
  refine congrArg _ (funext fun a => Fin.ext ?_)
  match a with
  | ⟨0, _⟩ => show win0_0.index t (0 : Fin 2) * 1024 + 1 * k.val = k.val; rw [e]; simp
  | ⟨1, _⟩ => show win0_0.index t (1 : Fin 2) * 8 + 1 * b.val = b.val; rw [e]; simp

/-- A point receives its columns of the weights. -/
theorem blk1 (t : Fin cfg0.N) (k : Fin 1024) (n : Fin 768) (p : Fin 6144) (hp : p.val = 768 * t.val + n.val) :
    iblk m c 1 t (ix2 k n) = m ((c : Thread nD τ).loc main_arg2) (ix2 k p) := by
  show V m c main_arg2 (((cfg0.win 1).blk t).view.emb (ix2 k n)) = _
  rw [V_main_arg2]
  have e := place1 t
  refine congrArg _ (funext fun a => Fin.ext ?_)
  match a with
  | ⟨0, _⟩ => show win0_1.index t (0 : Fin 2) * 1024 + 1 * k.val = k.val; rw [e]; simp
  | ⟨1, _⟩ => show win0_1.index t (1 : Fin 2) * 768 + 1 * n.val = p.val; rw [e, hp]; show t.val * 768 + 1 * n.val = _; omega

/-- A point receives its columns of the bias. -/
theorem blk2 (t : Fin cfg0.N) (n : Fin 768) (p : Fin 6144) (hp : p.val = 768 * t.val + n.val) :
    iblk m c 2 t (ix2 0 n) = V m c main_v4 (ix2 0 p) := by
  show V m c main_v4 (((cfg0.win 2).blk t).view.emb (ix2 0 n)) = _
  have e := place2 t
  refine congrArg _ (funext fun a => Fin.ext ?_)
  match a with
  | ⟨0, _⟩ => show win0_2.index t (0 : Fin 2) * 1 + 1 * 0 = 0; rw [e]; simp
  | ⟨1, _⟩ => show win0_2.index t (1 : Fin 2) * 768 + 1 * n.val = p.val; rw [e, hp]; show t.val * 768 + 1 * n.val = _; omega

/-- The kernel's result at a column: what the column's point stores. -/
theorem result_at (t : Fin cfg0.N) (b : Fin 8) (n : Fin 768) (p : Fin 6144) (hp : p.val = 768 * t.val + n.val) :
    (dats m 0 c).arrAt 3 cfg0.N (ix2 b p) = k0_pay1 (iblk m c 0 t) (iblk m c 1 t) (iblk m c 2 t) (ix2 b n) := by
  have h := congrFun (blocks3 m c t (flushes t)) (ix2 b n)
  rw [flushed3] at h
  have e := place3 t
  have hi : ((cfg0.win 3).blk t).view.emb (ix2 b n) = (ix2 b p : S8x6144.Idx) := by
    funext a
    apply Fin.ext
    match a with
    | ⟨0, _⟩ => show win0_3.index t (0 : Fin 2) * 8 + 1 * b.val = b.val; rw [e]; simp
    | ⟨1, _⟩ => show win0_3.index t (1 : Fin 2) * 768 + 1 * n.val = p.val; rw [e, hp]; show t.val * 768 + 1 * n.val = _; omega
  have h1 : ((cfg0.win 3).blk t).view.read (Elt Ideal) ((dats m 0 c).arrAt 3 cfg0.N) (ix2 b n) = (dats m 0 c).arrAt 3 cfg0.N (ix2 b p) := by
    rw [← hi]
    rfl
  rw [← h1]
  refine h.trans ?_
  have hx : (cfg0.win 3).xinj (grid0.coords t) (ix2 b n) = (ix2 b n : S8x768.Idx) :=
    funext fun a => Fin.ext (by match a with | ⟨0, _⟩ => rfl | ⟨1, _⟩ => rfl)
  show out0_3 (iblk m c 0 t) (iblk m c 1 t) (iblk m c 2 t) ((cfg0.win 3).xinj (grid0.coords t) (ix2 b n)) = _
  rw [hx]
  have z : ∀ a : Fin 2, (![0, 0] : Fin 2 → ℕ) a = 0 := by decide
  unfold out0_3
  rw [View.canon_cons_unit_lit (inb := inb_S8x768_S8x768_0_0) (h := z), View.ld_unit_lit (inb := inb_S1024x8_S1024x8_0_0) (h := z),
    View.ld_unit_lit (inb := inb_S1024x768_S1024x768_0_0) (h := z), View.ld_unit_lit (inb := inb_S1x768_S1x768_0_0) (h := z)]

/-- Every entry of the kernel's result. -/
theorem kernel_at (b : Fin 8) (p : Fin 6144) : (dats m 0 c).arrAt 3 cfg0.N (ix2 b p)
    = out (cond (fun b k => m ((c : Thread nD τ).loc main_arg0) (ix2 b k)) (fun k => m ((c : Thread nD τ).loc main_arg1) (ix1 k)) b)
        (fun k n => m ((c : Thread nD τ).loc main_arg2) (ix2 k n)) (fun n => m ((c : Thread nD τ).loc main_arg3) (ix1 n)) p := by
  have hN : cfg0.N = 8 := N_0
  have ht : p.val / 768 < cfg0.N := by omega
  have hr : p.val % 768 < 768 := by omega
  have hp : p.val = 768 * (⟨p.val / 768, ht⟩ : Fin cfg0.N).val + (⟨p.val % 768, hr⟩ : Fin 768).val := by dsimp only; omega
  rw [result_at m c ⟨p.val / 768, ht⟩ b ⟨p.val % 768, hr⟩ p hp, pay_at, blk2 m c _ _ p hp, bias_at]
  simp only [blk0, blk1 m c _ _ _ p hp]
  by_cases h : b.val < 3
  · rw [if_pos h]
    unfold out
    exact congrArg (· + _) (Finset.sum_congr rfl fun k _ => congrArg (fun q => silu q * _) (cond_at m c k b))
  · rw [if_neg h]
    have e : cond (fun b k => m ((c : Thread nD τ).loc main_arg0) (ix2 b k)) (fun k => m ((c : Thread nD τ).loc main_arg1) (ix1 k)) b = fun _ => 0 := by
      funext k
      unfold cond
      rw [dif_neg (by omega), if_neg (by omega)]
    rw [e, out_zero]

/-- The reference's result is the kernel's, at every index. -/
theorem results_equal : Cert.Reference3Ideal.Read.val_main_v16 (F := Ideal) (m ((c : Thread nD τ).loc main_arg0)) (m ((c : Thread nD τ).loc main_arg1))
    (m ((c : Thread nD τ).loc main_arg2)) (m ((c : Thread nD τ).loc main_arg3)) = (dats m 0 c).arrAt 3 cfg0.N := by
  funext i
  obtain ⟨b, p, rfl⟩ : ∃ (b : Fin 8) (p : Fin 6144), i = ix2 b p :=
    ⟨i 0, i 1, funext fun a => by match a with | ⟨0, _⟩ => rfl | ⟨1, _⟩ => rfl⟩
  exact (Ref.reference_at _ _ _ _ b p).trans (kernel_at m c b p).symm

end Cert.Mod

end
-- ==== Proof.Ctx.lean ====
/- The context's projection, as a function of the extended reals the arguments hold: the modulated norm, the projection, the convolution
   over four rows, the gate's function; and the reference read entry by entry. -/
module

public import proofs.«01_k».proof.Proof.FfnSpec
public import proofs.«01_k».proof.Proof.Gen.Reference4Ideal.Read
public import Idealize.ShloMosaic.Lib.Pointwise
public import Idealize.ShloMosaic.Lib.StableHlo.ReadAt

@[expose] public section

set_option maxRecDepth 16384

noncomputable section

namespace Cert.Ctx

open Idealize.ShloMosaic
open Cert.Ffn (rms)

/-- The arguments' extended reals: the context, the shift and the scale of its norm, the norm's weight, the projection and the
    convolution. -/
structure Inputs where
  x : Fin 2 → Fin 256 → Fin 1024 → EReal
  sh : Fin 1024 → EReal
  sc : Fin 1024 → EReal
  ng : Fin 1024 → EReal
  w : Fin 1024 → Fin 1792 → EReal
  cw : Fin 4 → Fin 512 → EReal
  cb : Fin 512 → EReal

/-- The gate's function. -/
def gelu (x : EReal) : EReal :=
  x * (Ideal.ofBits .f32 0x3F000000#32 * (1
    + Ideal.tanh (Ideal.ofBits .f32 0x3F4C422A#32 * (x + Ideal.ofBits .f32 0x3D372713#32 * (x * x * x)))))

/-- The factor of the queries. -/
def scale : EReal := Ideal.ofBits .f32 0x3E38AA3B#32

/-- A column of the recurrence's part. -/
def rCol (c : Fin 512) : Fin 1792 := ⟨c.val, by omega⟩

/-- A column of the gate's part. -/
def gCol (c : Fin 512) : Fin 1792 := ⟨512 + c.val, by omega⟩

/-- A column of the queries. -/
def qCol (c : Fin 512) : Fin 1792 := ⟨1024 + c.val, by omega⟩

/-- A column of the keys and values. -/
def kvCol (c : Fin 256) : Fin 1792 := ⟨1536 + c.val, by omega⟩

/-- The position of a stored row: the even positions first. -/
def pos (n : Fin 256) : Fin 256 := if h : n.val < 128 then ⟨2 * n.val, by omega⟩ else ⟨2 * (n.val - 128) + 1, by omega⟩

namespace Inputs

variable (I : Inputs)

/-- The modulated norm. -/
def h (b : Fin 2) (p : Fin 256) (k : Fin 1024) : EReal :=
  I.x b p k * rms (I.x b p) * (I.ng k * (1 + I.sc k)) + I.sh k

/-- The projection of it. -/
def u (b : Fin 2) (p : Fin 256) (c : Fin 1792) : EReal := ∑ k, I.h b p k * I.w k c

/-- The modulated norm by the second row after, zero off the sequence. -/
def hz (b : Fin 2) (q : ℕ) (k : Fin 1024) : EReal := if h : 2 ≤ q ∧ q ≤ 257 then I.h b ⟨q - 2, by omega⟩ k else 0

/-- The projection by the second row after, zero off the sequence. -/
def uz (b : Fin 2) (q : ℕ) (c : Fin 1792) : EReal := if h : 2 ≤ q ∧ q ≤ 257 then I.u b ⟨q - 2, by omega⟩ c else 0

/-- Off the sequence the projection of zero is zero. -/
theorem uz_sum (b : Fin 2) (q : ℕ) (c : Fin 1792) : ∑ k, I.hz b q k * I.w k c = I.uz b q c := by
  unfold hz uz
  split
  · rfl
  · simp

/-- The convolution over two rows before, a row and the row after. -/
def conv (b : Fin 2) (p : Fin 256) (c : Fin 512) : EReal :=
  I.cb c + I.uz b p.val (rCol c) * I.cw 0 c + I.uz b (p.val + 1) (rCol c) * I.cw 1 c + I.uz b (p.val + 2) (rCol c) * I.cw 2 c
    + I.uz b (p.val + 3) (rCol c) * I.cw 3 c

end Inputs

/-- The numbers that six arrays hold. -/
def inputs (x0 : (⟨3, ![2, 256, 1024]⟩ : Shape).Idx → EReal) (x1 : (⟨3, ![8, 1, 6144]⟩ : Shape).Idx → EReal)
    (x2 : (⟨2, ![1, 1024]⟩ : Shape).Idx → EReal) (x3 : (⟨2, ![1024, 1792]⟩ : Shape).Idx → EReal)
    (x4 : (⟨2, ![4, 512]⟩ : Shape).Idx → EReal) (x5 : (⟨2, ![1, 512]⟩ : Shape).Idx → EReal) : Inputs where
  x b p k := x0 (ix3 b p k)
  sh k := x1 (ix3 2 0 (⟨k.val, by omega⟩ : Fin 6144))
  sc k := x1 (ix3 2 0 (⟨1024 + k.val, by omega⟩ : Fin 6144))
  ng k := x2 (ix2 0 k)
  w k c := x3 (ix2 k c)
  cw t c := x4 (ix2 t c)
  cb c := x5 (ix2 0 c)

end Cert.Ctx

namespace Cert.Ctx.Ref

open Cert.Reference4Ideal Cert.Reference4Ideal.Gen Cert.Reference4Ideal.Read
open Idealize.ShloMosaic Idealize.ShloMosaic.TcCoe Idealize.SL.Sem

variable (x0 : (⟨S2x256x1024, .f32⟩ : BufTy).Contents (Elt Ideal)) (x1 : (⟨S8x1x6144, .f32⟩ : BufTy).Contents (Elt Ideal)) (x2 : (⟨S1x1024, .f32⟩ : BufTy).Contents (Elt Ideal)) (x3 : (⟨S1024x1792, .bf16⟩ : BufTy).Contents (Elt Ideal)) (x4 : (⟨S4x512, .f32⟩ : BufTy).Contents (Elt Ideal)) (x5 : (⟨S1x512, .f32⟩ : BufTy).Contents (Elt Ideal))

/-- The modulated norm. -/
theorem h_at (b : Fin 2) (p : Fin 256) (k : Fin 1024) : val_main_v28 (F := Ideal) x0 x1 x2 (ix3 b p k) = (inputs x0 x1 x2 x3 x4 x5).h b p k := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v3, val_main_v2, val_main_v1, val_main_v0, val_main_cst, val_main_cst_0, val_main_cst_1, val_main_cst_2]
  unfold Inputs.h
  exact congrArg₂ (· + ·) (mul_assoc _ _ _) rfl

/-- The projection of it. -/
theorem u_at (b : Fin 2) (p : Fin 256) (c : Fin 1792) : val_main_v30 (F := Ideal) x0 x1 x2 x3 (ix3 b p c) = (inputs x0 x1 x2 x3 x4 x5).u b p c := by
  have h := h_at x0 x1 x2 x3 x4 x5 b p
  unfold val_main_v30
  generalize val_main_v28 (F := Ideal) x0 x1 x2 = y at h ⊢
  pointwise [val_main_v29]
  simp only [h]
  rfl

/-- With two rows of zeros before and one after. -/
theorem uz_at (b : Fin 2) (q : Fin 259) (c : Fin 512) : val_main_v36 (F := Ideal) x0 x1 x2 x3 (ix3 b q c) = (inputs x0 x1 x2 x3 x4 x5).uz b q.val (rCol c) := by
  have h := u_at x0 x1 x2 x3 x4 x5 b
  unfold val_main_v36 val_main_v31
  generalize val_main_v30 (F := Ideal) x0 x1 x2 x3 = y at h ⊢
  pointwise [val_main_call0_v0, val_main_c]
  simp only [h]
  unfold Inputs.uz
  have hq := q.isLt
  by_cases h : 2 ≤ q.val ∧ q.val ≤ 257
  · rw [dif_pos h, dif_pos (by omega)]
    rfl
  · rw [dif_neg h, dif_neg (by omega)]
    show (((0#32 : BitVec 32).toInt : ℝ) : EReal) = 0
    simp

/-- The convolution. -/
theorem conv_at (b : Fin 2) (p : Fin 256) (c : Fin 512) : val_main_v66 (F := Ideal) x0 x1 x2 x3 x4 x5 (ix3 b p c) = (inputs x0 x1 x2 x3 x4 x5).conv b p c := by
  have h := uz_at x0 x1 x2 x3 x4 x5 b
  unfold val_main_v66 val_main_v65 val_main_v60 val_main_v59 val_main_v58 val_main_v53 val_main_v52 val_main_v51 val_main_v46 val_main_v45 val_main_v42 val_main_v37
  generalize val_main_v36 (F := Ideal) x0 x1 x2 x3 = y at h ⊢
  pointwise [val_main_v64, val_main_v63, val_main_v62, val_main_v61, val_main_v57, val_main_v56, val_main_v55, val_main_v54, val_main_v50, val_main_v49, val_main_v48, val_main_v47, val_main_v44, val_main_v43, val_main_v41, val_main_v40, val_main_v39, val_main_v38, val_main_v35]
  simp only [h]
  unfold Inputs.conv
  rw [Nat.add_comm 1 p.val, Nat.add_comm 2 p.val, Nat.add_comm 3 p.val]
  rfl

/-- The reference's first result: the convolved rows, the even positions first. -/
theorem xc_at (b : Fin 2) (n : Fin 256) (c : Fin 512) : val_main_v69 (F := Ideal) x0 x1 x2 x3 x4 x5 (ix3 b n c) = (inputs x0 x1 x2 x3 x4 x5).conv b (pos n) c := by
  have h := conv_at x0 x1 x2 x3 x4 x5 b
  unfold val_main_v69 val_main_v68 val_main_v67
  generalize val_main_v66 (F := Ideal) x0 x1 x2 x3 x4 x5 = y at h ⊢
  pointwise
  unfold pos
  by_cases hn : n.val < 128
  · simp only [dif_pos hn]
    rw [← h]
  · simp only [dif_neg hn]
    rw [← h]
    exact congrArg y (funext fun a => Fin.ext (by fin_cases a <;> simp [Nat.add_comm 1]))

/-- The second: the gate's function of its part. -/
theorem gx_at (b : Fin 2) (p : Fin 256) (c : Fin 512) : val_main_v83 (F := Ideal) x0 x1 x2 x3 (ix3 b p c) = gelu ((inputs x0 x1 x2 x3 x4 x5).u b p (gCol c)) := by
  have h := u_at x0 x1 x2 x3 x4 x5 b p
  unfold val_main_v83 val_main_v82 val_main_v81 val_main_v79 val_main_v77 val_main_v76 val_main_v74 val_main_v73 val_main_v71 val_main_v70 val_main_v32
  generalize val_main_v30 (F := Ideal) x0 x1 x2 x3 = y at h ⊢
  pointwise [val_main_v72, val_main_v75, val_main_v78, val_main_v80, val_main_cst_3, val_main_cst_4, val_main_cst_5, val_main_cst_6]
  simp only [h]
  rfl

/-- The third: the scaled queries. -/
theorem q_at (b : Fin 2) (p : Fin 256) (c : Fin 512) : val_main_v86 (F := Ideal) x0 x1 x2 x3 (ix3 b p c) = (inputs x0 x1 x2 x3 x4 x5).u b p (qCol c) * scale := by
  have h := u_at x0 x1 x2 x3 x4 x5 b p
  unfold val_main_v86 val_main_v85 val_main_v33
  generalize val_main_v30 (F := Ideal) x0 x1 x2 x3 = y at h ⊢
  pointwise [val_main_v84, val_main_cst_7]
  simp only [h]
  rfl

/-- The fourth: the keys and values. -/
theorem kv_at (b : Fin 2) (p : Fin 256) (c : Fin 256) : val_main_v87 (F := Ideal) x0 x1 x2 x3 (ix3 b p c) = (inputs x0 x1 x2 x3 x4 x5).u b p (kvCol c) := by
  have h := u_at x0 x1 x2 x3 x4 x5 b p
  unfold val_main_v87 val_main_v34
  generalize val_main_v30 (F := Ideal) x0 x1 x2 x3 = y at h ⊢
  pointwise
  simp only [h]
  rfl

end Cert.Ctx.Ref

end
-- ==== Proof.CtxPoint.lean ====
/- One grid point of the context's projection: the modulated rows of the point and of its surroundings, the projection, the convolution
   over even and odd rows apart, the gate and the queries, keys and values; what the point stores is four functions of what it loads. -/
module

public import proofs.«01_k».proof.Proof.Gen.Kernel4Ideal.Value

@[expose] public section

set_option maxRecDepth 65536

noncomputable section

namespace Cert.Ctx

open Cert.Kernel4Ideal Cert.Kernel4Ideal.Gen Cert.Kernel4Ideal.Facts
open Idealize.ShloMosaic Idealize.ShloMosaic.TcCoe Idealize.SL.Sem

variable {F : FTy → Type} [FloatOps F]

/-- A grid point's buffers and what the windows brought into them. -/
structure Point (F : FTy → Type) where
  arg2 : Memref sig .tc .vmem S1x256x1024 .f32
  harg2 : arg2.IsWhole
  arg3 : Memref sig .tc .vmem S1x16x1024 .f32
  harg3 : arg3.IsWhole
  arg4 : Memref sig .tc .vmem S1x16x1024 .f32
  harg4 : arg4.IsWhole
  arg5 : Memref sig .tc .vmem S1x1x1024 .f32
  harg5 : arg5.IsWhole
  arg6 : Memref sig .tc .vmem S1x1x1024 .f32
  harg6 : arg6.IsWhole
  arg7 : Memref sig .tc .vmem S1x1024 .f32
  harg7 : arg7.IsWhole
  arg8 : Memref sig .tc .vmem S1024x1792 .bf16
  harg8 : arg8.IsWhole
  arg9 : Memref sig .tc .vmem S4x512 .f32
  harg9 : arg9.IsWhole
  arg10 : Memref sig .tc .vmem S1x512 .f32
  harg10 : arg10.IsWhole
  arg11 : Memref sig .tc .vmem S256x128 .f32
  harg11 : arg11.IsWhole
  arg12 : Memref sig .tc .vmem S256x128 .f32
  harg12 : arg12.IsWhole
  arg13 : Memref sig .tc .vmem S64x128 .f32
  harg13 : arg13.IsWhole
  arg14 : Memref sig .tc .vmem S64x128 .f32
  harg14 : arg14.IsWhole
  arg15 : Memref sig .tc .vmem S1x256x512 .f32
  harg15 : arg15.IsWhole
  arg16 : Memref sig .tc .vmem S1x256x512 .bf16
  harg16 : arg16.IsWhole
  arg17 : Memref sig .tc .vmem S1x256x512 .bf16
  harg17 : arg17.IsWhole
  arg18 : Memref sig .tc .vmem S1x256x256 .bf16
  harg18 : arg18.IsWhole
  arg19 : Memref sig .tc .vmem S288x1024 .bf16
  harg19 : arg19.IsWhole
  arg20 : Memref sig .tc .vmem S4x288x128 .f32
  harg20 : arg20.IsWhole
  x0 : Vec F S1x256x1024 .f32
  x1 : Vec F S1x16x1024 .f32
  x2 : Vec F S1x16x1024 .f32
  x3 : Vec F S1x1x1024 .f32
  x4 : Vec F S1x1x1024 .f32
  x5 : Vec F S1x1024 .f32
  x6 : Vec F S1024x1792 .bf16
  x7 : Vec F S4x512 .f32
  x8 : Vec F S1x512 .f32
  x9 : Vec F S256x128 .f32
  x10 : Vec F S256x128 .f32
  x11 : Vec F S64x128 .f32
  x12 : Vec F S64x128 .f32

/-- A slab lies in the four. -/
theorem slab_inb (s : Fin 4) : ∀ a, (![s.val, 0, 0] : Fin 3 → ℕ) a + S1x288x128.size a ≤ S4x288x128.size a := by
  have := s.isLt
  intro a
  fin_cases a
  · show s.val + 1 ≤ 4
    omega
  · show 0 + 288 ≤ 288
    omega
  · show 0 + 128 ≤ 128
    omega

/-- Every second row from a row close to the sixteenth. -/
def box (j : Fin 5) : LoadRect S288x128 where
  off := ![14 + j.val, 0]
  size := S128x128.size
  stride := ![2, 1]
  inb := by
    have := j.isLt
    intro a
    refine .inr ?_
    fin_cases a
    · show 14 + j.val + 2 * (128 - 1) < 288
      omega
    · show 0 + 1 * (128 - 1) < 128
      omega

/-- The same rows of a slab. -/
def slabBox (s : Fin 4) (j : Fin 5) : LoadRect S4x288x128 :=
  (Rect.unit (s := S4x288x128) ![s.val, 0, 0] S1x288x128.size (slab_inb s)).withinL
    ((box j).consLift ![1, 288, 128] (of_decide_eq_true (id (Eq.refl true))) (of_decide_eq_true (id (Eq.refl true)))) (fun _ => rfl)

namespace Point

variable (P : Point F)

/-- The point's rows. -/
def x : Vec F S1x256x1024 .f32 := View.readAt (Elt F) P.arg2.view (Rect.unit (s := S1x256x1024) ![0, 0, 0] S1x256x1024.size inb_S1x256x1024_S1x256x1024_0_0_0).toLoadRect (P.harg2.unread P.x0)

/-- The rows before. -/
def xPrev : Vec F S1x16x1024 .f32 := View.readAt (Elt F) P.arg3.view (Rect.unit (s := S1x16x1024) ![0, 0, 0] S1x16x1024.size inb_S1x16x1024_S1x16x1024_0_0_0).toLoadRect (P.harg3.unread P.x1)

/-- The rows after. -/
def xNext : Vec F S1x16x1024 .f32 := View.readAt (Elt F) P.arg4.view (Rect.unit (s := S1x16x1024) ![0, 0, 0] S1x16x1024.size inb_S1x16x1024_S1x16x1024_0_0_0).toLoadRect (P.harg4.unread P.x2)

/-- The shift. -/
def sh : Vec F S1x1x1024 .f32 := View.readAt (Elt F) P.arg5.view (Rect.unit (s := S1x1x1024) ![0, 0, 0] S1x1x1024.size inb_S1x1x1024_S1x1x1024_0_0_0).toLoadRect (P.harg5.unread P.x3)

/-- The scale. -/
def sc : Vec F S1x1x1024 .f32 := View.readAt (Elt F) P.arg6.view (Rect.unit (s := S1x1x1024) ![0, 0, 0] S1x1x1024.size inb_S1x1x1024_S1x1x1024_0_0_0).toLoadRect (P.harg6.unread P.x4)

/-- The norm's weight. -/
def ng : Vec F S1x1024 .f32 := View.readAt (Elt F) P.arg7.view (Rect.unit (s := S1x1024) ![0, 0] S1x1024.size inb_S1x1024_S1x1024_0_0).toLoadRect (P.harg7.unread P.x5)

/-- The convolution's weights. -/
def cw : Vec F S4x512 .f32 := View.readAt (Elt F) P.arg9.view (Rect.unit (s := S4x512) ![0, 0] S4x512.size inb_S4x512_S4x512_0_0).toLoadRect (P.harg9.unread P.x7)

/-- The convolution's bias. -/
def cb : Vec F S1x512 .f32 := View.readAt (Elt F) P.arg10.view (Rect.unit (s := S1x512) ![0, 0] S1x512.size inb_S1x512_S1x512_0_0).toLoadRect (P.harg10.unread P.x8)

/-- The projection's columns for the recurrence. -/
def wR : Vec F S1024x512 .bf16 := View.readAt (Elt F) P.arg8.view (Rect.unit (s := S1024x1792) ![0, 0] S1024x512.size inb_S1024x1792_S1024x512_0_0).toLoadRect (P.harg8.unread P.x6)

/-- The other columns. -/
def wP : Vec F S1024x1280 .bf16 := View.readAt (Elt F) P.arg8.view (Rect.unit (s := S1024x1792) ![0, 512] S1024x1280.size inb_S1024x1792_S1024x1280_0_512).toLoadRect (P.harg8.unread P.x6)

/-- The gain of the norm. -/
def gain : FVec F S1x1024 .f32 := k0_pay6 P.ng P.sc

/-- What the point leaves among the modulated rows. -/
def hscP (i : grid0.Coords) : List (View.Piece (Elt F) S288x1024 .bf16) :=
  [⟨Rect.unit (s := S288x1024) ![16, 0] S256x1024.size inb_S288x1024_S256x1024_16_0, k0_pay12 (k0_pay11 P.gain P.x P.sh)⟩,
    ⟨Rect.unit (s := S288x1024) ![272, 0] S16x1024.size inb_S288x1024_S16x1024_272_0,
      k0_pay10 P.gain k0_pay7 (Scalar.cmpi .slt (BitVec.ofNat 32 (i 1).val) 0#32) (k0_pay9 P.xNext) P.sh⟩,
    ⟨Rect.unit (s := S288x1024) ![0, 0] S16x1024.size inb_S288x1024_S16x1024_0_0, k0_pay8 i P.ng P.sc P.xPrev P.sh⟩]

/-- The modulated rows and their surroundings. -/
def hAll (i : grid0.Coords) : Vec F S288x1024 .bf16 :=
  P.arg19.view.readCov (P.hscP i) (Rect.unit (s := S288x1024) ![0, 0] S288x1024.size inb_S288x1024_S288x1024_0_0).toLoadRect

/-- The modulated rows. -/
def hOwn (i : grid0.Coords) : Vec F S256x1024 .bf16 :=
  P.arg19.view.readCov (P.hscP i) (Rect.unit (s := S288x1024) ![16, 0] S256x1024.size inb_S288x1024_S256x1024_16_0).toLoadRect

/-- The recurrence's columns of the projection. -/
def pr (i : grid0.Coords) : FVec F S288x512 .f32 := k0_pay13 (P.hAll i) P.wR

/-- The other columns of it. -/
def p (i : grid0.Coords) : FVec F S256x1280 .f32 := k0_pay14 (P.hOwn i) P.wP

/-- The first slab's store. -/
def slabs0 (i : grid0.Coords) : List (View.Piece (Elt F) S4x288x128 .f32) :=
  [⟨Rect.unit (s := S4x288x128) ![0, 0, 0] S1x288x128.size inb_S4x288x128_S1x288x128_0_0_0, k0_pay15 (P.hAll i) P.wR⟩]

/-- The stores of two slabs. -/
def slabs1 (i : grid0.Coords) : List (View.Piece (Elt F) S4x288x128 .f32) :=
  ⟨Rect.unit (s := S4x288x128) ![1, 0, 0] S1x288x128.size inb_S4x288x128_S1x288x128_1_0_0, k0_pay17 (P.pr i)⟩ :: P.slabs0 i

/-- The stores of three. -/
def slabs2 (i : grid0.Coords) : List (View.Piece (Elt F) S4x288x128 .f32) :=
  ⟨Rect.unit (s := S4x288x128) ![2, 0, 0] S1x288x128.size inb_S4x288x128_S1x288x128_2_0_0, k0_pay22 (P.pr i)⟩ :: P.slabs1 i

/-- The stores of all four. -/
def slabs3 (i : grid0.Coords) : List (View.Piece (Elt F) S4x288x128 .f32) :=
  ⟨Rect.unit (s := S4x288x128) ![3, 0, 0] S1x288x128.size inb_S4x288x128_S1x288x128_3_0_0, k0_pay24 (P.pr i)⟩ :: P.slabs2 i

/-- What is stored when a slab is read back. -/
def slabs (i : grid0.Coords) : Fin 4 → List (View.Piece (Elt F) S4x288x128 .f32)
  | ⟨0, _⟩ => P.slabs0 i
  | ⟨1, _⟩ => P.slabs1 i
  | ⟨2, _⟩ => P.slabs2 i
  | ⟨3, _⟩ => P.slabs3 i

/-- Every second row of a slab, read back. -/
def tap (i : grid0.Coords) (s : Fin 4) (j : Fin 5) : Vec F S128x128 .f32 :=
  LoadRect.valAlong (lr := box j) (LoadRect.numel_consLift (box j) ![1, 288, 128] (of_decide_eq_true (id (Eq.refl true))) (of_decide_eq_true (id (Eq.refl true))))
    (P.arg20.view.readCov (P.slabs i s) (slabBox s j))

/-- The convolved rows, as stored. -/
def xc (i : grid0.Coords) : FVec F S1x256x512 .f32 :=
  k0_pay28 P.cw (k0_pay16 P.cw P.cb (P.tap i 0 0) (P.tap i 0 1) (P.tap i 0 2) (P.tap i 0 3) (P.tap i 0 4))
    (k0_pay21 P.cw (P.tap i 1 2) (P.tap i 1 3) (P.tap i 1 4) (k0_pay18 P.cw P.cb (P.tap i 1 0) (P.tap i 1 1)) (k0_pay19 P.cw P.cb (P.tap i 1 1) (P.tap i 1 2)) (k0_pay20 P.cw))
    (k0_pay23 P.cw P.cb (P.tap i 2 0) (P.tap i 2 1) (P.tap i 2 2) (P.tap i 2 3) (P.tap i 2 4)) (P.tap i 3 4)
    (k0_pay25 P.cw P.cb (P.tap i 3 0) (P.tap i 3 1) (P.tap i 3 2)) (k0_pay26 P.cw P.cb (P.tap i 3 1) (P.tap i 3 2) (P.tap i 3 3)) (k0_pay27 P.cw (P.tap i 3 3))

/-- The queries' stores. -/
def qP (i : grid0.Coords) : List (View.Piece (Elt F) S1x256x512 .bf16) :=
  [⟨Rect.unit (s := S1x256x512) ![0, 0, 384] S1x256x128.size inb_S1x256x512_S1x256x128_0_0_384, k0_pay3 (k0_pay31 (P.p i))⟩,
    ⟨Rect.unit (s := S1x256x512) ![0, 0, 256] S1x256x128.size inb_S1x256x512_S1x256x128_0_0_256, k0_pay2 (k0_pay30 (P.p i))⟩,
    ⟨Rect.unit (s := S1x256x512) ![0, 0, 128] S1x256x128.size inb_S1x256x512_S1x256x128_0_0_128, k0_pay1 (k0_pay34 (P.p i))⟩,
    ⟨Rect.unit (s := S1x256x512) ![0, 0, 0] S1x256x128.size inb_S1x256x512_S1x256x128_0_0_0, k0_pay33 (P.p i)⟩]

/-- The keys' and the values' stores. -/
def kvP (i : grid0.Coords) : List (View.Piece (Elt F) S1x256x256 .bf16) :=
  [⟨Rect.unit (s := S1x256x256) ![0, 0, 128] S1x256x128.size inb_S1x256x256_S1x256x128_0_0_128, k0_pay5 (P.p i)⟩,
    ⟨Rect.unit (s := S1x256x256) ![0, 0, 0] S1x256x128.size inb_S1x256x256_S1x256x128_0_0_0, k0_pay4 (k0_pay32 (P.p i))⟩]

end Point

/-- The first output's store. -/
theorem pieces13 (c : Dev nD) (i : grid0.Coords) (P : Point F) :
    (kernelRun0_A c i P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.arg15 P.harg15 P.arg16 P.harg16 P.arg17 P.harg17 P.arg18 P.harg18 P.arg19 P.harg19 P.arg20 P.harg20 P.x0 P.x1 P.x2 P.x3 P.x4 P.x5 P.x6 P.x7 P.x8 P.x9 P.x10 P.x11 P.x12).1
      = [⟨Rect.unit (s := S1x256x512) ![0, 0, 0] S1x256x512.size inb_S1x256x512_S1x256x512_0_0_0, P.xc i⟩] := by
  sl_kernel_rfl

/-- The second output's store. -/
theorem pieces14 (c : Dev nD) (i : grid0.Coords) (P : Point F) :
    (kernelRun0_A c i P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.arg15 P.harg15 P.arg16 P.harg16 P.arg17 P.harg17 P.arg18 P.harg18 P.arg19 P.harg19 P.arg20 P.harg20 P.x0 P.x1 P.x2 P.x3 P.x4 P.x5 P.x6 P.x7 P.x8 P.x9 P.x10 P.x11 P.x12).2.1
      = [⟨Rect.unit (s := S1x256x512) ![0, 0, 0] S1x256x512.size inb_S1x256x512_S1x256x512_0_0_0, k0_pay29 (P.p i)⟩] := by
  sl_kernel_rfl

/-- The third output's stores. -/
theorem pieces15 (c : Dev nD) (i : grid0.Coords) (P : Point F) :
    (kernelRun0_A c i P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.arg15 P.harg15 P.arg16 P.harg16 P.arg17 P.harg17 P.arg18 P.harg18 P.arg19 P.harg19 P.arg20 P.harg20 P.x0 P.x1 P.x2 P.x3 P.x4 P.x5 P.x6 P.x7 P.x8 P.x9 P.x10 P.x11 P.x12).2.2.1 = P.qP i := by
  sl_kernel_rfl

/-- The fourth output's stores. -/
theorem pieces16 (c : Dev nD) (i : grid0.Coords) (P : Point F) :
    (kernelRun0_A c i P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.arg15 P.harg15 P.arg16 P.harg16 P.arg17 P.harg17 P.arg18 P.harg18 P.arg19 P.harg19 P.arg20 P.harg20 P.x0 P.x1 P.x2 P.x3 P.x4 P.x5 P.x6 P.x7 P.x8 P.x9 P.x10 P.x11 P.x12).2.2.2.1 = P.kvP i := by
  sl_kernel_rfl

end Cert.Ctx

end
-- ==== Proof.CtxTile.lean ====
/- A grid point of the context's projection over the extended reals: what it stores, entry by entry. -/
module

public import proofs.«01_k».proof.Proof.Ctx
public import proofs.«01_k».proof.Proof.CtxPoint
public import proofs.«01_k».proof.Proof.Bias
public import Idealize.ShloMosaic.Lib.WritesUnit
public import Idealize.ShloMosaic.Lib.Pipeline.ValueKit.Tiles

@[expose] public section

set_option maxRecDepth 16384

noncomputable section

namespace Cert.Ctx

open Cert.Kernel4Ideal Cert.Kernel4Ideal.Gen Cert.Kernel4Ideal.Facts
open Cert.Ffn (rms)
open Idealize.ShloMosaic Idealize.ShloMosaic.TcCoe Idealize.SL.Sem

section Loads

variable {F : FTy → Type} [FloatOps F]

/-- A load through a unit rectangle of a buffer holding `X` reads `X` at the offset index. -/
theorem readAt_unread {sp : Space} {s : Shape} {e : EltTy} {arg : Memref sig .tc sp s e} (h : arg.IsWhole) (X : Vec F s e)
    (off size : Fin s.rank → ℕ) (inb) (y : (Rect.unit (s := s) off size inb).toLoadRect.shape.Idx) (i : s.Idx)
    (hi : ∀ a, (i a : ℕ) = off a + (y a : ℕ)) :
    View.readAt (Elt F) arg.view (Rect.unit (s := s) off size inb).toLoadRect (h.unread X) y = X i := by
  rw [View.readAt_eq_ld, h.read_unread]
  exact View.ld_unit_apply_of X off size inb y i hi

/-- A load through a box of what stores left reads it at the index the box names. -/
theorem readCov_lr {κ : Kind} {sp : Space} {s : Shape} {e : EltTy} (v : View sig κ sp s e) (L : List (View.Piece (Elt F) s e))
    (lr : LoadRect s) (y : lr.shape.Idx) (i : s.Idx) (hi : ∀ a, (i a : ℕ) = lr.off a + lr.stride a * (y a : ℕ)) :
    v.readCov L lr y = v.read (Elt F) (v.writes (Elt F) v.junk L) i := by
  rw [View.readCov_eq_canon', View.read_writes_junk_apply_eq_canon]
  exact congrArg _ (funext fun a => Fin.ext (hi a).symm)

/-- An index inside the newest piece's rectangle reads that piece at the index less the offsets. -/
theorem hit {κ : Kind} {sp : Space} {e : EltTy} {m0 m1 k0 k1 o0 o1 : ℕ} (v : View sig κ sp ⟨2, ![m0, m1]⟩ e) (f : v.ty.Contents (Elt F))
    (inb : ∀ a, (![o0, o1] : Fin 2 → ℕ) a + (![k0, k1] : Fin 2 → ℕ) a ≤ (⟨2, ![m0, m1]⟩ : Shape).size a)
    (w : (⟨2, ![k0, k1]⟩ : Shape).Idx → Elt F e) (L : List (View.Piece (Elt F) ⟨2, ![m0, m1]⟩ e)) (n : Fin m0) (l : Fin m1) (a : Fin k0) (b : Fin k1)
    (h0 : n.val = o0 + a.val) (h1 : l.val = o1 + b.val) :
    v.read (Elt F) (v.writes (Elt F) f (⟨Rect.unit (s := ⟨2, ![m0, m1]⟩) ![o0, o1] ![k0, k1] inb, w⟩ :: L)) (ix2 n l) = w (ix2 a b) :=
  View.read_writes_cons_unit_of_mem v f inb w L (ix2 n l) (ix2 a b) rfl
    (by intro c; fin_cases c <;> simpa)

/-- The same of three axes. -/
theorem hit3 {κ : Kind} {sp : Space} {e : EltTy} {m0 m1 m2 k0 k1 k2 o0 o1 o2 : ℕ} (v : View sig κ sp ⟨3, ![m0, m1, m2]⟩ e)
    (f : v.ty.Contents (Elt F))
    (inb : ∀ a, (![o0, o1, o2] : Fin 3 → ℕ) a + (![k0, k1, k2] : Fin 3 → ℕ) a ≤ (⟨3, ![m0, m1, m2]⟩ : Shape).size a)
    (w : (⟨3, ![k0, k1, k2]⟩ : Shape).Idx → Elt F e) (L : List (View.Piece (Elt F) ⟨3, ![m0, m1, m2]⟩ e)) (n : Fin m0) (l : Fin m1)
    (k : Fin m2) (a : Fin k0) (b : Fin k1) (d : Fin k2) (h0 : n.val = o0 + a.val) (h1 : l.val = o1 + b.val) (h2 : k.val = o2 + d.val) :
    v.read (Elt F) (v.writes (Elt F) f (⟨Rect.unit (s := ⟨3, ![m0, m1, m2]⟩) ![o0, o1, o2] ![k0, k1, k2] inb, w⟩ :: L)) (ix3 n l k)
      = w (ix3 a b d) :=
  View.read_writes_cons_unit_of_mem v f inb w L (ix3 n l k) (ix3 a b d) rfl
    (by intro c; fin_cases c <;> simpa)

theorem x_at (P : Point F) (r : Fin 256) (k : Fin 1024) : P.x (ix3 0 r k) = P.x0 (ix3 0 r k) :=
  readAt_unread P.harg2 P.x0 _ _ _ _ _ (by intro a; fin_cases a <;> simp)

theorem sh_at (P : Point F) (k : Fin 1024) : P.sh (ix3 0 0 k) = P.x3 (ix3 0 0 k) :=
  readAt_unread P.harg5 P.x3 _ _ _ _ _ (by intro a; fin_cases a <;> simp)

theorem sc_at (P : Point F) (k : Fin 1024) : P.sc (ix3 0 0 k) = P.x4 (ix3 0 0 k) :=
  readAt_unread P.harg6 P.x4 _ _ _ _ _ (by intro a; fin_cases a <;> simp)

theorem ng_at (P : Point F) (k : Fin 1024) : P.ng (ix2 0 k) = P.x5 (ix2 0 k) :=
  readAt_unread P.harg7 P.x5 _ _ _ _ _ (by intro a; fin_cases a <;> simp)

theorem cw_at (P : Point F) (t : Fin 4) (k : Fin 512) : P.cw (ix2 t k) = P.x7 (ix2 t k) :=
  readAt_unread P.harg9 P.x7 _ _ _ _ _ (by intro a; fin_cases a <;> simp)

theorem cb_at (P : Point F) (k : Fin 512) : P.cb (ix2 0 k) = P.x8 (ix2 0 k) :=
  readAt_unread P.harg10 P.x8 _ _ _ _ _ (by intro a; fin_cases a <;> simp)

theorem wR_at (P : Point F) (k : Fin 1024) (c : Fin 512) : P.wR (ix2 k c) = P.x6 (ix2 k (rCol c)) :=
  readAt_unread P.harg8 P.x6 _ _ _ _ _ (by intro a; fin_cases a <;> simp [rCol])

theorem wP_at (P : Point F) (k : Fin 1024) (c : Fin 1280) : P.wP (ix2 k c) = P.x6 (ix2 k (⟨512 + c.val, by omega⟩ : Fin 1792)) :=
  readAt_unread P.harg8 P.x6 _ _ _ _ _ (by intro a; fin_cases a <;> simp)

end Loads

/-- The gain, entry by entry. -/
theorem pay6_at (v : Vec Ideal S1x1024 .f32) (w : Vec Ideal S1x1x1024 .f32) (k : Fin 1024) :
    k0_pay6 v w (ix2 0 k) = (v (ix2 0 k) : EReal) * (1 + w (ix3 0 0 k)) := by
  pointwise [k0_pay6]

/-- The modulated rows of a point. -/
theorem pay12_at (g : FVec Ideal S1x1024 .f32) (x : Vec Ideal S1x256x1024 .f32) (s : Vec Ideal S1x1x1024 .f32) (r : Fin 256) (k : Fin 1024) :
    k0_pay12 (k0_pay11 g x s) (ix2 r k) = (x (ix3 0 r k) : EReal) * rms (fun j => x (ix3 0 r j)) * g (ix2 0 k) + s (ix3 0 0 k) := by
  pointwise [k0_pay12, k0_pay11]
  rfl

/-- The rows before are zero: a point is the first of its sequence. -/
theorem pay8_at (i : grid0.Coords) (v : Vec Ideal S1x1024 .f32) (w s : Vec Ideal S1x1x1024 .f32) (x : Vec Ideal S1x16x1024 .f32) (r : Fin 16) (k : Fin 1024) :
    k0_pay8 i v w x s (ix2 r k) = (0 : EReal) := by
  have e : (i 1).val = 0 := by
    have : (i 1).val < 1 := (i 1).isLt
    omega
  unfold k0_pay8
  rw [e]
  have e2 : Scalar.cmpi .sgt (BitVec.ofNat 32 0) 0#32 = 0#1 := by decide
  pointwise [k0_pay7, e2]

/-- The rows after are zero: a point is the last of its sequence. -/
theorem pay10_at (i : grid0.Coords) (v : FVec Ideal S1x1024 .f32) (x : FVec Ideal S16x1024 .f32) (s : Vec Ideal S1x1x1024 .f32) (r : Fin 16) (k : Fin 1024) :
    k0_pay10 v k0_pay7 (Scalar.cmpi .slt (BitVec.ofNat 32 (i 1).val) 0#32) x s (ix2 r k) = (0 : EReal) := by
  have e : (i 1).val = 0 := by
    have : (i 1).val < 1 := (i 1).isLt
    omega
  rw [e]
  have e2 : Scalar.cmpi .slt (BitVec.ofNat 32 0) 0#32 = 0#1 := by decide
  rw [e2]
  pointwise [k0_pay10, k0_pay7]

/-- A point's blocks hold the arguments' numbers of its sequence. -/
structure Holds (I : Inputs) (b : Fin 2) (P : Point Ideal) : Prop where
  x : ∀ r k, P.x0 (ix3 0 r k) = I.x b r k
  sh : ∀ k, P.x3 (ix3 0 0 k) = I.sh k
  sc : ∀ k, P.x4 (ix3 0 0 k) = I.sc k
  ng : ∀ k, P.x5 (ix2 0 k) = I.ng k
  w : ∀ k c, P.x6 (ix2 k c) = I.w k c
  cw : ∀ t c, P.x7 (ix2 t c) = I.cw t c
  cb : ∀ c, P.x8 (ix2 0 c) = I.cb c

namespace Holds

variable {I : Inputs} {b : Fin 2} {P : Point Ideal} (H : Holds I b P) (i : grid0.Coords)

include H

/-- The modulated rows of the point. -/
theorem own (r : Fin 256) (k : Fin 1024) : k0_pay12 (k0_pay11 P.gain P.x P.sh) (ix2 r k) = I.h b r k := by
  rw [pay12_at]
  unfold Point.gain Inputs.h
  rw [pay6_at]
  simp only [x_at, sh_at, sc_at, ng_at, H.x, H.sh, H.sc, H.ng]

/-- The modulated rows of the point, read back. -/
theorem hOwn (r : Fin 256) (k : Fin 1024) : P.hOwn i (ix2 r k) = I.h b r k := by
  unfold Point.hOwn
  refine (readCov_lr _ _ _ _ (ix2 (⟨16 + r.val, by omega⟩ : Fin 288) k) (by intro a; fin_cases a <;> simp)).trans ?_
  unfold Point.hscP
  exact (hit _ _ _ _ _ _ _ r k (by simp) (by simp)).trans (H.own r k)

/-- The rows around the point are zero off its sequence. -/
theorem hAll (n : Fin 288) (q : ℕ) (hq : n.val = q + 14) (k : Fin 1024) : P.hAll i (ix2 n k) = I.hz b q k := by
  have hn := n.isLt
  unfold Point.hAll
  refine (readCov_lr _ _ _ _ (ix2 n k) (by intro a; fin_cases a <;> simp)).trans ?_
  unfold Point.hscP Inputs.hz
  by_cases h : 2 ≤ q ∧ q ≤ 257
  · rw [dif_pos h]
    exact (hit _ _ _ _ _ _ _ (⟨q - 2, by omega⟩ : Fin 256) k (by dsimp only; omega) (by simp)).trans (H.own _ k)
  · rw [dif_neg h]
    by_cases h' : 2 ≤ q
    · rw [View.read_writes_cons_unit_of_not_mem _ _ _ _ _ _ rfl 0 (.inr (by simp; omega))]
      exact (hit _ _ _ _ _ _ _ (⟨n.val - 272, by omega⟩ : Fin 16) k (by dsimp only; omega) (by simp)).trans (pay10_at i _ _ _ _ k)
    · rw [View.read_writes_cons_unit_of_not_mem _ _ _ _ _ _ rfl 0 (.inl (by simp; omega)),
        View.read_writes_cons_unit_of_not_mem _ _ _ _ _ _ rfl 0 (.inl (by simp; omega))]
      exact (hit _ _ _ _ _ _ _ (⟨n.val, by omega⟩ : Fin 16) k (by simp) (by simp)).trans (pay8_at i _ _ _ _ _ k)

/-- The recurrence's columns around the point. -/
theorem pr (n : Fin 288) (q : ℕ) (hq : n.val = q + 14) (c : Fin 512) : P.pr i (ix2 n c) = I.uz b q (rCol c) := by
  have h := H.hAll i n q hq
  have hw := wR_at P
  unfold Point.pr
  generalize P.hAll i = y at h ⊢
  generalize P.wR = z at hw ⊢
  rw [← I.uz_sum b q (rCol c)]
  pointwise [k0_pay13]
  simp only [h, hw, H.w]

/-- The other columns of the point. -/
theorem p (r : Fin 256) (c : Fin 1280) (d : Fin 1792) (hd : d.val = 512 + c.val) : P.p i (ix2 r c) = I.u b r d := by
  have h := H.hOwn i r
  have hw := wP_at P
  have e : d = (⟨512 + c.val, by omega⟩ : Fin 1792) := Fin.ext hd
  unfold Point.p Inputs.u
  generalize P.hOwn i = y at h ⊢
  generalize P.wP = z at hw ⊢
  rw [e]
  pointwise [k0_pay14]
  simp only [h, hw, H.w]

end Holds

/-- A column by its slab of 128. -/
def slabCol (s : Fin 4) (l : Fin 128) : Fin 512 := ⟨128 * s.val + l.val, by omega⟩

/-- A slab's columns are where its store put them. -/
theorem slabs_at (P : Point Ideal) (i : grid0.Coords) (s : Fin 4) (n : Fin 288) (l : Fin 128) :
    P.arg20.view.read (Elt Ideal) (P.arg20.view.writes (Elt Ideal) P.arg20.view.junk (P.slabs i s)) (ix3 s n l) = P.pr i (ix2 n (slabCol s l)) := by
  have hs : s = 0 ∨ s = 1 ∨ s = 2 ∨ s = 3 := by omega
  rcases hs with rfl | rfl | rfl | rfl
  · refine (hit3 _ _ _ _ _ _ _ _ 0 n l (by simp) (by simp) (by simp)).trans ?_
    unfold k0_pay15
    change _ = k0_pay13 (P.hAll i) P.wR _
    generalize k0_pay13 (P.hAll i) P.wR = y
    pointwise [slabCol]
  · refine (hit3 _ _ _ _ _ _ _ _ 0 n l (by simp) (by simp) (by simp)).trans ?_
    generalize P.pr i = y
    pointwise [k0_pay17, slabCol]
  · refine (hit3 _ _ _ _ _ _ _ _ 0 n l (by simp) (by simp) (by simp)).trans ?_
    generalize P.pr i = y
    pointwise [k0_pay22, slabCol]
  · refine (hit3 _ _ _ _ _ _ _ _ 0 n l (by simp) (by simp) (by simp)).trans ?_
    generalize P.pr i = y
    pointwise [k0_pay24, slabCol]

/-- Every second row of a slab is the projection's. -/
theorem tap_at (P : Point Ideal) (i : grid0.Coords) (s : Fin 4) (j : Fin 5) (r l : Fin 128) :
    P.tap i s j (ix2 r l) = P.pr i (ix2 (⟨14 + j.val + 2 * r.val, by omega⟩ : Fin 288) (slabCol s l)) := by
  rw [← slabs_at]
  unfold Point.tap
  refine readCov_lr _ _ _ _ (ix3 s (⟨14 + j.val + 2 * r.val, by omega⟩ : Fin 288) l) ?_
  have hx : Shape.reshapeEquiv (LoadRect.numel_consLift (box j) ![1, 288, 128] (of_decide_eq_true (id (Eq.refl true))) (of_decide_eq_true (id (Eq.refl true)))) (ix2 r l) = Fin.cons ⟨0, Nat.one_pos⟩ (ix2 r l) :=
    Shape.reshapeEquiv_cons_one (d := (box j).size) _ _
  rw [hx]
  intro a
  match a with
  | ⟨0, _⟩ => show s.val = s.val + 0 + 1 * 0; omega
  | ⟨1, _⟩ => show 14 + j.val + 2 * r.val = 0 + (14 + j.val) + 2 * r.val; omega
  | ⟨2, _⟩ => show l.val = 0 + 0 + 1 * l.val; omega

end Cert.Ctx

end
-- ==== Proof.CtxOut.lean ====
/- A grid point's four stores over the extended reals, entry by entry. -/
module

public import proofs.«01_k».proof.Proof.CtxTile

@[expose] public section

set_option maxRecDepth 16384

noncomputable section

namespace Cert.Ctx

open Cert.Kernel4Ideal Cert.Kernel4Ideal.Gen Cert.Kernel4Ideal.Facts
open Idealize.ShloMosaic Idealize.ShloMosaic.TcCoe Idealize.SL.Sem

/-- Four rows weighted, with the bias. -/
def conv4 (cw : Vec Ideal S4x512 .f32) (cb : Vec Ideal S1x512 .f32) (c : Fin 512) (t0 t1 t2 t3 : EReal) : EReal :=
  (cb (ix2 0 c) : EReal) + t0 * cw (ix2 0 c) + t1 * cw (ix2 1 c) + t2 * cw (ix2 2 c) + t3 * cw (ix2 3 c)

/-- The even rows' convolution, then the odd rows'. -/
def both (cw : Vec Ideal S4x512 .f32) (cb : Vec Ideal S1x512 .f32) (c : Fin 512) (t0 t1 t2 t3 t4 : Fin 128 → EReal) (n : Fin 256) : EReal :=
  if h : n.val < 128 then conv4 cw cb c (t0 ⟨n.val, h⟩) (t1 ⟨n.val, h⟩) (t2 ⟨n.val, h⟩) (t3 ⟨n.val, h⟩)
  else conv4 cw cb c (t1 ⟨n.val - 128, by omega⟩) (t2 ⟨n.val - 128, by omega⟩) (t3 ⟨n.val - 128, by omega⟩) (t4 ⟨n.val - 128, by omega⟩)

section Slabs

variable (cw : Vec Ideal S4x512 .f32) (cb : Vec Ideal S1x512 .f32) (t0 t1 t2 t3 t4 : Vec Ideal S128x128 .f32) (n : Fin 256) (l : Fin 128)

/-- The first slab's convolution. -/
theorem slab0 : k0_pay16 cw cb t0 t1 t2 t3 t4 (ix2 n l)
    = both cw cb (slabCol 0 l) (fun r => t0 (ix2 r l)) (fun r => t1 (ix2 r l)) (fun r => t2 (ix2 r l)) (fun r => t3 (ix2 r l)) (fun r => t4 (ix2 r l)) n := by
  unfold both
  split <;> rename_i h
  · pointwise [k0_pay16, slabCol, conv4]
    simp [h]
  · pointwise [k0_pay16, slabCol, conv4]
    simp [h]

/-- The second slab's. -/
theorem slab1 : k0_pay21 cw t2 t3 t4 (k0_pay18 cw cb t0 t1) (k0_pay19 cw cb t1 t2) (k0_pay20 cw) (ix2 n l)
    = both cw cb (slabCol 1 l) (fun r => t0 (ix2 r l)) (fun r => t1 (ix2 r l)) (fun r => t2 (ix2 r l)) (fun r => t3 (ix2 r l)) (fun r => t4 (ix2 r l)) n := by
  unfold both
  split <;> rename_i h
  · pointwise [k0_pay21, k0_pay18, k0_pay19, k0_pay20, slabCol, conv4]
    simp [h]
  · pointwise [k0_pay21, k0_pay18, k0_pay19, k0_pay20, slabCol, conv4]
    simp [h]

/-- The third slab's. -/
theorem slab2 : k0_pay23 cw cb t0 t1 t2 t3 t4 (ix2 n l)
    = both cw cb (slabCol 2 l) (fun r => t0 (ix2 r l)) (fun r => t1 (ix2 r l)) (fun r => t2 (ix2 r l)) (fun r => t3 (ix2 r l)) (fun r => t4 (ix2 r l)) n := by
  unfold both
  split <;> rename_i h
  · pointwise [k0_pay23, slabCol, conv4]
    simp [h]
  · pointwise [k0_pay23, slabCol, conv4]
    simp [h]

/-- The four slabs together, the fourth's convolution among them. -/
theorem all_slabs (y0 y1 y2 : FVec Ideal S256x128 .f32) (s : Fin 4) :
    k0_pay28 cw y0 y1 y2 t4 (k0_pay25 cw cb t0 t1 t2) (k0_pay26 cw cb t1 t2 t3) (k0_pay27 cw t3) (ix3 0 n (slabCol s l))
      = match s with
        | ⟨0, _⟩ => (y0 (ix2 n l) : EReal)
        | ⟨1, _⟩ => y1 (ix2 n l)
        | ⟨2, _⟩ => y2 (ix2 n l)
        | ⟨3, _⟩ => both cw cb (slabCol 3 l) (fun r => t0 (ix2 r l)) (fun r => t1 (ix2 r l)) (fun r => t2 (ix2 r l)) (fun r => t3 (ix2 r l)) (fun r => t4 (ix2 r l)) n := by
  have hs : s = 0 ∨ s = 1 ∨ s = 2 ∨ s = 3 := by omega
  have hl := l.isLt
  rcases hs with rfl | rfl | rfl | rfl
  · pointwise [k0_pay28, k0_pay25, k0_pay26, k0_pay27, slabCol]
  · pointwise [k0_pay28, k0_pay25, k0_pay26, k0_pay27, slabCol]
  · pointwise [k0_pay28, k0_pay25, k0_pay26, k0_pay27, slabCol]
    rw [dif_neg (by omega), dif_neg (by omega), dif_pos (by omega)]
    exact congrArg y2 (congrArg (ix2 n) (Fin.ext (by dsimp only; omega)))
  · show _ = both _ _ _ _ _ _ _ _ _
    have e : 384 + l.val - 128 - 128 - 128 = l.val := by omega
    unfold both
    split <;> rename_i h
    · pointwise [k0_pay28, k0_pay25, k0_pay26, k0_pay27, slabCol, conv4]
      rw [dif_neg (by omega), dif_neg (by omega), dif_neg (by omega)]
      rw [dif_pos h]
      simp only [e]
    · pointwise [k0_pay28, k0_pay25, k0_pay26, k0_pay27, slabCol, conv4]
      rw [dif_neg (by omega), dif_neg (by omega), dif_neg (by omega)]
      rw [dif_neg h]
      simp only [e]

end Slabs

/-- The gate's function of its columns. -/
theorem pay29_at (p : FVec Ideal S256x1280 .f32) (r : Fin 256) (c : Fin 512) :
    k0_pay29 p (ix3 0 r c) = gelu (p (ix2 r (⟨c.val, by omega⟩ : Fin 1280))) := by
  pointwise [k0_pay29]
  unfold gelu
  rw [mul_assoc]

/-- The queries, by slabs. -/
theorem q_at (P : Point Ideal) (i : grid0.Coords) {κ : Kind} {sp : Space} (v : View sig κ sp S1x256x512 .bf16) (f : v.ty.Contents (Elt Ideal)) (s : Fin 4) (r : Fin 256) (l : Fin 128) :
    v.read (Elt Ideal) (v.writes (Elt Ideal) f (P.qP i)) (ix3 0 r (slabCol s l)) = P.p i (ix2 r (⟨512 + (slabCol s l).val, by omega⟩ : Fin 1280)) * scale := by
  have hs : s = 0 ∨ s = 1 ∨ s = 2 ∨ s = 3 := by omega
  have hl := l.isLt
  unfold Point.qP
  generalize P.p i = y
  rcases hs with rfl | rfl | rfl | rfl
  · rw [View.read_writes_cons_unit_of_not_mem _ _ _ _ _ _ rfl 2 (.inl (by simp [slabCol]; omega)),
      View.read_writes_cons_unit_of_not_mem _ _ _ _ _ _ rfl 2 (.inl (by simp [slabCol]; omega)),
      View.read_writes_cons_unit_of_not_mem _ _ _ _ _ _ rfl 2 (.inl (by simp [slabCol]))]
    refine (hit3 _ _ _ _ _ _ _ _ 0 r l (by simp) (by simp) (by simp [slabCol])).trans ?_
    pointwise [k0_pay33, slabCol]
    rfl
  · rw [View.read_writes_cons_unit_of_not_mem _ _ _ _ _ _ rfl 2 (.inl (by simp [slabCol]; omega)),
      View.read_writes_cons_unit_of_not_mem _ _ _ _ _ _ rfl 2 (.inl (by simp [slabCol]; omega))]
    refine (hit3 _ _ _ _ _ _ _ _ 0 r l (by simp) (by simp) (by simp [slabCol])).trans ?_
    pointwise [k0_pay1, k0_pay34, slabCol]
    exact congrArg (fun x => y (ix2 r x) * scale) (Fin.ext (by dsimp only; omega))
  · rw [View.read_writes_cons_unit_of_not_mem _ _ _ _ _ _ rfl 2 (.inl (by simp [slabCol]; omega))]
    refine (hit3 _ _ _ _ _ _ _ _ 0 r l (by simp) (by simp) (by simp [slabCol])).trans ?_
    pointwise [k0_pay2, k0_pay30, slabCol]
    exact congrArg (fun x => y (ix2 r x) * scale) (Fin.ext (by dsimp only; omega))
  · refine (hit3 _ _ _ _ _ _ _ _ 0 r l (by simp) (by simp) (by simp [slabCol])).trans ?_
    pointwise [k0_pay3, k0_pay31, slabCol]
    exact congrArg (fun x => y (ix2 r x) * scale) (Fin.ext (by dsimp only; omega))

/-- The keys and values, by slabs. -/
theorem kv_at (P : Point Ideal) (i : grid0.Coords) {κ : Kind} {sp : Space} (v : View sig κ sp S1x256x256 .bf16) (f : v.ty.Contents (Elt Ideal)) (r : Fin 256) (c : Fin 256) :
    v.read (Elt Ideal) (v.writes (Elt Ideal) f (P.kvP i)) (ix3 0 r c) = P.p i (ix2 r (⟨1024 + c.val, by omega⟩ : Fin 1280)) := by
  unfold Point.kvP
  generalize P.p i = y
  by_cases h : c.val < 128
  · rw [View.read_writes_cons_unit_of_not_mem _ _ _ _ _ _ rfl 2 (.inl (by simpa))]
    refine (hit3 _ _ _ _ _ _ _ _ 0 r (⟨c.val, h⟩ : Fin 128) (by simp) (by simp) (by simp)).trans ?_
    pointwise [k0_pay4, k0_pay32]
  · refine (hit3 _ _ _ _ _ _ _ _ 0 r (⟨c.val - 128, by omega⟩ : Fin 128) (by simp) (by simp) (by dsimp only; omega)).trans ?_
    pointwise [k0_pay5]
    exact congrArg y (congrArg (ix2 r) (Fin.ext (by dsimp only; omega)))

namespace Holds

variable {I : Inputs} {b : Fin 2} {P : Point Ideal} (H : Holds I b P) (i : grid0.Coords)

include H

/-- Every second row of a slab is the projection's. -/
theorem tap (s : Fin 4) (j : Fin 5) (r l : Fin 128) : P.tap i s j (ix2 r l) = I.uz b (2 * r.val + j.val) (rCol (slabCol s l)) := by
  rw [tap_at]
  exact H.pr i _ _ (by dsimp only; omega) _

/-- The convolution of a slab is the sequence's. -/
theorem both (s : Fin 4) (n : Fin 256) (l : Fin 128) :
    Cert.Ctx.both P.cw P.cb (slabCol s l) (fun r => P.tap i s 0 (ix2 r l)) (fun r => P.tap i s 1 (ix2 r l)) (fun r => P.tap i s 2 (ix2 r l))
      (fun r => P.tap i s 3 (ix2 r l)) (fun r => P.tap i s 4 (ix2 r l)) n = I.conv b (pos n) (slabCol s l) := by
  unfold Cert.Ctx.both pos Inputs.conv conv4
  simp only [H.tap, cw_at, cb_at, H.cw, H.cb]
  split <;> rfl

/-- The first store. -/
theorem xc (n : Fin 256) (c : Fin 512) : P.xc i (ix3 0 n c) = I.conv b (pos n) c := by
  obtain ⟨s, l, rfl⟩ : ∃ (s : Fin 4) (l : Fin 128), c = slabCol s l :=
    ⟨⟨c.val / 128, by omega⟩, ⟨c.val % 128, by omega⟩, Fin.ext (by show c.val = 128 * (c.val / 128) + c.val % 128; omega)⟩
  unfold Point.xc
  rw [all_slabs]
  have hs : s = 0 ∨ s = 1 ∨ s = 2 ∨ s = 3 := by omega
  rcases hs with rfl | rfl | rfl | rfl
  · exact (slab0 _ _ _ _ _ _ _ n l).trans (H.both i 0 n l)
  · exact (slab1 _ _ _ _ _ _ _ n l).trans (H.both i 1 n l)
  · exact (slab2 _ _ _ _ _ _ _ n l).trans (H.both i 2 n l)
  · exact H.both i 3 n l

/-- The second store. -/
theorem gx (r : Fin 256) (c : Fin 512) : k0_pay29 (P.p i) (ix3 0 r c) = gelu (I.u b r (gCol c)) := by
  rw [pay29_at, H.p i r _ (gCol c) rfl]

/-- The third output's stores. -/
theorem q {κ : Kind} {sp : Space} (v : View sig κ sp S1x256x512 .bf16) (f : v.ty.Contents (Elt Ideal)) (r : Fin 256) (c : Fin 512) :
    v.read (Elt Ideal) (v.writes (Elt Ideal) f (P.qP i)) (ix3 0 r c) = I.u b r (qCol c) * scale := by
  obtain ⟨s, l, rfl⟩ : ∃ (s : Fin 4) (l : Fin 128), c = slabCol s l :=
    ⟨⟨c.val / 128, by omega⟩, ⟨c.val % 128, by omega⟩, Fin.ext (by show c.val = 128 * (c.val / 128) + c.val % 128; omega)⟩
  rw [q_at, H.p i r _ (qCol (slabCol s l)) (by show 1024 + _ = 512 + (512 + _); omega)]

/-- The fourth output's stores. -/
theorem kv {κ : Kind} {sp : Space} (v : View sig κ sp S1x256x256 .bf16) (f : v.ty.Contents (Elt Ideal)) (r : Fin 256) (c : Fin 256) :
    v.read (Elt Ideal) (v.writes (Elt Ideal) f (P.kvP i)) (ix3 0 r c) = I.u b r (kvCol c) := by
  rw [kv_at, H.p i r _ (kvCol c) (by show 1536 + _ = 512 + (1024 + _); omega)]

end Holds

end Cert.Ctx

end
-- ==== Proof.CtxBlocks.lean ====
/- The blocks of the context's projection: what a point's windows bring in, and where its results go. -/
module

public import proofs.«01_k».proof.Proof.CtxOut

@[expose] public section

set_option maxRecDepth 16384

noncomputable section

namespace Cert.Ctx

open Cert.Kernel4Ideal Cert.Kernel4Ideal.Gen Cert.Kernel4Ideal.Facts Cert.Kernel4Ideal.Value
open Idealize.ShloMosaic Idealize.ShloMosaic.TcCoe Idealize.SL.Sem

variable {F : FTy → Type} [FloatOps F]
variable (m : (ℓ : Loc nD τ sig) → Buf (Elt F) ℓ)

theorem place0 : ∀ t : Fin cfg0.N, win0_0.index t = ![t.val, 0, 0] := (by decide +kernel : ∀ t : Fin grid0.N, _)

/-- A point's rows. -/
theorem blk0 (c : Dev nD) (t : Fin cfg0.N) (r : Fin 256) (l : Fin 1024) (b : Fin 2) (hb : b.val = t.val) : iblk m c 0 t (ix3 0 r l) = m ((c : Thread nD τ).loc main_arg0) (ix3 b r l) := by
  show V m c main_arg0 (((cfg0.win 0).blk t).view.emb (ix3 0 r l)) = _
  rw [V_main_arg0]
  have e := place0 t
  refine congrArg _ (funext fun a => Fin.ext ?_)
  match a with
  | ⟨0, _⟩ => show win0_0.index t (0 : Fin 3) * 1 + 1 * 0 = b.val; rw [e]; show t.val * 1 + 1 * 0 = b.val; omega
  | ⟨1, _⟩ => show win0_0.index t (1 : Fin 3) * 256 + 1 * r.val = r.val; rw [e]; show 0 * 256 + 1 * r.val = r.val; omega
  | ⟨2, _⟩ => show win0_0.index t (2 : Fin 3) * 1024 + 1 * l.val = l.val; rw [e]; show 0 * 1024 + 1 * l.val = l.val; omega

theorem place3 : ∀ t : Fin cfg0.N, win0_3.index t = ![2, 0, 0] := (by decide +kernel : ∀ t : Fin grid0.N, _)

/-- The shift. -/
theorem blk3 (c : Dev nD) (t : Fin cfg0.N) (l : Fin 1024) : iblk m c 3 t (ix3 0 0 l) = m ((c : Thread nD τ).loc main_arg1) (ix3 2 0 (⟨l.val, by omega⟩ : Fin 6144)) := by
  show V m c main_arg1 (((cfg0.win 3).blk t).view.emb (ix3 0 0 l)) = _
  rw [V_main_arg1]
  have e := place3 t
  refine congrArg _ (funext fun a => Fin.ext ?_)
  match a with
  | ⟨0, _⟩ => show win0_3.index t (0 : Fin 3) * 1 + 1 * 0 = 2; rw [e]; show 2 * 1 + 1 * 0 = 2; omega
  | ⟨1, _⟩ => show win0_3.index t (1 : Fin 3) * 1 + 1 * 0 = 0; rw [e]; show 0 * 1 + 1 * 0 = 0; omega
  | ⟨2, _⟩ => show win0_3.index t (2 : Fin 3) * 1024 + 1 * l.val = l.val; rw [e]; show 0 * 1024 + 1 * l.val = l.val; omega

theorem place4 : ∀ t : Fin cfg0.N, win0_4.index t = ![2, 0, 1] := (by decide +kernel : ∀ t : Fin grid0.N, _)

/-- The scale. -/
theorem blk4 (c : Dev nD) (t : Fin cfg0.N) (l : Fin 1024) : iblk m c 4 t (ix3 0 0 l) = m ((c : Thread nD τ).loc main_arg1) (ix3 2 0 (⟨1024 + l.val, by omega⟩ : Fin 6144)) := by
  show V m c main_arg1 (((cfg0.win 4).blk t).view.emb (ix3 0 0 l)) = _
  rw [V_main_arg1]
  have e := place4 t
  refine congrArg _ (funext fun a => Fin.ext ?_)
  match a with
  | ⟨0, _⟩ => show win0_4.index t (0 : Fin 3) * 1 + 1 * 0 = 2; rw [e]; show 2 * 1 + 1 * 0 = 2; omega
  | ⟨1, _⟩ => show win0_4.index t (1 : Fin 3) * 1 + 1 * 0 = 0; rw [e]; show 0 * 1 + 1 * 0 = 0; omega
  | ⟨2, _⟩ => show win0_4.index t (2 : Fin 3) * 1024 + 1 * l.val = 1024 + l.val; rw [e]; show 1 * 1024 + 1 * l.val = 1024 + l.val; omega

theorem place5 : ∀ t : Fin cfg0.N, win0_5.index t = ![0, 0] := (by decide +kernel : ∀ t : Fin grid0.N, _)

/-- The norm's weight. -/
theorem blk5 (c : Dev nD) (t : Fin cfg0.N) (l : Fin 1024) : iblk m c 5 t (ix2 0 l) = m ((c : Thread nD τ).loc main_arg2) (ix2 0 l) := by
  show V m c main_arg2 (((cfg0.win 5).blk t).view.emb (ix2 0 l)) = _
  rw [V_main_arg2]
  have e := place5 t
  refine congrArg _ (funext fun a => Fin.ext ?_)
  match a with
  | ⟨0, _⟩ => show win0_5.index t (0 : Fin 2) * 1 + 1 * 0 = 0; rw [e]; show 0 * 1 + 1 * 0 = 0; omega
  | ⟨1, _⟩ => show win0_5.index t (1 : Fin 2) * 1024 + 1 * l.val = l.val; rw [e]; show 0 * 1024 + 1 * l.val = l.val; omega

theorem place6 : ∀ t : Fin cfg0.N, win0_6.index t = ![0, 0] := (by decide +kernel : ∀ t : Fin grid0.N, _)

/-- The projection. -/
theorem blk6 (c : Dev nD) (t : Fin cfg0.N) (k : Fin 1024) (l : Fin 1792) : iblk m c 6 t (ix2 k l) = m ((c : Thread nD τ).loc main_arg3) (ix2 k l) := by
  show V m c main_arg3 (((cfg0.win 6).blk t).view.emb (ix2 k l)) = _
  rw [V_main_arg3]
  have e := place6 t
  refine congrArg _ (funext fun a => Fin.ext ?_)
  match a with
  | ⟨0, _⟩ => show win0_6.index t (0 : Fin 2) * 1024 + 1 * k.val = k.val; rw [e]; show 0 * 1024 + 1 * k.val = k.val; omega
  | ⟨1, _⟩ => show win0_6.index t (1 : Fin 2) * 1792 + 1 * l.val = l.val; rw [e]; show 0 * 1792 + 1 * l.val = l.val; omega

theorem place7 : ∀ t : Fin cfg0.N, win0_7.index t = ![0, 0] := (by decide +kernel : ∀ t : Fin grid0.N, _)

/-- The convolution's weights. -/
theorem blk7 (c : Dev nD) (t : Fin cfg0.N) (k : Fin 4) (l : Fin 512) : iblk m c 7 t (ix2 k l) = m ((c : Thread nD τ).loc main_arg4) (ix2 k l) := by
  show V m c main_arg4 (((cfg0.win 7).blk t).view.emb (ix2 k l)) = _
  rw [V_main_arg4]
  have e := place7 t
  refine congrArg _ (funext fun a => Fin.ext ?_)
  match a with
  | ⟨0, _⟩ => show win0_7.index t (0 : Fin 2) * 4 + 1 * k.val = k.val; rw [e]; show 0 * 4 + 1 * k.val = k.val; omega
  | ⟨1, _⟩ => show win0_7.index t (1 : Fin 2) * 512 + 1 * l.val = l.val; rw [e]; show 0 * 512 + 1 * l.val = l.val; omega

theorem place8 : ∀ t : Fin cfg0.N, win0_8.index t = ![0, 0] := (by decide +kernel : ∀ t : Fin grid0.N, _)

/-- The convolution's bias. -/
theorem blk8 (c : Dev nD) (t : Fin cfg0.N) (l : Fin 512) : iblk m c 8 t (ix2 0 l) = m ((c : Thread nD τ).loc main_arg5) (ix2 0 l) := by
  show V m c main_arg5 (((cfg0.win 8).blk t).view.emb (ix2 0 l)) = _
  rw [V_main_arg5]
  have e := place8 t
  refine congrArg _ (funext fun a => Fin.ext ?_)
  match a with
  | ⟨0, _⟩ => show win0_8.index t (0 : Fin 2) * 1 + 1 * 0 = 0; rw [e]; show 0 * 1 + 1 * 0 = 0; omega
  | ⟨1, _⟩ => show win0_8.index t (1 : Fin 2) * 512 + 1 * l.val = l.val; rw [e]; show 0 * 512 + 1 * l.val = l.val; omega

/-- A point's buffers and blocks. -/
def pointAt (c : Dev nD) (t : Fin cfg0.N) : Point F where
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := ms0_7 t
  harg9 := hs0_7 t
  arg10 := ms0_8 t
  harg10 := hs0_8 t
  arg11 := ms0_9 t
  harg11 := hs0_9 t
  arg12 := ms0_10 t
  harg12 := hs0_10 t
  arg13 := ms0_11 t
  harg13 := hs0_11 t
  arg14 := ms0_12 t
  harg14 := hs0_12 t
  arg15 := ms0_13 t
  harg15 := hs0_13 t
  arg16 := ms0_14 t
  harg16 := hs0_14 t
  arg17 := ms0_15 t
  harg17 := hs0_15 t
  arg18 := ms0_16 t
  harg18 := hs0_16 t
  arg19 := scM0_0
  harg19 := Memref.isWhole_whole _
  arg20 := scM0_1
  harg20 := Memref.isWhole_whole _
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t

theorem place13 : ∀ t : Fin cfg0.N, win0_13.index t = ![t.val, 0, 0] := (by decide +kernel : ∀ t : Fin grid0.N, _)

theorem flushes13 : ∀ t : Fin cfg0.N, (cfg0.win 13).flush t = true := (by decide +kernel : ∀ t : Fin grid0.N, _)

/-- The first result at a row. -/
theorem result13 (c : Dev nD) (b : Fin 2) (t : Fin cfg0.N) (ht : t.val = b.val) (r : Fin 256) (k : Fin 512) :
    (dats m 0 c).arrAt 13 cfg0.N (ix3 b r k) = (pointAt m c t).xc (grid0.coords t) (ix3 0 r k) := by
  have hf := flushes13 t
  have h := congrFun (blocks13 m c t hf) (ix3 0 r k)
  rw [flushed13_A] at h
  have e := place13 t
  have hi : ((cfg0.win 13).blk t).view.emb (ix3 0 r k) = (ix3 b r k : S2x256x512.Idx) := by
    funext a
    apply Fin.ext
    match a with
    | ⟨0, _⟩ => show win0_13.index t (0 : Fin 3) * 1 + 1 * 0 = b.val; rw [e]; show t.val * 1 + 1 * 0 = _; omega
    | ⟨1, _⟩ => show win0_13.index t (1 : Fin 3) * 256 + 1 * r.val = r.val; rw [e]; show 0 * 256 + 1 * r.val = _; omega
    | ⟨2, _⟩ => show win0_13.index t (2 : Fin 3) * 512 + 1 * k.val = k.val; rw [e]; show 0 * 512 + 1 * k.val = _; omega
  have h1 : ((cfg0.win 13).blk t).view.read (Elt F) ((dats m 0 c).arrAt 13 cfg0.N) (ix3 0 r k) = (dats m 0 c).arrAt 13 cfg0.N (ix3 b r k) := by
    rw [← hi]
    rfl
  rw [← h1]
  refine h.trans ?_
  have hx : (cfg0.win 13).xinj (grid0.coords t) (ix3 0 r k) = (ix3 0 r k : S1x256x512.Idx) :=
    funext fun a => Fin.ext (by match a with | ⟨0, _⟩ => rfl | ⟨1, _⟩ => rfl | ⟨2, _⟩ => rfl)
  show out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((cfg0.win 13).xinj (grid0.coords t) (ix3 0 r k)) = _
  rw [hx]
  unfold out0_A_13
  have hq := pieces13 c (grid0.coords t) (pointAt m c t)
  have hr := congrArg (fun L => VO0_13.read (Elt F) (VO0_13.writes (Elt F) VO0_13.junk L) (ix3 0 r k)) hq
  refine Eq.trans hr ?_
  exact hit3 VO0_13 VO0_13.junk _ ((pointAt m c t).xc (grid0.coords t)) [] 0 r k 0 r k rfl (by simp) (by simp)

theorem place14 : ∀ t : Fin cfg0.N, win0_14.index t = ![t.val, 0, 0] := (by decide +kernel : ∀ t : Fin grid0.N, _)

theorem flushes14 : ∀ t : Fin cfg0.N, (cfg0.win 14).flush t = true := (by decide +kernel : ∀ t : Fin grid0.N, _)

/-- The second. -/
theorem result14 (c : Dev nD) (b : Fin 2) (t : Fin cfg0.N) (ht : t.val = b.val) (r : Fin 256) (k : Fin 512) :
    (dats m 0 c).arrAt 14 cfg0.N (ix3 b r k) = k0_pay29 ((pointAt m c t).p (grid0.coords t)) (ix3 0 r k) := by
  have hf := flushes14 t
  have h := congrFun (blocks14 m c t hf) (ix3 0 r k)
  rw [flushed14_A] at h
  have e := place14 t
  have hi : ((cfg0.win 14).blk t).view.emb (ix3 0 r k) = (ix3 b r k : S2x256x512.Idx) := by
    funext a
    apply Fin.ext
    match a with
    | ⟨0, _⟩ => show win0_14.index t (0 : Fin 3) * 1 + 1 * 0 = b.val; rw [e]; show t.val * 1 + 1 * 0 = _; omega
    | ⟨1, _⟩ => show win0_14.index t (1 : Fin 3) * 256 + 1 * r.val = r.val; rw [e]; show 0 * 256 + 1 * r.val = _; omega
    | ⟨2, _⟩ => show win0_14.index t (2 : Fin 3) * 512 + 1 * k.val = k.val; rw [e]; show 0 * 512 + 1 * k.val = _; omega
  have h1 : ((cfg0.win 14).blk t).view.read (Elt F) ((dats m 0 c).arrAt 14 cfg0.N) (ix3 0 r k) = (dats m 0 c).arrAt 14 cfg0.N (ix3 b r k) := by
    rw [← hi]
    rfl
  rw [← h1]
  refine h.trans ?_
  have hx : (cfg0.win 14).xinj (grid0.coords t) (ix3 0 r k) = (ix3 0 r k : S1x256x512.Idx) :=
    funext fun a => Fin.ext (by match a with | ⟨0, _⟩ => rfl | ⟨1, _⟩ => rfl | ⟨2, _⟩ => rfl)
  show out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((cfg0.win 14).xinj (grid0.coords t) (ix3 0 r k)) = _
  rw [hx]
  unfold out0_A_14
  have hq := pieces14 c (grid0.coords t) (pointAt m c t)
  have hr := congrArg (fun L => VO0_14.read (Elt F) (VO0_14.writes (Elt F) VO0_14.junk L) (ix3 0 r k)) hq
  refine Eq.trans hr ?_
  exact hit3 VO0_14 VO0_14.junk _ (k0_pay29 ((pointAt m c t).p (grid0.coords t))) [] 0 r k 0 r k rfl (by simp) (by simp)

theorem place15 : ∀ t : Fin cfg0.N, win0_15.index t = ![t.val, 0, 0] := (by decide +kernel : ∀ t : Fin grid0.N, _)

theorem flushes15 : ∀ t : Fin cfg0.N, (cfg0.win 15).flush t = true := (by decide +kernel : ∀ t : Fin grid0.N, _)

/-- The third. -/
theorem result15 (c : Dev nD) (b : Fin 2) (t : Fin cfg0.N) (ht : t.val = b.val) (r : Fin 256) (k : Fin 512) :
    (dats m 0 c).arrAt 15 cfg0.N (ix3 b r k) = VO0_15.read (Elt F) (VO0_15.writes (Elt F) VO0_15.junk ((pointAt m c t).qP (grid0.coords t))) (ix3 0 r k) := by
  have hf := flushes15 t
  have h := congrFun (blocks15 m c t hf) (ix3 0 r k)
  rw [flushed15_A] at h
  have e := place15 t
  have hi : ((cfg0.win 15).blk t).view.emb (ix3 0 r k) = (ix3 b r k : S2x256x512.Idx) := by
    funext a
    apply Fin.ext
    match a with
    | ⟨0, _⟩ => show win0_15.index t (0 : Fin 3) * 1 + 1 * 0 = b.val; rw [e]; show t.val * 1 + 1 * 0 = _; omega
    | ⟨1, _⟩ => show win0_15.index t (1 : Fin 3) * 256 + 1 * r.val = r.val; rw [e]; show 0 * 256 + 1 * r.val = _; omega
    | ⟨2, _⟩ => show win0_15.index t (2 : Fin 3) * 512 + 1 * k.val = k.val; rw [e]; show 0 * 512 + 1 * k.val = _; omega
  have h1 : ((cfg0.win 15).blk t).view.read (Elt F) ((dats m 0 c).arrAt 15 cfg0.N) (ix3 0 r k) = (dats m 0 c).arrAt 15 cfg0.N (ix3 b r k) := by
    rw [← hi]
    rfl
  rw [← h1]
  refine h.trans ?_
  have hx : (cfg0.win 15).xinj (grid0.coords t) (ix3 0 r k) = (ix3 0 r k : S1x256x512.Idx) :=
    funext fun a => Fin.ext (by match a with | ⟨0, _⟩ => rfl | ⟨1, _⟩ => rfl | ⟨2, _⟩ => rfl)
  show out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((cfg0.win 15).xinj (grid0.coords t) (ix3 0 r k)) = _
  rw [hx]
  unfold out0_A_15
  have hq := pieces15 c (grid0.coords t) (pointAt m c t)
  have hr := congrArg (fun L => VO0_15.read (Elt F) (VO0_15.writes (Elt F) VO0_15.junk L) (ix3 0 r k)) hq
  exact hr

theorem place16 : ∀ t : Fin cfg0.N, win0_16.index t = ![t.val, 0, 0] := (by decide +kernel : ∀ t : Fin grid0.N, _)

theorem flushes16 : ∀ t : Fin cfg0.N, (cfg0.win 16).flush t = true := (by decide +kernel : ∀ t : Fin grid0.N, _)

/-- The fourth. -/
theorem result16 (c : Dev nD) (b : Fin 2) (t : Fin cfg0.N) (ht : t.val = b.val) (r : Fin 256) (k : Fin 256) :
    (dats m 0 c).arrAt 16 cfg0.N (ix3 b r k) = VO0_16.read (Elt F) (VO0_16.writes (Elt F) VO0_16.junk ((pointAt m c t).kvP (grid0.coords t))) (ix3 0 r k) := by
  have hf := flushes16 t
  have h := congrFun (blocks16 m c t hf) (ix3 0 r k)
  rw [flushed16_A] at h
  have e := place16 t
  have hi : ((cfg0.win 16).blk t).view.emb (ix3 0 r k) = (ix3 b r k : S2x256x256.Idx) := by
    funext a
    apply Fin.ext
    match a with
    | ⟨0, _⟩ => show win0_16.index t (0 : Fin 3) * 1 + 1 * 0 = b.val; rw [e]; show t.val * 1 + 1 * 0 = _; omega
    | ⟨1, _⟩ => show win0_16.index t (1 : Fin 3) * 256 + 1 * r.val = r.val; rw [e]; show 0 * 256 + 1 * r.val = _; omega
    | ⟨2, _⟩ => show win0_16.index t (2 : Fin 3) * 256 + 1 * k.val = k.val; rw [e]; show 0 * 256 + 1 * k.val = _; omega
  have h1 : ((cfg0.win 16).blk t).view.read (Elt F) ((dats m 0 c).arrAt 16 cfg0.N) (ix3 0 r k) = (dats m 0 c).arrAt 16 cfg0.N (ix3 b r k) := by
    rw [← hi]
    rfl
  rw [← h1]
  refine h.trans ?_
  have hx : (cfg0.win 16).xinj (grid0.coords t) (ix3 0 r k) = (ix3 0 r k : S1x256x256.Idx) :=
    funext fun a => Fin.ext (by match a with | ⟨0, _⟩ => rfl | ⟨1, _⟩ => rfl | ⟨2, _⟩ => rfl)
  show out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((cfg0.win 16).xinj (grid0.coords t) (ix3 0 r k)) = _
  rw [hx]
  unfold out0_A_16
  have hq := pieces16 c (grid0.coords t) (pointAt m c t)
  have hr := congrArg (fun L => VO0_16.read (Elt F) (VO0_16.writes (Elt F) VO0_16.junk L) (ix3 0 r k)) hq
  exact hr

end Cert.Ctx

end
-- ==== Proof.CtxEqual.lean ====
/- The context's projection: the kernel's four results and the reference's are the same arrays. -/
module

public import proofs.«01_k».proof.Proof.CtxBlocks

@[expose] public section

set_option maxRecDepth 16384

noncomputable section

namespace Cert.Ctx

open Cert.Kernel4Ideal Cert.Kernel4Ideal.Gen Cert.Kernel4Ideal.Facts Cert.Kernel4Ideal.Value
open Idealize.ShloMosaic Idealize.ShloMosaic.TcCoe Idealize.SL.Sem

variable (m : (ℓ : Loc nD τ sig) → Buf (Elt Ideal) ℓ) (c : Dev nD)

/-- The arguments' numbers. -/
def numbers : Inputs := inputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- A point's blocks hold the arguments' numbers of its sequence. -/
theorem holds_at (b : Fin 2) (t : Fin cfg0.N) (ht : t.val = b.val) : Holds (numbers m c) b (pointAt m c t) where
  x r k := blk0 m c t r k b ht.symm
  sh k := blk3 m c t k
  sc k := blk4 m c t k
  ng k := blk5 m c t k
  w k n := blk6 m c t k n
  cw j n := blk7 m c t j n
  cb n := blk8 m c t n

/-- The convolved rows. -/
theorem equal13 : Cert.Reference4Ideal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 13 cfg0.N := by
  funext i
  obtain ⟨b, p, k, rfl⟩ : ∃ (b : Fin 2) (p : Fin 256) (k : Fin 512), i = ix3 b p k :=
    ⟨i 0, i 1, i 2, funext fun a => by match a with | ⟨0, _⟩ => rfl | ⟨1, _⟩ => rfl | ⟨2, _⟩ => rfl⟩
  have ht : b.val < cfg0.N := lt_of_lt_of_eq b.isLt N_0.symm
  have H := holds_at m c b ⟨b.val, ht⟩ rfl
  rw [result13 m c b ⟨b.val, ht⟩ rfl p k]
  exact (Ref.xc_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b p k).trans (H.xc _ p k).symm

/-- The gate. -/
theorem equal14 : Cert.Reference4Ideal.Read.val_main_v83 (F := Ideal) (m ((c : Thread nD τ).loc main_arg0)) (m ((c : Thread nD τ).loc main_arg1)) (m ((c : Thread nD τ).loc main_arg2)) (m ((c : Thread nD τ).loc main_arg3)) = (dats m 0 c).arrAt 14 cfg0.N := by
  funext i
  obtain ⟨b, p, k, rfl⟩ : ∃ (b : Fin 2) (p : Fin 256) (k : Fin 512), i = ix3 b p k :=
    ⟨i 0, i 1, i 2, funext fun a => by match a with | ⟨0, _⟩ => rfl | ⟨1, _⟩ => rfl | ⟨2, _⟩ => rfl⟩
  have ht : b.val < cfg0.N := lt_of_lt_of_eq b.isLt N_0.symm
  have H := holds_at m c b ⟨b.val, ht⟩ rfl
  rw [result14 m c b ⟨b.val, ht⟩ rfl p k]
  exact (Ref.gx_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b p k).trans (H.gx _ p k).symm

/-- The queries. -/
theorem equal15 : Cert.Reference4Ideal.Read.val_main_v86 (F := Ideal) (m ((c : Thread nD τ).loc main_arg0)) (m ((c : Thread nD τ).loc main_arg1)) (m ((c : Thread nD τ).loc main_arg2)) (m ((c : Thread nD τ).loc main_arg3)) = (dats m 0 c).arrAt 15 cfg0.N := by
  funext i
  obtain ⟨b, p, k, rfl⟩ : ∃ (b : Fin 2) (p : Fin 256) (k : Fin 512), i = ix3 b p k :=
    ⟨i 0, i 1, i 2, funext fun a => by match a with | ⟨0, _⟩ => rfl | ⟨1, _⟩ => rfl | ⟨2, _⟩ => rfl⟩
  have ht : b.val < cfg0.N := lt_of_lt_of_eq b.isLt N_0.symm
  have H := holds_at m c b ⟨b.val, ht⟩ rfl
  rw [result15 m c b ⟨b.val, ht⟩ rfl p k]
  exact (Ref.q_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b p k).trans (H.q _ _ _ p k).symm

/-- The keys and values. -/
theorem equal16 : Cert.Reference4Ideal.Read.val_main_v87 (F := Ideal) (m ((c : Thread nD τ).loc main_arg0)) (m ((c : Thread nD τ).loc main_arg1)) (m ((c : Thread nD τ).loc main_arg2)) (m ((c : Thread nD τ).loc main_arg3)) = (dats m 0 c).arrAt 16 cfg0.N := by
  funext i
  obtain ⟨b, p, k, rfl⟩ : ∃ (b : Fin 2) (p : Fin 256) (k : Fin 256), i = ix3 b p k :=
    ⟨i 0, i 1, i 2, funext fun a => by match a with | ⟨0, _⟩ => rfl | ⟨1, _⟩ => rfl | ⟨2, _⟩ => rfl⟩
  have ht : b.val < cfg0.N := lt_of_lt_of_eq b.isLt N_0.symm
  have H := holds_at m c b ⟨b.val, ht⟩ rfl
  rw [result16 m c b ⟨b.val, ht⟩ rfl p k]
  exact (Ref.kv_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b p k).trans (H.kv _ _ _ p k).symm

end Cert.Ctx

end
-- ==== Proof.lean ====
/- The certificate's claims proved: the frames, the idealization and the equation of the kernel and the reference. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Equal
public import proofs.«01_k».proof.Proof.FfnEqual
public import proofs.«01_k».proof.Proof.Mod
public import proofs.«01_k».proof.Proof.CtxEqual
public import Idealize.ShloMosaic.Adequacy
public import Idealize.ShloMosaic.Init
public import Idealize.ShloMosaic.Lib.Quiescent

@[expose] public section

noncomputable section

namespace Cert.Proof

open Idealize.ShloMosaic Idealize.ShloMosaic.StableHlo Idealize.SL.Sem

/-- The reference runs, keeps its arguments and ends with every counter zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From finite queries, keys and sink logits, the kernel and the reference end with the same attention. -/
theorem algebraic_KernelIdeal_ReferenceIdeal_pre_finite :
    algebraic_KernelIdeal_ReferenceIdeal_pre_finite (hPre_finite := Cert.Attn.finite_facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3, e4⟩ := hagree c
  rw [(h c).1, Cert.ReferenceIdeal.Read.val_main_v116_eq (F := Ideal) (launchContents m' c)]
  have f0 : launchContents m' c (Proc.devRef .tc Cert.ReferenceIdeal.main_arg0)
      = m ((c.tc : Thread Cert.KernelIdeal.nD Cert.KernelIdeal.τ).loc Cert.KernelIdeal.main_arg0) := e0
  have f1 : launchContents m' c (Proc.devRef .tc Cert.ReferenceIdeal.main_arg1)
      = m ((c.tc : Thread Cert.KernelIdeal.nD Cert.KernelIdeal.τ).loc Cert.KernelIdeal.main_arg1) := e1
  have f2 : launchContents m' c (Proc.devRef .tc Cert.ReferenceIdeal.main_arg2)
      = m ((c.tc : Thread Cert.KernelIdeal.nD Cert.KernelIdeal.τ).loc Cert.KernelIdeal.main_arg2) := e2
  have f3 : launchContents m' c (Proc.devRef .tc Cert.ReferenceIdeal.main_arg3)
      = m ((c.tc : Thread Cert.KernelIdeal.nD Cert.KernelIdeal.τ).loc Cert.KernelIdeal.main_arg3) := e3
  have f4 : launchContents m' c (Proc.devRef .tc Cert.ReferenceIdeal.main_arg4)
      = m ((c.tc : Thread Cert.KernelIdeal.nD Cert.KernelIdeal.τ).loc Cert.KernelIdeal.main_arg4) := e4
  rw [f0, f1, f2, f3, f4]
  exact Cert.Attn.results_equal m c (hpre c)

/-- The second reference runs, keeps its arguments and ends with every counter zero. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- From finite inputs of the gate, the output call and its reference end with the same residual stream. -/
theorem algebraic_Kernel2Ideal_Reference2Ideal_pre_finite2 :
    algebraic_Kernel2Ideal_Reference2Ideal_pre_finite2 (hPre_finite2 := Cert.Ffn.finite_facts) := by
  intro m ρ m' ρ' hpre hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  obtain ⟨e0, e1, e2, e3, e4, e5, e6, e7, e8, e9, e10⟩ := hagree c
  rw [(h c).1, Cert.Reference2Ideal.Read.val_main_v81_eq (F := Ideal) (launchContents m' c)]
  have f0 : launchContents m' c (Proc.devRef .tc Cert.Reference2Ideal.main_arg0)
      = m ((c.tc : Thread Cert.Kernel2Ideal.nD Cert.Kernel2Ideal.τ).loc Cert.Kernel2Ideal.main_arg0) := e0
  have f1 : launchContents m' c (Proc.devRef .tc Cert.Reference2Ideal.main_arg1)
      = m ((c.tc : Thread Cert.Kernel2Ideal.nD Cert.Kernel2Ideal.τ).loc Cert.Kernel2Ideal.main_arg1) := e1
  have f2 : launchContents m' c (Proc.devRef .tc Cert.Reference2Ideal.main_arg2)
      = m ((c.tc : Thread Cert.Kernel2Ideal.nD Cert.Kernel2Ideal.τ).loc Cert.Kernel2Ideal.main_arg2) := e2
  have f3 : launchContents m' c (Proc.devRef .tc Cert.Reference2Ideal.main_arg3)
      = m ((c.tc : Thread Cert.Kernel2Ideal.nD Cert.Kernel2Ideal.τ).loc Cert.Kernel2Ideal.main_arg3) := e3
  have f4 : launchContents m' c (Proc.devRef .tc Cert.Reference2Ideal.main_arg4)
      = m ((c.tc : Thread Cert.Kernel2Ideal.nD Cert.Kernel2Ideal.τ).loc Cert.Kernel2Ideal.main_arg4) := e4
  have f5 : launchContents m' c (Proc.devRef .tc Cert.Reference2Ideal.main_arg5)
      = m ((c.tc : Thread Cert.Kernel2Ideal.nD Cert.Kernel2Ideal.τ).loc Cert.Kernel2Ideal.main_arg5) := e5
  have f6 : launchContents m' c (Proc.devRef .tc Cert.Reference2Ideal.main_arg6)
      = m ((c.tc : Thread Cert.Kernel2Ideal.nD Cert.Kernel2Ideal.τ).loc Cert.Kernel2Ideal.main_arg6) := e6
  have f7 : launchContents m' c (Proc.devRef .tc Cert.Reference2Ideal.main_arg7)
      = m ((c.tc : Thread Cert.Kernel2Ideal.nD Cert.Kernel2Ideal.τ).loc Cert.Kernel2Ideal.main_arg7) := e7
  have f8 : launchContents m' c (Proc.devRef .tc Cert.Reference2Ideal.main_arg8)
      = m ((c.tc : Thread Cert.Kernel2Ideal.nD Cert.Kernel2Ideal.τ).loc Cert.Kernel2Ideal.main_arg8) := e8
  have f9 : launchContents m' c (Proc.devRef .tc Cert.Reference2Ideal.main_arg9)
      = m ((c.tc : Thread Cert.Kernel2Ideal.nD Cert.Kernel2Ideal.τ).loc Cert.Kernel2Ideal.main_arg9) := e9
  have f10 : launchContents m' c (Proc.devRef .tc Cert.Reference2Ideal.main_arg10)
      = m ((c.tc : Thread Cert.Kernel2Ideal.nD Cert.Kernel2Ideal.τ).loc Cert.Kernel2Ideal.main_arg10) := e10
  rw [f0, f1, f2, f3, f4, f5, f6, f7, f8, f9, f10]
  exact Cert.Ffn.results_equal m c (hpre c)

/-- The third reference runs, keeps its arguments and ends with every counter zero. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- From any conditioning vectors, weights and bias, the modulation call and its reference end with the same modulation vectors. -/
theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  obtain ⟨e0, e1, e2, e3⟩ := hagree c
  rw [(h c).1, Cert.Reference3Ideal.Read.val_main_v16_eq (F := Ideal), e0, e1, e2, e3]
  exact Cert.Mod.results_equal m c

/-- The fourth reference runs, keeps its arguments and ends with every counter zero. -/
theorem quiescent_Reference4Ideal : quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- From any context, modulation vectors and weights, the context's projection and its reference end with the same four arrays. -/
theorem algebraic_Kernel4Ideal_Reference4Ideal : algebraic_Kernel4Ideal_Reference4Ideal := by
  intro m ρ m' ρ' _ hagree
  refine ⟨_, _, _, _, Cert.Kernel4Ideal.Value.run_blocks (F := Ideal) m ρ, ?_⟩
  refine (θ_run Cert.Reference4Ideal.defs _ _).mono (fun _ h c => ⟨?_, ?_, ?_, ?_, (h c).2.2.2.2⟩) (Cert.Reference4Ideal.Value.run (F := Ideal) m' ρ')
  · obtain ⟨e0, e1, e2, e3, e4, e5, -⟩ := hagree c
    rw [(h c).1, Cert.Reference4Ideal.Read.val_main_v69_eq (F := Ideal), e0, e1, e2, e3, e4, e5]
    exact Cert.Ctx.equal13 m c
  · obtain ⟨e0, e1, e2, e3, -⟩ := hagree c
    rw [(h c).2.1, Cert.Reference4Ideal.Read.val_main_v83_eq (F := Ideal), e0, e1, e2, e3]
    exact Cert.Ctx.equal14 m c
  · obtain ⟨e0, e1, e2, e3, -⟩ := hagree c
    rw [(h c).2.2.1, Cert.Reference4Ideal.Read.val_main_v86_eq (F := Ideal), e0, e1, e2, e3]
    exact Cert.Ctx.equal15 m c
  · obtain ⟨e0, e1, e2, e3, -⟩ := hagree c
    rw [(h c).2.2.2.1, Cert.Reference4Ideal.Read.val_main_v87_eq (F := Ideal), e0, e1, e2, e3]
    exact Cert.Ctx.equal16 m c

/-- Every claim of the certificate. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Attn.finite_facts, Cert.Ffn.finite_facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, fun m ρ _ => Cert.Kernel2Ideal.Gen.frame m ρ,
  quiescent_Reference2Ideal, fun m ρ _ => quiescent_Reference2Ideal m ρ trivial,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  (trivial : preserves_Kernel_KernelIdeal), algebraic_KernelIdeal_ReferenceIdeal_pre_finite,
  (trivial : preserves_Kernel2_Kernel2Ideal), algebraic_Kernel2Ideal_Reference2Ideal_pre_finite2,
  (trivial : preserves_Kernel3_Kernel3Ideal), algebraic_Kernel3Ideal_Reference3Ideal,
  (trivial : preserves_Kernel4_Kernel4Ideal), algebraic_Kernel4Ideal_Reference4Ideal⟩

end Cert.Proof

end
